-- ==== Defs.lean ====
def Pre_KernelIdeal (m : (ℓ : Loc Cert.KernelIdeal.nD Cert.KernelIdeal.τ Cert.KernelIdeal.sig) → Buf (Elt Ideal) ℓ) : Prop :=
  True

def Pre_KernelIdeal_means_off_edges [hPre_means_off_edges : Cert.Pre_means_off_edges.Facts] (m : (ℓ : Loc Cert.KernelIdeal.nD Cert.KernelIdeal.τ Cert.KernelIdeal.sig) → Buf (Elt Ideal) ℓ) : Prop :=
  ∀ c : Dev Cert.KernelIdeal.nD,
    (Cert.Pre_means_off_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_means_off_edges [hPre_means_off_edges : Cert.Pre_means_off_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_means_off_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_means_off_edges [hKernelIdeal : Cert.KernelIdeal.Facts] [hPre_means_off_edges : Cert.Pre_means_off_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_means_off_edges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_means_off_edges [hReferenceIdeal : Cert.ReferenceIdeal.Facts] [hPre_means_off_edges : Cert.Pre_means_off_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_means_off_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_means_off_edges [hKernelIdeal : Cert.KernelIdeal.Facts] [hReferenceIdeal : Cert.ReferenceIdeal.Facts] [hPre_means_off_edges : Cert.Pre_means_off_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_means_off_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_means_off_edges : Cert.Pre_means_off_edges.Facts),
    quiescent_KernelIdeal (hKernelIdeal := hKernelIdeal)
    ∧ quiescent_KernelIdeal_pre_means_off_edges (hKernelIdeal := hKernelIdeal) (hPre_means_off_edges := hPre_means_off_edges)
    ∧ quiescent_ReferenceIdeal (hReferenceIdeal := hReferenceIdeal)
    ∧ quiescent_ReferenceIdeal_pre_means_off_edges (hReferenceIdeal := hReferenceIdeal) (hPre_means_off_edges := hPre_means_off_edges)
    ∧ algebraic_KernelIdeal_ReferenceIdeal_pre_means_off_edges (hKernelIdeal := hKernelIdeal) (hReferenceIdeal := hReferenceIdeal) (hPre_means_off_edges := hPre_means_off_edges)
-- ==== Pre_means_off_edges.lean ====
abbrev S64x2048x128 : Shape := ⟨3, ![64, 2048, 128]⟩
abbrev S64x4096x128 : Shape := ⟨3, ![64, 4096, 128]⟩
abbrev S_ : Shape := ⟨0, ![]⟩
abbrev S64x2048 : Shape := ⟨2, ![64, 2048]⟩
abbrev S64x4096 : Shape := ⟨2, ![64, 4096]⟩
abbrev S64x6144 : Shape := ⟨2, ![64, 6144]⟩
abbrev S32 : Shape := ⟨1, ![32]⟩
abbrev S1 : Shape := ⟨1, ![1]⟩
abbrev S33 : Shape := ⟨1, ![33]⟩
abbrev S31 : Shape := ⟨1, ![31]⟩
abbrev S64x6144x1 : Shape := ⟨3, ![64, 6144, 1]⟩
abbrev S1x1x31 : Shape := ⟨3, ![1, 1, 31]⟩
abbrev S64x6144x31 : Shape := ⟨3, ![64, 6144, 31]⟩

class Facts : Prop where
  reducesTo_S64x2048x128_S64x2048_d2 : S64x2048x128.ReducesTo [2] S64x2048
  h_S_ : 0 < S_.numel
  bcast_S_S64x2048 : S_.BroadcastsInDim S64x2048 (![] : Fin 0 → Fin S64x2048.rank)
  reducesTo_S64x4096x128_S64x4096_d2 : S64x4096x128.ReducesTo [2] S64x4096
  bcast_S_S64x4096 : S_.BroadcastsInDim S64x4096 (![] : Fin 0 → Fin S64x4096.rank)
  concatenates_S64x2048_S64x4096_S64x6144_d1 : Shape.Concatenates [S64x2048, S64x4096] S64x6144 1
  reducesTo_S64x6144_S_d0_1 : S64x6144.ReducesTo [0, 1] S_
  bcast_S_S32 : S_.BroadcastsInDim S32 (![] : Fin 0 → Fin S32.rank)
  shapeCasts_S_S1 : S_.ShapeCasts S1
  bcast_S1_S32_0 : S1.BroadcastsInDim S32 (![0] : Fin 1 → Fin S32.rank)
  bcast_S_S1 : S_.BroadcastsInDim S1 (![] : Fin 0 → Fin S1.rank)
  concatenates_S32_S1_S33_d0 : Shape.Concatenates [S32, S1] S33 0
  slices_S33_S31_1 : S33.Slices ![1] S31
  bcast_S64x6144_S64x6144x1_0_1 : S64x6144.BroadcastsInDim S64x6144x1 (![0, 1] : Fin 2 → Fin S64x6144x1.rank)
  bcast_S31_S1x1x31_2 : S31.BroadcastsInDim S1x1x31 (![2] : Fin 1 → Fin S1x1x31.rank)
  bcast_S64x6144x1_S64x6144x31_0_1_2 : S64x6144x1.BroadcastsInDim S64x6144x31 (![0, 1, 2] : Fin 3 → Fin S64x6144x31.rank)
  bcast_S1x1x31_S64x6144x31_0_1_2 : S1x1x31.BroadcastsInDim S64x6144x31 (![0, 1, 2] : Fin 3 → Fin S64x6144x31.rank)
  bcast_S_S64x6144x31 : S_.BroadcastsInDim S64x6144x31 (![] : Fin 0 → Fin S64x6144x31.rank)

variable [Facts]

def fn_linspace {F : FTy → Type} [FloatOps F] (arg0 : FVec F S_ .f32) (arg1 : FVec F S_ .f32) : FVec F S33 .f32 :=
  let v0 : FVec F S_ .f32 := subf arg1 arg0
  let cst : FVec F S_ .f32 := constant S_ .f32 0x42000000#32
  let v1 : FVec F S_ .f32 := Host.divf v0 cst
  let v2 : FVec F S32 .f32 := sitofp .f32 (iotaInDim S32 32 0)
  let cst_0 : FVec F S_ .f32 := constant S_ .f32 0x42000000#32
  let v3 : FVec F S32 .f32 := broadcastInDim S32 ![] bcast_S_S32 cst_0
  let v4 : FVec F S32 .f32 := Host.divf v2 v3
  let v5 : FVec F S1 .f32 := shapeCast S1 arg0 shapeCasts_S_S1
  let cst_1 : FVec F S_ .f32 := constant S_ .f32 0x3F800000#32
  let v6 : FVec F S32 .f32 := broadcastInDim S32 ![] bcast_S_S32 cst_1
  let v7 : FVec F S32 .f32 := subf v6 v4
  let v8 : FVec F S32 .f32 := broadcastInDim S32 ![0] bcast_S1_S32_0 v5
  let v9 : FVec F S32 .f32 := mulf v8 v7
  let v10 : FVec F S1 .f32 := shapeCast S1 arg1 shapeCasts_S_S1
  let v11 : FVec F S32 .f32 := broadcastInDim S32 ![0] bcast_S1_S32_0 v10
  let v12 : FVec F S32 .f32 := mulf v11 v4
  let v13 : FVec F S32 .f32 := addf v9 v12
  let v14 : FVec F S1 .f32 := broadcastInDim S1 ![] bcast_S_S1 arg1
  let v15 : FVec F S33 .f32 := (fun a b => concatenate S33 0 [⟨S32, a⟩, ⟨S1, b⟩] concatenates_S32_S1_S33_d0) v13 v14
  v15

def fn_part1 {F : FTy → Type} [FloatOps F] (main_v13 : IVec S_ 1) (main_v14 : FVec F S64x6144x1 .f32) (main_v15 : FVec F S1x1x31 .f32) : IVec S64x6144x31 1 :=
  let main_v16 : FVec F S64x6144x31 .f32 := broadcastInDim S64x6144x31 ![0, 1, 2] bcast_S64x6144x1_S64x6144x31_0_1_2 main_v14
  let main_v17 : FVec F S64x6144x31 .f32 := broadcastInDim S64x6144x31 ![0, 1, 2] bcast_S1x1x31_S64x6144x31_0_1_2 main_v15
  let main_v18 : IVec S64x6144x31 1 := cmpf .une main_v16 main_v17
  let main_v19 : IVec S64x6144x31 1 := broadcastInDim S64x6144x31 ![] bcast_S_S64x6144x31 main_v13
  let main_v20 : IVec S64x6144x31 1 := ori main_v19 main_v18
  main_v20

def fn {F : FTy → Type} [FloatOps F] (main_arg0 : FVec F S64x2048x128 .f32) (main_arg1 : FVec F S64x4096x128 .f32) : IVec S64x6144x31 1 :=
  let main_cst : FVec F S_ .f32 := constant S_ .f32 0x00000000#32
  let main_v0 : FVec F S64x2048 .f32 := (fun x v => Host.reduceAdd x v reducesTo_S64x2048x128_S64x2048_d2 h_S_) main_arg0 main_cst
  let main_cst_0 : FVec F S_ .f32 := constant S_ .f32 0x43000000#32
  let main_v1 : FVec F S64x2048 .f32 := broadcastInDim S64x2048 ![] bcast_S_S64x2048 main_cst_0
  let main_v2 : FVec F S64x2048 .f32 := Host.divf main_v0 main_v1
  let main_cst_1 : FVec F S_ .f32 := constant S_ .f32 0x00000000#32
  let main_v3 : FVec F S64x4096 .f32 := (fun x v => Host.reduceAdd x v reducesTo_S64x4096x128_S64x4096_d2 h_S_) main_arg1 main_cst_1
  let main_cst_2 : FVec F S_ .f32 := constant S_ .f32 0x43000000#32
  let main_v4 : FVec F S64x4096 .f32 := broadcastInDim S64x4096 ![] bcast_S_S64x4096 main_cst_2
  let main_v5 : FVec F S64x4096 .f32 := Host.divf main_v3 main_v4
  let main_v6 : FVec F S64x6144 .f32 := (fun a b => concatenate S64x6144 1 [⟨S64x2048, a⟩, ⟨S64x4096, b⟩] concatenates_S64x2048_S64x4096_S64x6144_d1) main_v2 main_v5
  let main_cst_3 : FVec F S_ .f32 := constant S_ .f32 0x7F800000#32
  let main_v7 : FVec F S_ .f32 := (fun x v => Host.reduce FloatOps.minimumf x v reducesTo_S64x6144_S_d0_1 h_S_) main_v6 main_cst_3
  let main_cst_4 : FVec F S_ .f32 := constant S_ .f32 0xFF800000#32
  let main_v8 : FVec F S_ .f32 := (fun x v => Host.reduce FloatOps.maximumf x v reducesTo_S64x6144_S_d0_1 h_S_) main_v6 main_cst_4
  let main_v9 : FVec F S33 .f32 := fn_linspace (F := F) main_v7 main_v8
  let main_v10 : FVec F S31 .f32 := (extractStridedSlice S31 ![1] · slices_S33_S31_1) main_v9
  let main_cst_5 : FVec F S_ .f32 := constant S_ .f32 0x7F800000#32
  let main_v11 : FVec F S_ .f32 := (fun x v => Host.reduce FloatOps.minimumf x v reducesTo_S64x6144_S_d0_1 h_S_) main_v6 main_cst_5
  let main_cst_6 : FVec F S_ .f32 := constant S_ .f32 0xFF800000#32
  let main_v12 : FVec F S_ .f32 := (fun x v => Host.reduce FloatOps.maximumf x v reducesTo_S64x6144_S_d0_1 h_S_) main_v6 main_cst_6
  let main_v13 : IVec S_ 1 := cmpf .oeq main_v11 main_v12
  let main_v14 : FVec F S64x6144x1 .f32 := broadcastInDim S64x6144x1 ![0, 1] bcast_S64x6144_S64x6144x1_0_1 main_v6
  let main_v15 : FVec F S1x1x31 .f32 := broadcastInDim S1x1x31 ![2] bcast_S31_S1x1x31_2 main_v10
  fn_part1 (F := F) main_v13 main_v14 main_v15
-- ==== KernelIdeal.lean ====
abbrev S64x2048x128 : Shape := ⟨3, ![64, 2048, 128]⟩
abbrev S64x4096x128 : Shape := ⟨3, ![64, 4096, 128]⟩
abbrev S48x64x128 : Shape := ⟨3, ![48, 64, 128]⟩
abbrev S2x16 : Shape := ⟨2, ![2, 16]⟩
abbrev S64x256x128 : Shape := ⟨3, ![64, 256, 128]⟩
abbrev S64x512x128 : Shape := ⟨3, ![64, 512, 128]⟩
abbrev S4x64x128 : Shape := ⟨3, ![4, 64, 128]⟩
abbrev S1x2 : Shape := ⟨2, ![1, 2]⟩
abbrev S64x256 : Shape := ⟨2, ![64, 256]⟩
abbrev S64x128 : Shape := ⟨2, ![64, 128]⟩
abbrev S1x64x128 : Shape := ⟨3, ![1, 64, 128]⟩
abbrev S1x64x256 : Shape := ⟨3, ![1, 64, 256]⟩
abbrev S1 : Shape := ⟨1, ![1]⟩
abbrev S1x1x1 : Shape := ⟨3, ![1, 1, 1]⟩
abbrev S1x1 : Shape := ⟨2, ![1, 1]⟩
abbrev S64x512 : Shape := ⟨2, ![64, 512]⟩
abbrev S1x64x512 : Shape := ⟨3, ![1, 64, 512]⟩
abbrev S16 : Shape := ⟨1, ![16]⟩
abbrev S1x16 : Shape := ⟨2, ![1, 16]⟩
abbrev S80 : Shape := ⟨1, ![80]⟩
abbrev S_ : Shape := ⟨0, ![]⟩
abbrev S6144 : Shape := ⟨1, ![6144]⟩
abbrev S4096 : Shape := ⟨1, ![4096]⟩
abbrev S128 : Shape := ⟨1, ![128]⟩

abbrev nBuf : Table → Nat
  | .hbm => 18
  | .local .tc .vmem => 7
  | .local .tc .smem => 1
  | .local .scVector .vmem => 6
  | _ => 0

abbrev bufTy : (tb : Table) → Fin (nBuf tb) → BufTy
  | .hbm, ⟨0, _⟩ => ⟨S64x2048x128, .f32⟩
  | .hbm, ⟨1, _⟩ => ⟨S64x4096x128, .f32⟩
  | .hbm, ⟨2, _⟩ => ⟨S48x64x128, .f32⟩
  | .hbm, ⟨3, _⟩ => ⟨S2x16, .f32⟩
  | .hbm, ⟨4, _⟩ => ⟨S80, .f32⟩
  | .hbm, ⟨5, _⟩ => ⟨S_, .f32⟩
  | .hbm, ⟨6, _⟩ => ⟨S80, .f32⟩
  | .hbm, ⟨7, _⟩ => ⟨S80, .i1⟩
  | .hbm, ⟨8, _⟩ => ⟨S_, .f32⟩
  | .hbm, ⟨9, _⟩ => ⟨S80, .f32⟩
  | .hbm, ⟨10, _⟩ => ⟨S80, .f32⟩
  | .hbm, ⟨11, _⟩ => ⟨S80, .f32⟩
  | .hbm, ⟨12, _⟩ => ⟨S80, .f32⟩
  | .hbm, ⟨13, _⟩ => ⟨S_, .f32⟩
  | .hbm, ⟨14, _⟩ => ⟨S_, .f32⟩
  | .hbm, ⟨15, _⟩ => ⟨S80, .f32⟩
  | .hbm, ⟨16, _⟩ => ⟨S80, .f32⟩
  | .hbm, ⟨17, _⟩ => ⟨S6144, .f32⟩
  | .local .tc .vmem, ⟨0, _⟩ => ⟨S64x256x128, .f32⟩
  | .local .tc .vmem, ⟨1, _⟩ => ⟨S64x256x128, .f32⟩
  | .local .tc .vmem, ⟨2, _⟩ => ⟨S64x512x128, .f32⟩
  | .local .tc .vmem, ⟨3, _⟩ => ⟨S64x512x128, .f32⟩
  | .local .tc .vmem, ⟨4, _⟩ => ⟨S4x64x128, .f32⟩
  | .local .tc .vmem, ⟨5, _⟩ => ⟨S4x64x128, .f32⟩
  | .local .tc .vmem, ⟨6, _⟩ => ⟨S2x16, .f32⟩
  | .local .tc .smem, ⟨0, _⟩ => ⟨S1x2, .f32⟩
  | .local .scVector .vmem, ⟨0, _⟩ => ⟨S64x128, .f32⟩
  | .local .scVector .vmem, ⟨1, _⟩ => ⟨S64x128, .f32⟩
  | .local .scVector .vmem, ⟨2, _⟩ => ⟨S2x16, .f32⟩
  | .local .scVector .vmem, ⟨3, _⟩ => ⟨S80, .f32⟩
  | .local .scVector .vmem, ⟨4, _⟩ => ⟨S4096, .f32⟩
  | .local .scVector .vmem, ⟨5, _⟩ => ⟨S128, .f32⟩
  | _, _ => ⟨S64x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v0_0_scv : Ref sig .scVector := ⟨.hbm, 2, rfl⟩
abbrev main_v0_1_scv : Ref sig .scVector := ⟨.hbm, 3, rfl⟩
abbrev main_v8_scv : Ref sig .scVector := ⟨.hbm, 16, rfl⟩
abbrev main_v9_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "log_batch" => some ((Real.log 64 : ℝ) : EReal)
  | _ => none

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) (c0_i32_11 : BitVec 32) : Fin 3 → Nat :=
  let arg0 : BitVec 32 := BitVec.ofNat 32 (i 0).val
  let c2_i32 : BitVec 32 := 2#32
  let c0_i32_6 : BitVec 32 := 0#32
  let v13 : BitVec 1 := Scalar.cmpi .eq c2_i32 c0_i32_6
  let c1_i32 : BitVec 32 := 1#32
  let v14 : BitVec 32 := Scalar.select v13 c1_i32 c2_i32
  let v15 : BitVec 32 := Scalar.remsi arg0 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c2_i32_10 : BitVec 32 := 2#32
  let v25 : BitVec 32 := Scalar.muli v22 c2_i32_10
  let v26 : BitVec 32 := Scalar.addi v25 c0_i32_11
  let v27 : Index := Scalar.indexCast v26
  let c0_12 : Index := 0#32
  let c0_13 : Index := 0#32
  ![v27.toNat, 0, 0]
def k0_cond4 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_cond7 (i : grid0.Coords) : BitVec 1 :=
  let arg0 : BitVec 32 := BitVec.ofNat 32 (i 0).val
  let c15_i32 : BitVec 32 := 15#32
  let v6 : BitVec 1 := Scalar.cmpi .eq arg0 c15_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.subi arg0 c4_i32
  let v19 : BitVec 32 := Scalar.select v0 v17 v18
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.addi v1 c32_i32
  let c48_i32 : BitVec 32 := 48#32
  let v3 : BitVec 1 := Scalar.cmpi .slt v2 c48_i32
  let v8 : BitVec 32 := Scalar.extui v3
  let c0_i32_3 : BitVec 32 := 0#32
  let v9 : BitVec 1 := Scalar.cmpi .ne v8 c0_i32_3
  v9

def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_70 : BitVec 32 := 32#32
  let v97 : BitVec 32 := Scalar.addi v1 c32_i32_70
  let c0_i32_71 : BitVec 32 := 0#32
  let c0_i32_72 : BitVec 32 := 0#32
  ![v97.toNat, 0, 0]
def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v25 : BitVec 32 := Scalar.muli v1 c128_i32
  v25
@[reducible] def k1_t1_loop : Scf.Loop 32 :=
  let c0_i32_14 : BitVec 32 := 0#32
  let c256_i32 : BitVec 32 := 256#32
  let v27 : BitVec 32 := Scalar.addi c0_i32_14 c256_i32
  let c1_i32_15 : BitVec 32 := 1#32
  ⟨c0_i32_14, v27, c1_i32_15⟩
def k1_mult2 (k1_t1 : Fin k1_t1_loop.trips) : BitVec 32 :=
  let c0_i32_14 : BitVec 32 := 0#32
  let c1_i32_15 : BitVec 32 := 1#32
  let arg14 : BitVec 32 := Scf.iv c0_i32_14 c1_i32_15 k1_t1
  let c16_i32_70 : BitVec 32 := 16#32
  let v97 : BitVec 32 := Scalar.muli arg14 c16_i32_70
  v97
def k1_off3 (k1_t1 : Fin k1_t1_loop.trips) : Fin 1 → Nat :=
  let c0_i32_14 : BitVec 32 := 0#32
  let c1_i32_15 : BitVec 32 := 1#32
  let arg14 : BitVec 32 := Scf.iv c0_i32_14 c1_i32_15 k1_t1
  let c16_i32_70 : BitVec 32 := 16#32
  let v97 : BitVec 32 := Scalar.muli arg14 c16_i32_70
  let v98 : BitVec 32 := v97
  let v99 : Index := Scalar.indexCast v98
  ![v99.toNat]
@[reducible] def k1_t2_loop : Scf.Loop 32 :=
  let c0_i32_18 : BitVec 32 := 0#32
  let c64_i32 : BitVec 32 := 64#32
  let v29 : BitVec 32 := Scalar.addi c0_i32_18 c64_i32
  let c1_i32_19 : BitVec 32 := 1#32
  ⟨c0_i32_18, v29, c1_i32_19⟩
def k1_off4 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v97 : Index := Scalar.indexCast arg14
  let c0_70 : Index := 0#32
  ![v97.toNat, 0]

def k1_chk1 (v107 : IVec S16 32) : Prop :=
  (∀ a x, ((![v107] : Fin 1 → IVec S16 32) a x).toNat < S4096.size a)
theorem k1_idx1_inb : ∀ (v107 : IVec S16 32) (k1_hw1 : k1_chk1 v107), ∀ a x, ((![v107] : Fin 1 → IVec S16 32) a x).toNat < S4096.size a := fun v107 k1_hw1 => k1_hw1
def k1_off5 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v108 : Index := Scalar.indexCast arg14
  let c16_73 : Index := 16#32
  ![v108.toNat, 16]

def k1_chk2 (v118 : IVec S16 32) : Prop :=
  (∀ a x, ((![v118] : Fin 1 → IVec S16 32) a x).toNat < S4096.size a)
theorem k1_idx2_inb : ∀ (v118 : IVec S16 32) (k1_hw2 : k1_chk2 v118), ∀ a x, ((![v118] : Fin 1 → IVec S16 32) a x).toNat < S4096.size a := fun v118 k1_hw2 => k1_hw2
def k1_off6 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v119 : Index := Scalar.indexCast arg14
  let c32_76 : Index := 32#32
  ![v119.toNat, 32]

def k1_chk3 (v129 : IVec S16 32) : Prop :=
  (∀ a x, ((![v129] : Fin 1 → IVec S16 32) a x).toNat < S4096.size a)
theorem k1_idx3_inb : ∀ (v129 : IVec S16 32) (k1_hw3 : k1_chk3 v129), ∀ a x, ((![v129] : Fin 1 → IVec S16 32) a x).toNat < S4096.size a := fun v129 k1_hw3 => k1_hw3
def k1_off7 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v130 : Index := Scalar.indexCast arg14
  let c48_79 : Index := 48#32
  ![v130.toNat, 48]

def k1_chk4 (v140 : IVec S16 32) : Prop :=
  (∀ a x, ((![v140] : Fin 1 → IVec S16 32) a x).toNat < S4096.size a)
theorem k1_idx4_inb : ∀ (v140 : IVec S16 32) (k1_hw4 : k1_chk4 v140), ∀ a x, ((![v140] : Fin 1 → IVec S16 32) a x).toNat < S4096.size a := fun v140 k1_hw4 => k1_hw4
def k1_off8 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v141 : Index := Scalar.indexCast arg14
  let c64_82 : Index := 64#32
  ![v141.toNat, 64]

def k1_chk5 (v151 : IVec S16 32) : Prop :=
  (∀ a x, ((![v151] : Fin 1 → IVec S16 32) a x).toNat < S4096.size a)
theorem k1_idx5_inb : ∀ (v151 : IVec S16 32) (k1_hw5 : k1_chk5 v151), ∀ a x, ((![v151] : Fin 1 → IVec S16 32) a x).toNat < S4096.size a := fun v151 k1_hw5 => k1_hw5
def k1_off9 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v152 : Index := Scalar.indexCast arg14
  let c80_85 : Index := 80#32
  ![v152.toNat, 80]

def k1_chk6 (v162 : IVec S16 32) : Prop :=
  (∀ a x, ((![v162] : Fin 1 → IVec S16 32) a x).toNat < S4096.size a)
theorem k1_idx6_inb : ∀ (v162 : IVec S16 32) (k1_hw6 : k1_chk6 v162), ∀ a x, ((![v162] : Fin 1 → IVec S16 32) a x).toNat < S4096.size a := fun v162 k1_hw6 => k1_hw6
def k1_off10 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v163 : Index := Scalar.indexCast arg14
  let c96_87 : Index := 96#32
  ![v163.toNat, 96]

def k1_chk7 (v173 : IVec S16 32) : Prop :=
  (∀ a x, ((![v173] : Fin 1 → IVec S16 32) a x).toNat < S4096.size a)
theorem k1_idx7_inb : ∀ (v173 : IVec S16 32) (k1_hw7 : k1_chk7 v173), ∀ a x, ((![v173] : Fin 1 → IVec S16 32) a x).toNat < S4096.size a := fun v173 k1_hw7 => k1_hw7
def k1_off11 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v174 : Index := Scalar.indexCast arg14
  let c112_89 : Index := 112#32
  ![v174.toNat, 112]

def k1_chk8 (v184 : IVec S16 32) : Prop :=
  (∀ a x, ((![v184] : Fin 1 → IVec S16 32) a x).toNat < S4096.size a)
theorem k1_idx8_inb : ∀ (v184 : IVec S16 32) (k1_hw8 : k1_chk8 v184), ∀ a x, ((![v184] : Fin 1 → IVec S16 32) a x).toNat < S4096.size a := fun v184 k1_hw8 => k1_hw8
@[reducible] def k1_t3_loop : Scf.Loop 32 :=
  let c0_i32_21 : BitVec 32 := 0#32
  let c16_i32 : BitVec 32 := 16#32
  let v31 : BitVec 32 := Scalar.addi c0_i32_21 c16_i32
  let c1_i32_22 : BitVec 32 := 1#32
  ⟨c0_i32_21, v31, c1_i32_22⟩
def k1_off12 (k1_t3 : Fin k1_t3_loop.trips) : Fin 1 → Nat :=
  let c2_i32_70 : BitVec 32 := 2#32
  let c0_i32_21 : BitVec 32 := 0#32
  let c1_i32_22 : BitVec 32 := 1#32
  let arg14 : BitVec 32 := Scf.iv c0_i32_21 c1_i32_22 k1_t3
  let v97 : BitVec 32 := Scalar.muli c2_i32_70 arg14
  let c128_i32_71 : BitVec 32 := 128#32
  let v98 : BitVec 32 := Scalar.muli v97 c128_i32_71
  let c0_i32_72 : BitVec 32 := 0#32
  let v99 : BitVec 32 := Scalar.addi v98 c0_i32_72
  let v100 : Index := Scalar.indexCast v99
  ![v100.toNat]
def k1_off13 (k1_t3 : Fin k1_t3_loop.trips) : Fin 1 → Nat :=
  let c2_i32_73 : BitVec 32 := 2#32
  let c0_i32_21 : BitVec 32 := 0#32
  let c1_i32_22 : BitVec 32 := 1#32
  let arg14 : BitVec 32 := Scf.iv c0_i32_21 c1_i32_22 k1_t3
  let v102 : BitVec 32 := Scalar.muli c2_i32_73 arg14
  let c1_i32_74 : BitVec 32 := 1#32
  let v103 : BitVec 32 := Scalar.addi v102 c1_i32_74
  let c128_i32_75 : BitVec 32 := 128#32
  let v104 : BitVec 32 := Scalar.muli v103 c128_i32_75
  let c0_i32_76 : BitVec 32 := 0#32
  let v105 : BitVec 32 := Scalar.addi v104 c0_i32_76
  let v106 : Index := Scalar.indexCast v105
  ![v106.toNat]

def k1_chk9 (v108 : IVec S16 32) : Prop :=
  (∀ a x, ((![v108] : Fin 1 → IVec S16 32) a x).toNat < S80.size a)
theorem k1_idx9_inb : ∀ (v108 : IVec S16 32) (k1_hw9 : k1_chk9 v108), ∀ a x, ((![v108] : Fin 1 → IVec S16 32) a x).toNat < S80.size a := fun v108 k1_hw9 => k1_hw9

def k1_chk10 (v111 : IVec S16 32) : Prop :=
  (∀ a x, ((![v111] : Fin 1 → IVec S16 32) a x).toNat < S80.size a)
theorem k1_idx10_inb : ∀ (v111 : IVec S16 32) (k1_hw10 : k1_chk10 v111), ∀ a x, ((![v111] : Fin 1 → IVec S16 32) a x).toNat < S80.size a := fun v111 k1_hw10 => k1_hw10
@[reducible] def k1_t4_loop : Scf.Loop 32 :=
  let c0_i32_27 : BitVec 32 := 0#32
  let c16_i32_28 : BitVec 32 := 16#32
  let v39 : BitVec 32 := Scalar.addi c0_i32_27 c16_i32_28
  let c1_i32_29 : BitVec 32 := 1#32
  ⟨c0_i32_27, v39, c1_i32_29⟩
def k1_off14 (k1_t4 : Fin k1_t4_loop.trips) : Fin 1 → Nat :=
  let c2_i32_70 : BitVec 32 := 2#32
  let c0_i32_27 : BitVec 32 := 0#32
  let c1_i32_29 : BitVec 32 := 1#32
  let arg14 : BitVec 32 := Scf.iv c0_i32_27 c1_i32_29 k1_t4
  let v97 : BitVec 32 := Scalar.muli c2_i32_70 arg14
  let c128_i32_71 : BitVec 32 := 128#32
  let v98 : BitVec 32 := Scalar.muli v97 c128_i32_71
  let c16_i32_72 : BitVec 32 := 16#32
  let v99 : BitVec 32 := Scalar.addi v98 c16_i32_72
  let v100 : Index := Scalar.indexCast v99
  ![v100.toNat]
def k1_off15 (k1_t4 : Fin k1_t4_loop.trips) : Fin 1 → Nat :=
  let c2_i32_73 : BitVec 32 := 2#32
  let c0_i32_27 : BitVec 32 := 0#32
  let c1_i32_29 : BitVec 32 := 1#32
  let arg14 : BitVec 32 := Scf.iv c0_i32_27 c1_i32_29 k1_t4
  let v102 : BitVec 32 := Scalar.muli c2_i32_73 arg14
  let c1_i32_74 : BitVec 32 := 1#32
  let v103 : BitVec 32 := Scalar.addi v102 c1_i32_74
  let c128_i32_75 : BitVec 32 := 128#32
  let v104 : BitVec 32 := Scalar.muli v103 c128_i32_75
  let c16_i32_76 : BitVec 32 := 16#32
  let v105 : BitVec 32 := Scalar.addi v104 c16_i32_76
  let v106 : Index := Scalar.indexCast v105
  ![v106.toNat]

def k1_chk11 (v108 : IVec S16 32) : Prop :=
  (∀ a x, ((![v108] : Fin 1 → IVec S16 32) a x).toNat < S80.size a)
theorem k1_idx11_inb : ∀ (v108 : IVec S16 32) (k1_hw11 : k1_chk11 v108), ∀ a x, ((![v108] : Fin 1 → IVec S16 32) a x).toNat < S80.size a := fun v108 k1_hw11 => k1_hw11

def k1_chk12 (v111 : IVec S16 32) : Prop :=
  (∀ a x, ((![v111] : Fin 1 → IVec S16 32) a x).toNat < S80.size a)
theorem k1_idx12_inb : ∀ (v111 : IVec S16 32) (k1_hw12 : k1_chk12 v111), ∀ a x, ((![v111] : Fin 1 → IVec S16 32) a x).toNat < S80.size a := fun v111 k1_hw12 => k1_hw12
@[reducible] def k1_t5_loop : Scf.Loop 32 :=
  let c0_i32_33 : BitVec 32 := 0#32
  let c16_i32_34 : BitVec 32 := 16#32
  let v47 : BitVec 32 := Scalar.addi c0_i32_33 c16_i32_34
  let c1_i32_35 : BitVec 32 := 1#32
  ⟨c0_i32_33, v47, c1_i32_35⟩
def k1_off16 (k1_t5 : Fin k1_t5_loop.trips) : Fin 1 → Nat :=
  let c2_i32_70 : BitVec 32 := 2#32
  let c0_i32_33 : BitVec 32 := 0#32
  let c1_i32_35 : BitVec 32 := 1#32
  let arg14 : BitVec 32 := Scf.iv c0_i32_33 c1_i32_35 k1_t5
  let v97 : BitVec 32 := Scalar.muli c2_i32_70 arg14
  let c128_i32_71 : BitVec 32 := 128#32
  let v98 : BitVec 32 := Scalar.muli v97 c128_i32_71
  let c32_i32_72 : BitVec 32 := 32#32
  let v99 : BitVec 32 := Scalar.addi v98 c32_i32_72
  let v100 : Index := Scalar.indexCast v99
  ![v100.toNat]
def k1_off17 (k1_t5 : Fin k1_t5_loop.trips) : Fin 1 → Nat :=
  let c2_i32_73 : BitVec 32 := 2#32
  let c0_i32_33 : BitVec 32 := 0#32
  let c1_i32_35 : BitVec 32 := 1#32
  let arg14 : BitVec 32 := Scf.iv c0_i32_33 c1_i32_35 k1_t5
  let v102 : BitVec 32 := Scalar.muli c2_i32_73 arg14
  let c1_i32_74 : BitVec 32 := 1#32
  let v103 : BitVec 32 := Scalar.addi v102 c1_i32_74
  let c128_i32_75 : BitVec 32 := 128#32
  let v104 : BitVec 32 := Scalar.muli v103 c128_i32_75
  let c32_i32_76 : BitVec 32 := 32#32
  let v105 : BitVec 32 := Scalar.addi v104 c32_i32_76
  let v106 : Index := Scalar.indexCast v105
  ![v106.toNat]

def k1_chk13 (v108 : IVec S16 32) : Prop :=
  (∀ a x, ((![v108] : Fin 1 → IVec S16 32) a x).toNat < S80.size a)
theorem k1_idx13_inb : ∀ (v108 : IVec S16 32) (k1_hw13 : k1_chk13 v108), ∀ a x, ((![v108] : Fin 1 → IVec S16 32) a x).toNat < S80.size a := fun v108 k1_hw13 => k1_hw13

def k1_chk14 (v111 : IVec S16 32) : Prop :=
  (∀ a x, ((![v111] : Fin 1 → IVec S16 32) a x).toNat < S80.size a)
theorem k1_idx14_inb : ∀ (v111 : IVec S16 32) (k1_hw14 : k1_chk14 v111), ∀ a x, ((![v111] : Fin 1 → IVec S16 32) a x).toNat < S80.size a := fun v111 k1_hw14 => k1_hw14
@[reducible] def k1_t6_loop : Scf.Loop 32 :=
  let c0_i32_39 : BitVec 32 := 0#32
  let c16_i32_40 : BitVec 32 := 16#32
  let v55 : BitVec 32 := Scalar.addi c0_i32_39 c16_i32_40
  let c1_i32_41 : BitVec 32 := 1#32
  ⟨c0_i32_39, v55, c1_i32_41⟩
def k1_off18 (k1_t6 : Fin k1_t6_loop.trips) : Fin 1 → Nat :=
  let c2_i32_70 : BitVec 32 := 2#32
  let c0_i32_39 : BitVec 32 := 0#32
  let c1_i32_41 : BitVec 32 := 1#32
  let arg14 : BitVec 32 := Scf.iv c0_i32_39 c1_i32_41 k1_t6
  let v97 : BitVec 32 := Scalar.muli c2_i32_70 arg14
  let c128_i32_71 : BitVec 32 := 128#32
  let v98 : BitVec 32 := Scalar.muli v97 c128_i32_71
  let c48_i32_72 : BitVec 32 := 48#32
  let v99 : BitVec 32 := Scalar.addi v98 c48_i32_72
  let v100 : Index := Scalar.indexCast v99
  ![v100.toNat]
def k1_off19 (k1_t6 : Fin k1_t6_loop.trips) : Fin 1 → Nat :=
  let c2_i32_73 : BitVec 32 := 2#32
  let c0_i32_39 : BitVec 32 := 0#32
  let c1_i32_41 : BitVec 32 := 1#32
  let arg14 : BitVec 32 := Scf.iv c0_i32_39 c1_i32_41 k1_t6
  let v102 : BitVec 32 := Scalar.muli c2_i32_73 arg14
  let c1_i32_74 : BitVec 32 := 1#32
  let v103 : BitVec 32 := Scalar.addi v102 c1_i32_74
  let c128_i32_75 : BitVec 32 := 128#32
  let v104 : BitVec 32 := Scalar.muli v103 c128_i32_75
  let c48_i32_76 : BitVec 32 := 48#32
  let v105 : BitVec 32 := Scalar.addi v104 c48_i32_76
  let v106 : Index := Scalar.indexCast v105
  ![v106.toNat]

def k1_chk15 (v108 : IVec S16 32) : Prop :=
  (∀ a x, ((![v108] : Fin 1 → IVec S16 32) a x).toNat < S80.size a)
theorem k1_idx15_inb : ∀ (v108 : IVec S16 32) (k1_hw15 : k1_chk15 v108), ∀ a x, ((![v108] : Fin 1 → IVec S16 32) a x).toNat < S80.size a := fun v108 k1_hw15 => k1_hw15

def k1_chk16 (v111 : IVec S16 32) : Prop :=
  (∀ a x, ((![v111] : Fin 1 → IVec S16 32) a x).toNat < S80.size a)
theorem k1_idx16_inb : ∀ (v111 : IVec S16 32) (k1_hw16 : k1_chk16 v111), ∀ a x, ((![v111] : Fin 1 → IVec S16 32) a x).toNat < S80.size a := fun v111 k1_hw16 => k1_hw16
@[reducible] def k1_t7_loop : Scf.Loop 32 :=
  let c0_i32_45 : BitVec 32 := 0#32
  let c16_i32_46 : BitVec 32 := 16#32
  let v63 : BitVec 32 := Scalar.addi c0_i32_45 c16_i32_46
  let c1_i32_47 : BitVec 32 := 1#32
  ⟨c0_i32_45, v63, c1_i32_47⟩
def k1_off20 (k1_t7 : Fin k1_t7_loop.trips) : Fin 1 → Nat :=
  let c2_i32_70 : BitVec 32 := 2#32
  let c0_i32_45 : BitVec 32 := 0#32
  let c1_i32_47 : BitVec 32 := 1#32
  let arg14 : BitVec 32 := Scf.iv c0_i32_45 c1_i32_47 k1_t7
  let v97 : BitVec 32 := Scalar.muli c2_i32_70 arg14
  let c128_i32_71 : BitVec 32 := 128#32
  let v98 : BitVec 32 := Scalar.muli v97 c128_i32_71
  let c64_i32_72 : BitVec 32 := 64#32
  let v99 : BitVec 32 := Scalar.addi v98 c64_i32_72
  let v100 : Index := Scalar.indexCast v99
  ![v100.toNat]
def k1_off21 (k1_t7 : Fin k1_t7_loop.trips) : Fin 1 → Nat :=
  let c2_i32_73 : BitVec 32 := 2#32
  let c0_i32_45 : BitVec 32 := 0#32
  let c1_i32_47 : BitVec 32 := 1#32
  let arg14 : BitVec 32 := Scf.iv c0_i32_45 c1_i32_47 k1_t7
  let v102 : BitVec 32 := Scalar.muli c2_i32_73 arg14
  let c1_i32_74 : BitVec 32 := 1#32
  let v103 : BitVec 32 := Scalar.addi v102 c1_i32_74
  let c128_i32_75 : BitVec 32 := 128#32
  let v104 : BitVec 32 := Scalar.muli v103 c128_i32_75
  let c64_i32_76 : BitVec 32 := 64#32
  let v105 : BitVec 32 := Scalar.addi v104 c64_i32_76
  let v106 : Index := Scalar.indexCast v105
  ![v106.toNat]

def k1_chk17 (v108 : IVec S16 32) : Prop :=
  (∀ a x, ((![v108] : Fin 1 → IVec S16 32) a x).toNat < S80.size a)
theorem k1_idx17_inb : ∀ (v108 : IVec S16 32) (k1_hw17 : k1_chk17 v108), ∀ a x, ((![v108] : Fin 1 → IVec S16 32) a x).toNat < S80.size a := fun v108 k1_hw17 => k1_hw17

def k1_chk18 (v111 : IVec S16 32) : Prop :=
  (∀ a x, ((![v111] : Fin 1 → IVec S16 32) a x).toNat < S80.size a)
theorem k1_idx18_inb : ∀ (v111 : IVec S16 32) (k1_hw18 : k1_chk18 v111), ∀ a x, ((![v111] : Fin 1 → IVec S16 32) a x).toNat < S80.size a := fun v111 k1_hw18 => k1_hw18
@[reducible] def k1_t8_loop : Scf.Loop 32 :=
  let c0_i32_51 : BitVec 32 := 0#32
  let c16_i32_52 : BitVec 32 := 16#32
  let v71 : BitVec 32 := Scalar.addi c0_i32_51 c16_i32_52
  let c1_i32_53 : BitVec 32 := 1#32
  ⟨c0_i32_51, v71, c1_i32_53⟩
def k1_off22 (k1_t8 : Fin k1_t8_loop.trips) : Fin 1 → Nat :=
  let c2_i32_70 : BitVec 32 := 2#32
  let c0_i32_51 : BitVec 32 := 0#32
  let c1_i32_53 : BitVec 32 := 1#32
  let arg14 : BitVec 32 := Scf.iv c0_i32_51 c1_i32_53 k1_t8
  let v97 : BitVec 32 := Scalar.muli c2_i32_70 arg14
  let c128_i32_71 : BitVec 32 := 128#32
  let v98 : BitVec 32 := Scalar.muli v97 c128_i32_71
  let c80_i32 : BitVec 32 := 80#32
  let v99 : BitVec 32 := Scalar.addi v98 c80_i32
  let v100 : Index := Scalar.indexCast v99
  ![v100.toNat]
def k1_off23 (k1_t8 : Fin k1_t8_loop.trips) : Fin 1 → Nat :=
  let c2_i32_72 : BitVec 32 := 2#32
  let c0_i32_51 : BitVec 32 := 0#32
  let c1_i32_53 : BitVec 32 := 1#32
  let arg14 : BitVec 32 := Scf.iv c0_i32_51 c1_i32_53 k1_t8
  let v102 : BitVec 32 := Scalar.muli c2_i32_72 arg14
  let c1_i32_73 : BitVec 32 := 1#32
  let v103 : BitVec 32 := Scalar.addi v102 c1_i32_73
  let c128_i32_74 : BitVec 32 := 128#32
  let v104 : BitVec 32 := Scalar.muli v103 c128_i32_74
  let c80_i32_75 : BitVec 32 := 80#32
  let v105 : BitVec 32 := Scalar.addi v104 c80_i32_75
  let v106 : Index := Scalar.indexCast v105
  ![v106.toNat]

def k1_chk19 (v108 : IVec S16 32) : Prop :=
  (∀ a x, ((![v108] : Fin 1 → IVec S16 32) a x).toNat < S80.size a)
theorem k1_idx19_inb : ∀ (v108 : IVec S16 32) (k1_hw19 : k1_chk19 v108), ∀ a x, ((![v108] : Fin 1 → IVec S16 32) a x).toNat < S80.size a := fun v108 k1_hw19 => k1_hw19

def k1_chk20 (v111 : IVec S16 32) : Prop :=
  (∀ a x, ((![v111] : Fin 1 → IVec S16 32) a x).toNat < S80.size a)
theorem k1_idx20_inb : ∀ (v111 : IVec S16 32) (k1_hw20 : k1_chk20 v111), ∀ a x, ((![v111] : Fin 1 → IVec S16 32) a x).toNat < S80.size a := fun v111 k1_hw20 => k1_hw20
@[reducible] def k1_t9_loop : Scf.Loop 32 :=
  let c0_i32_57 : BitVec 32 := 0#32
  let c16_i32_58 : BitVec 32 := 16#32
  let v79 : BitVec 32 := Scalar.addi c0_i32_57 c16_i32_58
  let c1_i32_59 : BitVec 32 := 1#32
  ⟨c0_i32_57, v79, c1_i32_59⟩
def k1_off24 (k1_t9 : Fin k1_t9_loop.trips) : Fin 1 → Nat :=
  let c2_i32_70 : BitVec 32 := 2#32
  let c0_i32_57 : BitVec 32 := 0#32
  let c1_i32_59 : BitVec 32 := 1#32
  let arg14 : BitVec 32 := Scf.iv c0_i32_57 c1_i32_59 k1_t9
  let v97 : BitVec 32 := Scalar.muli c2_i32_70 arg14
  let c128_i32_71 : BitVec 32 := 128#32
  let v98 : BitVec 32 := Scalar.muli v97 c128_i32_71
  let c96_i32 : BitVec 32 := 96#32
  let v99 : BitVec 32 := Scalar.addi v98 c96_i32
  let v100 : Index := Scalar.indexCast v99
  ![v100.toNat]
def k1_off25 (k1_t9 : Fin k1_t9_loop.trips) : Fin 1 → Nat :=
  let c2_i32_72 : BitVec 32 := 2#32
  let c0_i32_57 : BitVec 32 := 0#32
  let c1_i32_59 : BitVec 32 := 1#32
  let arg14 : BitVec 32 := Scf.iv c0_i32_57 c1_i32_59 k1_t9
  let v102 : BitVec 32 := Scalar.muli c2_i32_72 arg14
  let c1_i32_73 : BitVec 32 := 1#32
  let v103 : BitVec 32 := Scalar.addi v102 c1_i32_73
  let c128_i32_74 : BitVec 32 := 128#32
  let v104 : BitVec 32 := Scalar.muli v103 c128_i32_74
  let c96_i32_75 : BitVec 32 := 96#32
  let v105 : BitVec 32 := Scalar.addi v104 c96_i32_75
  let v106 : Index := Scalar.indexCast v105
  ![v106.toNat]

def k1_chk21 (v108 : IVec S16 32) : Prop :=
  (∀ a x, ((![v108] : Fin 1 → IVec S16 32) a x).toNat < S80.size a)
theorem k1_idx21_inb : ∀ (v108 : IVec S16 32) (k1_hw21 : k1_chk21 v108), ∀ a x, ((![v108] : Fin 1 → IVec S16 32) a x).toNat < S80.size a := fun v108 k1_hw21 => k1_hw21

def k1_chk22 (v111 : IVec S16 32) : Prop :=
  (∀ a x, ((![v111] : Fin 1 → IVec S16 32) a x).toNat < S80.size a)
theorem k1_idx22_inb : ∀ (v111 : IVec S16 32) (k1_hw22 : k1_chk22 v111), ∀ a x, ((![v111] : Fin 1 → IVec S16 32) a x).toNat < S80.size a := fun v111 k1_hw22 => k1_hw22
@[reducible] def k1_t10_loop : Scf.Loop 32 :=
  let c0_i32_63 : BitVec 32 := 0#32
  let c16_i32_64 : BitVec 32 := 16#32
  let v87 : BitVec 32 := Scalar.addi c0_i32_63 c16_i32_64
  let c1_i32_65 : BitVec 32 := 1#32
  ⟨c0_i32_63, v87, c1_i32_65⟩
def k1_off26 (k1_t10 : Fin k1_t10_loop.trips) : Fin 1 → Nat :=
  let c2_i32_70 : BitVec 32 := 2#32
  let c0_i32_63 : BitVec 32 := 0#32
  let c1_i32_65 : BitVec 32 := 1#32
  let arg14 : BitVec 32 := Scf.iv c0_i32_63 c1_i32_65 k1_t10
  let v97 : BitVec 32 := Scalar.muli c2_i32_70 arg14
  let c128_i32_71 : BitVec 32 := 128#32
  let v98 : BitVec 32 := Scalar.muli v97 c128_i32_71
  let c112_i32 : BitVec 32 := 112#32
  let v99 : BitVec 32 := Scalar.addi v98 c112_i32
  let v100 : Index := Scalar.indexCast v99
  ![v100.toNat]
def k1_off27 (k1_t10 : Fin k1_t10_loop.trips) : Fin 1 → Nat :=
  let c2_i32_72 : BitVec 32 := 2#32
  let c0_i32_63 : BitVec 32 := 0#32
  let c1_i32_65 : BitVec 32 := 1#32
  let arg14 : BitVec 32 := Scf.iv c0_i32_63 c1_i32_65 k1_t10
  let v102 : BitVec 32 := Scalar.muli c2_i32_72 arg14
  let c1_i32_73 : BitVec 32 := 1#32
  let v103 : BitVec 32 := Scalar.addi v102 c1_i32_73
  let c128_i32_74 : BitVec 32 := 128#32
  let v104 : BitVec 32 := Scalar.muli v103 c128_i32_74
  let c112_i32_75 : BitVec 32 := 112#32
  let v105 : BitVec 32 := Scalar.addi v104 c112_i32_75
  let v106 : Index := Scalar.indexCast v105
  ![v106.toNat]

def k1_chk23 (v108 : IVec S16 32) : Prop :=
  (∀ a x, ((![v108] : Fin 1 → IVec S16 32) a x).toNat < S80.size a)
theorem k1_idx23_inb : ∀ (v108 : IVec S16 32) (k1_hw23 : k1_chk23 v108), ∀ a x, ((![v108] : Fin 1 → IVec S16 32) a x).toNat < S80.size a := fun v108 k1_hw23 => k1_hw23

def k1_chk24 (v111 : IVec S16 32) : Prop :=
  (∀ a x, ((![v111] : Fin 1 → IVec S16 32) a x).toNat < S80.size a)
theorem k1_idx24_inb : ∀ (v111 : IVec S16 32) (k1_hw24 : k1_chk24 v111), ∀ a x, ((![v111] : Fin 1 → IVec S16 32) a x).toNat < S80.size a := fun v111 k1_hw24 => k1_hw24
def k1_off28 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v25 : BitVec 32 := Scalar.muli v1 c128_i32
  let v26 : BitVec 32 := v25
  ![v26.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.addi v1 c32_i32
  let c48_i32 : BitVec 32 := 48#32
  let v3 : BitVec 1 := Scalar.cmpi .slt v2 c48_i32
  let v95 : BitVec 32 := Scalar.extui v3
  let c0_i32_69 : BitVec 32 := 0#32
  let v96 : BitVec 1 := Scalar.cmpi .ne v95 c0_i32_69
  v96

def k1_off29 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_70 : BitVec 32 := 32#32
  let v97 : BitVec 32 := Scalar.addi v1 c32_i32_70
  let c0_i32_71 : BitVec 32 := 0#32
  let c0_i32_72 : BitVec 32 := 0#32
  ![v97.toNat, 0, 0]
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_75 : BitVec 32 := 32#32
  let v102 : BitVec 32 := Scalar.addi v1 c32_i32_75
  let c128_i32_76 : BitVec 32 := 128#32
  let v103 : BitVec 32 := Scalar.muli v102 c128_i32_76
  v103
@[reducible] def k1_t11_loop : Scf.Loop 32 :=
  let c0_i32_78 : BitVec 32 := 0#32
  let c256_i32_79 : BitVec 32 := 256#32
  let v105 : BitVec 32 := Scalar.addi c0_i32_78 c256_i32_79
  let c1_i32_80 : BitVec 32 := 1#32
  ⟨c0_i32_78, v105, c1_i32_80⟩
def k1_mult4 (k1_t11 : Fin k1_t11_loop.trips) : BitVec 32 :=
  let c0_i32_78 : BitVec 32 := 0#32
  let c1_i32_80 : BitVec 32 := 1#32
  let arg14 : BitVec 32 := Scf.iv c0_i32_78 c1_i32_80 k1_t11
  let c16_i32_143 : BitVec 32 := 16#32
  let v173 : BitVec 32 := Scalar.muli arg14 c16_i32_143
  v173
def k1_off30 (k1_t11 : Fin k1_t11_loop.trips) : Fin 1 → Nat :=
  let c0_i32_78 : BitVec 32 := 0#32
  let c1_i32_80 : BitVec 32 := 1#32
  let arg14 : BitVec 32 := Scf.iv c0_i32_78 c1_i32_80 k1_t11
  let c16_i32_143 : BitVec 32 := 16#32
  let v173 : BitVec 32 := Scalar.muli arg14 c16_i32_143
  let v174 : BitVec 32 := v173
  let v175 : Index := Scalar.indexCast v174
  ![v175.toNat]
@[reducible] def k1_t12_loop : Scf.Loop 32 :=
  let c0_i32_83 : BitVec 32 := 0#32
  let c64_i32_84 : BitVec 32 := 64#32
  let v107 : BitVec 32 := Scalar.addi c0_i32_83 c64_i32_84
  let c1_i32_85 : BitVec 32 := 1#32
  ⟨c0_i32_83, v107, c1_i32_85⟩
def k1_off31 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v173 : Index := Scalar.indexCast arg14
  let c0_143 : Index := 0#32
  ![v173.toNat, 0]

def k1_chk25 (i : grid1.Coords) (v183 : IVec S16 32) : Prop :=
  (∀ (k1_h2 : k1_cond2 i = 1#1), ∀ a x, ((![v183] : Fin 1 → IVec S16 32) a x).toNat < S4096.size a)
theorem k1_idx25_inb : ∀ (i : grid1.Coords) (v183 : IVec S16 32) (k1_hw25 : k1_chk25 i v183), ∀ (k1_h2 : k1_cond2 i = 1#1), ∀ a x, ((![v183] : Fin 1 → IVec S16 32) a x).toNat < S4096.size a := fun i v183 k1_hw25 k1_h2 => k1_hw25 k1_h2
def k1_off32 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v184 : Index := Scalar.indexCast arg14
  let c16_146 : Index := 16#32
  ![v184.toNat, 16]

def k1_chk26 (i : grid1.Coords) (v194 : IVec S16 32) : Prop :=
  (∀ (k1_h2 : k1_cond2 i = 1#1), ∀ a x, ((![v194] : Fin 1 → IVec S16 32) a x).toNat < S4096.size a)
theorem k1_idx26_inb : ∀ (i : grid1.Coords) (v194 : IVec S16 32) (k1_hw26 : k1_chk26 i v194), ∀ (k1_h2 : k1_cond2 i = 1#1), ∀ a x, ((![v194] : Fin 1 → IVec S16 32) a x).toNat < S4096.size a := fun i v194 k1_hw26 k1_h2 => k1_hw26 k1_h2
def k1_off33 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v195 : Index := Scalar.indexCast arg14
  let c32_149 : Index := 32#32
  ![v195.toNat, 32]

def k1_chk27 (i : grid1.Coords) (v205 : IVec S16 32) : Prop :=
  (∀ (k1_h2 : k1_cond2 i = 1#1), ∀ a x, ((![v205] : Fin 1 → IVec S16 32) a x).toNat < S4096.size a)
theorem k1_idx27_inb : ∀ (i : grid1.Coords) (v205 : IVec S16 32) (k1_hw27 : k1_chk27 i v205), ∀ (k1_h2 : k1_cond2 i = 1#1), ∀ a x, ((![v205] : Fin 1 → IVec S16 32) a x).toNat < S4096.size a := fun i v205 k1_hw27 k1_h2 => k1_hw27 k1_h2
def k1_off34 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v206 : Index := Scalar.indexCast arg14
  let c48_152 : Index := 48#32
  ![v206.toNat, 48]

def k1_chk28 (i : grid1.Coords) (v216 : IVec S16 32) : Prop :=
  (∀ (k1_h2 : k1_cond2 i = 1#1), ∀ a x, ((![v216] : Fin 1 → IVec S16 32) a x).toNat < S4096.size a)
theorem k1_idx28_inb : ∀ (i : grid1.Coords) (v216 : IVec S16 32) (k1_hw28 : k1_chk28 i v216), ∀ (k1_h2 : k1_cond2 i = 1#1), ∀ a x, ((![v216] : Fin 1 → IVec S16 32) a x).toNat < S4096.size a := fun i v216 k1_hw28 k1_h2 => k1_hw28 k1_h2
def k1_off35 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v217 : Index := Scalar.indexCast arg14
  let c64_155 : Index := 64#32
  ![v217.toNat, 64]

def k1_chk29 (i : grid1.Coords) (v227 : IVec S16 32) : Prop :=
  (∀ (k1_h2 : k1_cond2 i = 1#1), ∀ a x, ((![v227] : Fin 1 → IVec S16 32) a x).toNat < S4096.size a)
theorem k1_idx29_inb : ∀ (i : grid1.Coords) (v227 : IVec S16 32) (k1_hw29 : k1_chk29 i v227), ∀ (k1_h2 : k1_cond2 i = 1#1), ∀ a x, ((![v227] : Fin 1 → IVec S16 32) a x).toNat < S4096.size a := fun i v227 k1_hw29 k1_h2 => k1_hw29 k1_h2
def k1_off36 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v228 : Index := Scalar.indexCast arg14
  let c80_158 : Index := 80#32
  ![v228.toNat, 80]

def k1_chk30 (i : grid1.Coords) (v238 : IVec S16 32) : Prop :=
  (∀ (k1_h2 : k1_cond2 i = 1#1), ∀ a x, ((![v238] : Fin 1 → IVec S16 32) a x).toNat < S4096.size a)
theorem k1_idx30_inb : ∀ (i : grid1.Coords) (v238 : IVec S16 32) (k1_hw30 : k1_chk30 i v238), ∀ (k1_h2 : k1_cond2 i = 1#1), ∀ a x, ((![v238] : Fin 1 → IVec S16 32) a x).toNat < S4096.size a := fun i v238 k1_hw30 k1_h2 => k1_hw30 k1_h2
def k1_off37 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v239 : Index := Scalar.indexCast arg14
  let c96_160 : Index := 96#32
  ![v239.toNat, 96]

def k1_chk31 (i : grid1.Coords) (v249 : IVec S16 32) : Prop :=
  (∀ (k1_h2 : k1_cond2 i = 1#1), ∀ a x, ((![v249] : Fin 1 → IVec S16 32) a x).toNat < S4096.size a)
theorem k1_idx31_inb : ∀ (i : grid1.Coords) (v249 : IVec S16 32) (k1_hw31 : k1_chk31 i v249), ∀ (k1_h2 : k1_cond2 i = 1#1), ∀ a x, ((![v249] : Fin 1 → IVec S16 32) a x).toNat < S4096.size a := fun i v249 k1_hw31 k1_h2 => k1_hw31 k1_h2
def k1_off38 (k1_t12 : Fin k1_t12_loop.trips) : Fin 2 → Nat :=
  let c0_i32_83 : BitVec 32 := 0#32
  let c1_i32_85 : BitVec 32 := 1#32
  let arg14 : BitVec 32 := Scf.iv c0_i32_83 c1_i32_85 k1_t12
  let v250 : Index := Scalar.indexCast arg14
  let c112_162 : Index := 112#32
  ![v250.toNat, 112]

def k1_chk32 (i : grid1.Coords) (v260 : IVec S16 32) : Prop :=
  (∀ (k1_h2 : k1_cond2 i = 1#1), ∀ a x, ((![v260] : Fin 1 → IVec S16 32) a x).toNat < S4096.size a)
theorem k1_idx32_inb : ∀ (i : grid1.Coords) (v260 : IVec S16 32) (k1_hw32 : k1_chk32 i v260), ∀ (k1_h2 : k1_cond2 i = 1#1), ∀ a x, ((![v260] : Fin 1 → IVec S16 32) a x).toNat < S4096.size a := fun i v260 k1_hw32 k1_h2 => k1_hw32 k1_h2
@[reducible] def k1_t13_loop : Scf.Loop 32 :=
  let c0_i32_87 : BitVec 32 := 0#32
  let c16_i32_88 : BitVec 32 := 16#32
  let v109 : BitVec 32 := Scalar.addi c0_i32_87 c16_i32_88
  let c1_i32_89 : BitVec 32 := 1#32
  ⟨c0_i32_87, v109, c1_i32_89⟩
def k1_off39 (k1_t13 : Fin k1_t13_loop.trips) : Fin 1 → Nat :=
  let c2_i32_143 : BitVec 32 := 2#32
  let c0_i32_87 : BitVec 32 := 0#32
  let c1_i32_89 : BitVec 32 := 1#32
  let arg14 : BitVec 32 := Scf.iv c0_i32_87 c1_i32_89 k1_t13
  let v173 : BitVec 32 := Scalar.muli c2_i32_143 arg14
  let c128_i32_144 : BitVec 32 := 128#32
  let v174 : BitVec 32 := Scalar.muli v173 c128_i32_144
  let c0_i32_145 : BitVec 32 := 0#32
  let v175 : BitVec 32 := Scalar.addi v174 c0_i32_145
  let v176 : Index := Scalar.indexCast v175
  ![v176.toNat]
def k1_off40 (k1_t13 : Fin k1_t13_loop.trips) : Fin 1 → Nat :=
  let c2_i32_146 : BitVec 32 := 2#32
  let c0_i32_87 : BitVec 32 := 0#32
  let c1_i32_89 : BitVec 32 := 1#32
  let arg14 : BitVec 32 := Scf.iv c0_i32_87 c1_i32_89 k1_t13
  let v178 : BitVec 32 := Scalar.muli c2_i32_146 arg14
  let c1_i32_147 : BitVec 32 := 1#32
  let v179 : BitVec 32 := Scalar.addi v178 c1_i32_147
  let c128_i32_148 : BitVec 32 := 128#32
  let v180 : BitVec 32 := Scalar.muli v179 c128_i32_148
  let c0_i32_149 : BitVec 32 := 0#32
  let v181 : BitVec 32 := Scalar.addi v180 c0_i32_149
  let v182 : Index := Scalar.indexCast v181
  ![v182.toNat]

def k1_chk33 (i : grid1.Coords) (v184 : IVec S16 32) : Prop :=
  (∀ (k1_h2 : k1_cond2 i = 1#1), ∀ a x, ((![v184] : Fin 1 → IVec S16 32) a x).toNat < S80.size a)
theorem k1_idx33_inb : ∀ (i : grid1.Coords) (v184 : IVec S16 32) (k1_hw33 : k1_chk33 i v184), ∀ (k1_h2 : k1_cond2 i = 1#1), ∀ a x, ((![v184] : Fin 1 → IVec S16 32) a x).toNat < S80.size a := fun i v184 k1_hw33 k1_h2 => k1_hw33 k1_h2

def k1_chk34 (i : grid1.Coords) (v187 : IVec S16 32) : Prop :=
  (∀ (k1_h2 : k1_cond2 i = 1#1), ∀ a x, ((![v187] : Fin 1 → IVec S16 32) a x).toNat < S80.size a)
theorem k1_idx34_inb : ∀ (i : grid1.Coords) (v187 : IVec S16 32) (k1_hw34 : k1_chk34 i v187), ∀ (k1_h2 : k1_cond2 i = 1#1), ∀ a x, ((![v187] : Fin 1 → IVec S16 32) a x).toNat < S80.size a := fun i v187 k1_hw34 k1_h2 => k1_hw34 k1_h2
@[reducible] def k1_t14_loop : Scf.Loop 32 :=
  let c0_i32_94 : BitVec 32 := 0#32
  let c16_i32_95 : BitVec 32 := 16#32
  let v117 : BitVec 32 := Scalar.addi c0_i32_94 c16_i32_95
  let c1_i32_96 : BitVec 32 := 1#32
  ⟨c0_i32_94, v117, c1_i32_96⟩
def k1_off41 (k1_t14 : Fin k1_t14_loop.trips) : Fin 1 → Nat :=
  let c2_i32_143 : BitVec 32 := 2#32
  let c0_i32_94 : BitVec 32 := 0#32
  let c1_i32_96 : BitVec 32 := 1#32
  let arg14 : BitVec 32 := Scf.iv c0_i32_94 c1_i32_96 k1_t14
  let v173 : BitVec 32 := Scalar.muli c2_i32_143 arg14
  let c128_i32_144 : BitVec 32 := 128#32
  let v174 : BitVec 32 := Scalar.muli v173 c128_i32_144
  let c16_i32_145 : BitVec 32 := 16#32
  let v175 : BitVec 32 := Scalar.addi v174 c16_i32_145
  let v176 : Index := Scalar.indexCast v175
  ![v176.toNat]
def k1_off42 (k1_t14 : Fin k1_t14_loop.trips) : Fin 1 → Nat :=
  let c2_i32_146 : BitVec 32 := 2#32
  let c0_i32_94 : BitVec 32 := 0#32
  let c1_i32_96 : BitVec 32 := 1#32
  let arg14 : BitVec 32 := Scf.iv c0_i32_94 c1_i32_96 k1_t14
  let v178 : BitVec 32 := Scalar.muli c2_i32_146 arg14
  let c1_i32_147 : BitVec 32 := 1#32
  let v179 : BitVec 32 := Scalar.addi v178 c1_i32_147
  let c128_i32_148 : BitVec 32 := 128#32
  let v180 : BitVec 32 := Scalar.muli v179 c128_i32_148
  let c16_i32_149 : BitVec 32 := 16#32
  let v181 : BitVec 32 := Scalar.addi v180 c16_i32_149
  let v182 : Index := Scalar.indexCast v181
  ![v182.toNat]

def k1_chk35 (i : grid1.Coords) (v184 : IVec S16 32) : Prop :=
  (∀ (k1_h2 : k1_cond2 i = 1#1), ∀ a x, ((![v184] : Fin 1 → IVec S16 32) a x).toNat < S80.size a)
theorem k1_idx35_inb : ∀ (i : grid1.Coords) (v184 : IVec S16 32) (k1_hw35 : k1_chk35 i v184), ∀ (k1_h2 : k1_cond2 i = 1#1), ∀ a x, ((![v184] : Fin 1 → IVec S16 32) a x).toNat < S80.size a := fun i v184 k1_hw35 k1_h2 => k1_hw35 k1_h2

def k1_chk36 (i : grid1.Coords) (v187 : IVec S16 32) : Prop :=
  (∀ (k1_h2 : k1_cond2 i = 1#1), ∀ a x, ((![v187] : Fin 1 → IVec S16 32) a x).toNat < S80.size a)
theorem k1_idx36_inb : ∀ (i : grid1.Coords) (v187 : IVec S16 32) (k1_hw36 : k1_chk36 i v187), ∀ (k1_h2 : k1_cond2 i = 1#1), ∀ a x, ((![v187] : Fin 1 → IVec S16 32) a x).toNat < S80.size a := fun i v187 k1_hw36 k1_h2 => k1_hw36 k1_h2
@[reducible] def k1_t15_loop : Scf.Loop 32 :=
  let c0_i32_101 : BitVec 32 := 0#32
  let c16_i32_102 : BitVec 32 := 16#32
  let v125 : BitVec 32 := Scalar.addi c0_i32_101 c16_i32_102
  let c1_i32_103 : BitVec 32 := 1#32
  ⟨c0_i32_101, v125, c1_i32_103⟩
def k1_off43 (k1_t15 : Fin k1_t15_loop.trips) : Fin 1 → Nat :=
  let c2_i32_143 : BitVec 32 := 2#32
  let c0_i32_101 : BitVec 32 := 0#32
  let c1_i32_103 : BitVec 32 := 1#32
  let arg14 : BitVec 32 := Scf.iv c0_i32_101 c1_i32_103 k1_t15
  let v173 : BitVec 32 := Scalar.muli c2_i32_143 arg14
  let c128_i32_144 : BitVec 32 := 128#32
  let v174 : BitVec 32 := Scalar.muli v173 c128_i32_144
  let c32_i32_145 : BitVec 32 := 32#32
  let v175 : BitVec 32 := Scalar.addi v174 c32_i32_145
  let v176 : Index := Scalar.indexCast v175
  ![v176.toNat]
def k1_off44 (k1_t15 : Fin k1_t15_loop.trips) : Fin 1 → Nat :=
  let c2_i32_146 : BitVec 32 := 2#32
  let c0_i32_101 : BitVec 32 := 0#32
  let c1_i32_103 : BitVec 32 := 1#32
  let arg14 : BitVec 32 := Scf.iv c0_i32_101 c1_i32_103 k1_t15
  let v178 : BitVec 32 := Scalar.muli c2_i32_146 arg14
  let c1_i32_147 : BitVec 32 := 1#32
  let v179 : BitVec 32 := Scalar.addi v178 c1_i32_147
  let c128_i32_148 : BitVec 32 := 128#32
  let v180 : BitVec 32 := Scalar.muli v179 c128_i32_148
  let c32_i32_149 : BitVec 32 := 32#32
  let v181 : BitVec 32 := Scalar.addi v180 c32_i32_149
  let v182 : Index := Scalar.indexCast v181
  ![v182.toNat]

def k1_chk37 (i : grid1.Coords) (v184 : IVec S16 32) : Prop :=
  (∀ (k1_h2 : k1_cond2 i = 1#1), ∀ a x, ((![v184] : Fin 1 → IVec S16 32) a x).toNat < S80.size a)
theorem k1_idx37_inb : ∀ (i : grid1.Coords) (v184 : IVec S16 32) (k1_hw37 : k1_chk37 i v184), ∀ (k1_h2 : k1_cond2 i = 1#1), ∀ a x, ((![v184] : Fin 1 → IVec S16 32) a x).toNat < S80.size a := fun i v184 k1_hw37 k1_h2 => k1_hw37 k1_h2

def k1_chk38 (i : grid1.Coords) (v187 : IVec S16 32) : Prop :=
  (∀ (k1_h2 : k1_cond2 i = 1#1), ∀ a x, ((![v187] : Fin 1 → IVec S16 32) a x).toNat < S80.size a)
theorem k1_idx38_inb : ∀ (i : grid1.Coords) (v187 : IVec S16 32) (k1_hw38 : k1_chk38 i v187), ∀ (k1_h2 : k1_cond2 i = 1#1), ∀ a x, ((![v187] : Fin 1 → IVec S16 32) a x).toNat < S80.size a := fun i v187 k1_hw38 k1_h2 => k1_hw38 k1_h2
@[reducible] def k1_t16_loop : Scf.Loop 32 :=
  let c0_i32_108 : BitVec 32 := 0#32
  let c16_i32_109 : BitVec 32 := 16#32
  let v133 : BitVec 32 := Scalar.addi c0_i32_108 c16_i32_109
  let c1_i32_110 : BitVec 32 := 1#32
  ⟨c0_i32_108, v133, c1_i32_110⟩
def k1_off45 (k1_t16 : Fin k1_t16_loop.trips) : Fin 1 → Nat :=
  let c2_i32_143 : BitVec 32 := 2#32
  let c0_i32_108 : BitVec 32 := 0#32
  let c1_i32_110 : BitVec 32 := 1#32
  let arg14 : BitVec 32 := Scf.iv c0_i32_108 c1_i32_110 k1_t16
  let v173 : BitVec 32 := Scalar.muli c2_i32_143 arg14
  let c128_i32_144 : BitVec 32 := 128#32
  let v174 : BitVec 32 := Scalar.muli v173 c128_i32_144
  let c48_i32_145 : BitVec 32 := 48#32
  let v175 : BitVec 32 := Scalar.addi v174 c48_i32_145
  let v176 : Index := Scalar.indexCast v175
  ![v176.toNat]
def k1_off46 (k1_t16 : Fin k1_t16_loop.trips) : Fin 1 → Nat :=
  let c2_i32_146 : BitVec 32 := 2#32
  let c0_i32_108 : BitVec 32 := 0#32
  let c1_i32_110 : BitVec 32 := 1#32
  let arg14 : BitVec 32 := Scf.iv c0_i32_108 c1_i32_110 k1_t16
  let v178 : BitVec 32 := Scalar.muli c2_i32_146 arg14
  let c1_i32_147 : BitVec 32 := 1#32
  let v179 : BitVec 32 := Scalar.addi v178 c1_i32_147
  let c128_i32_148 : BitVec 32 := 128#32
  let v180 : BitVec 32 := Scalar.muli v179 c128_i32_148
  let c48_i32_149 : BitVec 32 := 48#32
  let v181 : BitVec 32 := Scalar.addi v180 c48_i32_149
  let v182 : Index := Scalar.indexCast v181
  ![v182.toNat]

def k1_chk39 (i : grid1.Coords) (v184 : IVec S16 32) : Prop :=
  (∀ (k1_h2 : k1_cond2 i = 1#1), ∀ a x, ((![v184] : Fin 1 → IVec S16 32) a x).toNat < S80.size a)
theorem k1_idx39_inb : ∀ (i : grid1.Coords) (v184 : IVec S16 32) (k1_hw39 : k1_chk39 i v184), ∀ (k1_h2 : k1_cond2 i = 1#1), ∀ a x, ((![v184] : Fin 1 → IVec S16 32) a x).toNat < S80.size a := fun i v184 k1_hw39 k1_h2 => k1_hw39 k1_h2

def k1_chk40 (i : grid1.Coords) (v187 : IVec S16 32) : Prop :=
  (∀ (k1_h2 : k1_cond2 i = 1#1), ∀ a x, ((![v187] : Fin 1 → IVec S16 32) a x).toNat < S80.size a)
theorem k1_idx40_inb : ∀ (i : grid1.Coords) (v187 : IVec S16 32) (k1_hw40 : k1_chk40 i v187), ∀ (k1_h2 : k1_cond2 i = 1#1), ∀ a x, ((![v187] : Fin 1 → IVec S16 32) a x).toNat < S80.size a := fun i v187 k1_hw40 k1_h2 => k1_hw40 k1_h2
@[reducible] def k1_t17_loop : Scf.Loop 32 :=
  let c0_i32_115 : BitVec 32 := 0#32
  let c16_i32_116 : BitVec 32 := 16#32
  let v141 : BitVec 32 := Scalar.addi c0_i32_115 c16_i32_116
  let c1_i32_117 : BitVec 32 := 1#32
  ⟨c0_i32_115, v141, c1_i32_117⟩
def k1_off47 (k1_t17 : Fin k1_t17_loop.trips) : Fin 1 → Nat :=
  let c2_i32_143 : BitVec 32 := 2#32
  let c0_i32_115 : BitVec 32 := 0#32
  let c1_i32_117 : BitVec 32 := 1#32
  let arg14 : BitVec 32 := Scf.iv c0_i32_115 c1_i32_117 k1_t17
  let v173 : BitVec 32 := Scalar.muli c2_i32_143 arg14
  let c128_i32_144 : BitVec 32 := 128#32
  let v174 : BitVec 32 := Scalar.muli v173 c128_i32_144
  let c64_i32_145 : BitVec 32 := 64#32
  let v175 : BitVec 32 := Scalar.addi v174 c64_i32_145
  let v176 : Index := Scalar.indexCast v175
  ![v176.toNat]
def k1_off48 (k1_t17 : Fin k1_t17_loop.trips) : Fin 1 → Nat :=
  let c2_i32_146 : BitVec 32 := 2#32
  let c0_i32_115 : BitVec 32 := 0#32
  let c1_i32_117 : BitVec 32 := 1#32
  let arg14 : BitVec 32 := Scf.iv c0_i32_115 c1_i32_117 k1_t17
  let v178 : BitVec 32 := Scalar.muli c2_i32_146 arg14
  let c1_i32_147 : BitVec 32 := 1#32
  let v179 : BitVec 32 := Scalar.addi v178 c1_i32_147
  let c128_i32_148 : BitVec 32 := 128#32
  let v180 : BitVec 32 := Scalar.muli v179 c128_i32_148
  let c64_i32_149 : BitVec 32 := 64#32
  let v181 : BitVec 32 := Scalar.addi v180 c64_i32_149
  let v182 : Index := Scalar.indexCast v181
  ![v182.toNat]

def k1_chk41 (i : grid1.Coords) (v184 : IVec S16 32) : Prop :=
  (∀ (k1_h2 : k1_cond2 i = 1#1), ∀ a x, ((![v184] : Fin 1 → IVec S16 32) a x).toNat < S80.size a)
theorem k1_idx41_inb : ∀ (i : grid1.Coords) (v184 : IVec S16 32) (k1_hw41 : k1_chk41 i v184), ∀ (k1_h2 : k1_cond2 i = 1#1), ∀ a x, ((![v184] : Fin 1 → IVec S16 32) a x).toNat < S80.size a := fun i v184 k1_hw41 k1_h2 => k1_hw41 k1_h2

def k1_chk42 (i : grid1.Coords) (v187 : IVec S16 32) : Prop :=
  (∀ (k1_h2 : k1_cond2 i = 1#1), ∀ a x, ((![v187] : Fin 1 → IVec S16 32) a x).toNat < S80.size a)
theorem k1_idx42_inb : ∀ (i : grid1.Coords) (v187 : IVec S16 32) (k1_hw42 : k1_chk42 i v187), ∀ (k1_h2 : k1_cond2 i = 1#1), ∀ a x, ((![v187] : Fin 1 → IVec S16 32) a x).toNat < S80.size a := fun i v187 k1_hw42 k1_h2 => k1_hw42 k1_h2
@[reducible] def k1_t18_loop : Scf.Loop 32 :=
  let c0_i32_122 : BitVec 32 := 0#32
  let c16_i32_123 : BitVec 32 := 16#32
  let v149 : BitVec 32 := Scalar.addi c0_i32_122 c16_i32_123
  let c1_i32_124 : BitVec 32 := 1#32
  ⟨c0_i32_122, v149, c1_i32_124⟩
def k1_off49 (k1_t18 : Fin k1_t18_loop.trips) : Fin 1 → Nat :=
  let c2_i32_143 : BitVec 32 := 2#32
  let c0_i32_122 : BitVec 32 := 0#32
  let c1_i32_124 : BitVec 32 := 1#32
  let arg14 : BitVec 32 := Scf.iv c0_i32_122 c1_i32_124 k1_t18
  let v173 : BitVec 32 := Scalar.muli c2_i32_143 arg14
  let c128_i32_144 : BitVec 32 := 128#32
  let v174 : BitVec 32 := Scalar.muli v173 c128_i32_144
  let c80_i32 : BitVec 32 := 80#32
  let v175 : BitVec 32 := Scalar.addi v174 c80_i32
  let v176 : Index := Scalar.indexCast v175
  ![v176.toNat]
def k1_off50 (k1_t18 : Fin k1_t18_loop.trips) : Fin 1 → Nat :=
  let c2_i32_145 : BitVec 32 := 2#32
  let c0_i32_122 : BitVec 32 := 0#32
  let c1_i32_124 : BitVec 32 := 1#32
  let arg14 : BitVec 32 := Scf.iv c0_i32_122 c1_i32_124 k1_t18
  let v178 : BitVec 32 := Scalar.muli c2_i32_145 arg14
  let c1_i32_146 : BitVec 32 := 1#32
  let v179 : BitVec 32 := Scalar.addi v178 c1_i32_146
  let c128_i32_147 : BitVec 32 := 128#32
  let v180 : BitVec 32 := Scalar.muli v179 c128_i32_147
  let c80_i32_148 : BitVec 32 := 80#32
  let v181 : BitVec 32 := Scalar.addi v180 c80_i32_148
  let v182 : Index := Scalar.indexCast v181
  ![v182.toNat]

def k1_chk43 (i : grid1.Coords) (v184 : IVec S16 32) : Prop :=
  (∀ (k1_h2 : k1_cond2 i = 1#1), ∀ a x, ((![v184] : Fin 1 → IVec S16 32) a x).toNat < S80.size a)
theorem k1_idx43_inb : ∀ (i : grid1.Coords) (v184 : IVec S16 32) (k1_hw43 : k1_chk43 i v184), ∀ (k1_h2 : k1_cond2 i = 1#1), ∀ a x, ((![v184] : Fin 1 → IVec S16 32) a x).toNat < S80.size a := fun i v184 k1_hw43 k1_h2 => k1_hw43 k1_h2

def k1_chk44 (i : grid1.Coords) (v187 : IVec S16 32) : Prop :=
  (∀ (k1_h2 : k1_cond2 i = 1#1), ∀ a x, ((![v187] : Fin 1 → IVec S16 32) a x).toNat < S80.size a)
theorem k1_idx44_inb : ∀ (i : grid1.Coords) (v187 : IVec S16 32) (k1_hw44 : k1_chk44 i v187), ∀ (k1_h2 : k1_cond2 i = 1#1), ∀ a x, ((![v187] : Fin 1 → IVec S16 32) a x).toNat < S80.size a := fun i v187 k1_hw44 k1_h2 => k1_hw44 k1_h2
@[reducible] def k1_t19_loop : Scf.Loop 32 :=
  let c0_i32_129 : BitVec 32 := 0#32
  let c16_i32_130 : BitVec 32 := 16#32
  let v157 : BitVec 32 := Scalar.addi c0_i32_129 c16_i32_130
  let c1_i32_131 : BitVec 32 := 1#32
  ⟨c0_i32_129, v157, c1_i32_131⟩
def k1_off51 (k1_t19 : Fin k1_t19_loop.trips) : Fin 1 → Nat :=
  let c2_i32_143 : BitVec 32 := 2#32
  let c0_i32_129 : BitVec 32 := 0#32
  let c1_i32_131 : BitVec 32 := 1#32
  let arg14 : BitVec 32 := Scf.iv c0_i32_129 c1_i32_131 k1_t19
  let v173 : BitVec 32 := Scalar.muli c2_i32_143 arg14
  let c128_i32_144 : BitVec 32 := 128#32
  let v174 : BitVec 32 := Scalar.muli v173 c128_i32_144
  let c96_i32 : BitVec 32 := 96#32
  let v175 : BitVec 32 := Scalar.addi v174 c96_i32
  let v176 : Index := Scalar.indexCast v175
  ![v176.toNat]
def k1_off52 (k1_t19 : Fin k1_t19_loop.trips) : Fin 1 → Nat :=
  let c2_i32_145 : BitVec 32 := 2#32
  let c0_i32_129 : BitVec 32 := 0#32
  let c1_i32_131 : BitVec 32 := 1#32
  let arg14 : BitVec 32 := Scf.iv c0_i32_129 c1_i32_131 k1_t19
  let v178 : BitVec 32 := Scalar.muli c2_i32_145 arg14
  let c1_i32_146 : BitVec 32 := 1#32
  let v179 : BitVec 32 := Scalar.addi v178 c1_i32_146
  let c128_i32_147 : BitVec 32 := 128#32
  let v180 : BitVec 32 := Scalar.muli v179 c128_i32_147
  let c96_i32_148 : BitVec 32 := 96#32
  let v181 : BitVec 32 := Scalar.addi v180 c96_i32_148
  let v182 : Index := Scalar.indexCast v181
  ![v182.toNat]

def k1_chk45 (i : grid1.Coords) (v184 : IVec S16 32) : Prop :=
  (∀ (k1_h2 : k1_cond2 i = 1#1), ∀ a x, ((![v184] : Fin 1 → IVec S16 32) a x).toNat < S80.size a)
theorem k1_idx45_inb : ∀ (i : grid1.Coords) (v184 : IVec S16 32) (k1_hw45 : k1_chk45 i v184), ∀ (k1_h2 : k1_cond2 i = 1#1), ∀ a x, ((![v184] : Fin 1 → IVec S16 32) a x).toNat < S80.size a := fun i v184 k1_hw45 k1_h2 => k1_hw45 k1_h2

def k1_chk46 (i : grid1.Coords) (v187 : IVec S16 32) : Prop :=
  (∀ (k1_h2 : k1_cond2 i = 1#1), ∀ a x, ((![v187] : Fin 1 → IVec S16 32) a x).toNat < S80.size a)
theorem k1_idx46_inb : ∀ (i : grid1.Coords) (v187 : IVec S16 32) (k1_hw46 : k1_chk46 i v187), ∀ (k1_h2 : k1_cond2 i = 1#1), ∀ a x, ((![v187] : Fin 1 → IVec S16 32) a x).toNat < S80.size a := fun i v187 k1_hw46 k1_h2 => k1_hw46 k1_h2
@[reducible] def k1_t20_loop : Scf.Loop 32 :=
  let c0_i32_136 : BitVec 32 := 0#32
  let c16_i32_137 : BitVec 32 := 16#32
  let v165 : BitVec 32 := Scalar.addi c0_i32_136 c16_i32_137
  let c1_i32_138 : BitVec 32 := 1#32
  ⟨c0_i32_136, v165, c1_i32_138⟩
def k1_off53 (k1_t20 : Fin k1_t20_loop.trips) : Fin 1 → Nat :=
  let c2_i32_143 : BitVec 32 := 2#32
  let c0_i32_136 : BitVec 32 := 0#32
  let c1_i32_138 : BitVec 32 := 1#32
  let arg14 : BitVec 32 := Scf.iv c0_i32_136 c1_i32_138 k1_t20
  let v173 : BitVec 32 := Scalar.muli c2_i32_143 arg14
  let c128_i32_144 : BitVec 32 := 128#32
  let v174 : BitVec 32 := Scalar.muli v173 c128_i32_144
  let c112_i32 : BitVec 32 := 112#32
  let v175 : BitVec 32 := Scalar.addi v174 c112_i32
  let v176 : Index := Scalar.indexCast v175
  ![v176.toNat]
def k1_off54 (k1_t20 : Fin k1_t20_loop.trips) : Fin 1 → Nat :=
  let c2_i32_145 : BitVec 32 := 2#32
  let c0_i32_136 : BitVec 32 := 0#32
  let c1_i32_138 : BitVec 32 := 1#32
  let arg14 : BitVec 32 := Scf.iv c0_i32_136 c1_i32_138 k1_t20
  let v178 : BitVec 32 := Scalar.muli c2_i32_145 arg14
  let c1_i32_146 : BitVec 32 := 1#32
  let v179 : BitVec 32 := Scalar.addi v178 c1_i32_146
  let c128_i32_147 : BitVec 32 := 128#32
  let v180 : BitVec 32 := Scalar.muli v179 c128_i32_147
  let c112_i32_148 : BitVec 32 := 112#32
  let v181 : BitVec 32 := Scalar.addi v180 c112_i32_148
  let v182 : Index := Scalar.indexCast v181
  ![v182.toNat]

def k1_chk47 (i : grid1.Coords) (v184 : IVec S16 32) : Prop :=
  (∀ (k1_h2 : k1_cond2 i = 1#1), ∀ a x, ((![v184] : Fin 1 → IVec S16 32) a x).toNat < S80.size a)
theorem k1_idx47_inb : ∀ (i : grid1.Coords) (v184 : IVec S16 32) (k1_hw47 : k1_chk47 i v184), ∀ (k1_h2 : k1_cond2 i = 1#1), ∀ a x, ((![v184] : Fin 1 → IVec S16 32) a x).toNat < S80.size a := fun i v184 k1_hw47 k1_h2 => k1_hw47 k1_h2

def k1_chk48 (i : grid1.Coords) (v187 : IVec S16 32) : Prop :=
  (∀ (k1_h2 : k1_cond2 i = 1#1), ∀ a x, ((![v187] : Fin 1 → IVec S16 32) a x).toNat < S80.size a)
theorem k1_idx48_inb : ∀ (i : grid1.Coords) (v187 : IVec S16 32) (k1_hw48 : k1_chk48 i v187), ∀ (k1_h2 : k1_cond2 i = 1#1), ∀ a x, ((![v187] : Fin 1 → IVec S16 32) a x).toNat < S80.size a := fun i v187 k1_hw48 k1_h2 => k1_hw48 k1_h2
def k1_off55 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_75 : BitVec 32 := 32#32
  let v102 : BitVec 32 := Scalar.addi v1 c32_i32_75
  let c128_i32_76 : BitVec 32 := 128#32
  let v103 : BitVec 32 := Scalar.muli v102 c128_i32_76
  let v104 : BitVec 32 := v103
  ![v104.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048x128 : Shape := ⟨3, ![64, 2048, 128]⟩
abbrev S64x4096x128 : Shape := ⟨3, ![64, 4096, 128]⟩
abbrev S_ : Shape := ⟨0, ![]⟩
abbrev S64x2048 : Shape := ⟨2, ![64, 2048]⟩
abbrev S64x4096 : Shape := ⟨2, ![64, 4096]⟩
abbrev S64x6144 : Shape := ⟨2, ![64, 6144]⟩
abbrev S32 : Shape := ⟨1, ![32]⟩
abbrev S1 : Shape := ⟨1, ![1]⟩
abbrev S33 : Shape := ⟨1, ![33]⟩
abbrev S1x1x33 : Shape := ⟨3, ![1, 1, 33]⟩
abbrev S64x6144x1 : Shape := ⟨3, ![64, 6144, 1]⟩
abbrev S64x6144x33 : Shape := ⟨3, ![64, 6144, 33]⟩
abbrev S1x1x32 : Shape := ⟨3, ![1, 1, 32]⟩
abbrev S64x6144x32 : Shape := ⟨3, ![64, 6144, 32]⟩
abbrev S6144x32 : Shape := ⟨2, ![6144, 32]⟩
abbrev S6144 : Shape := ⟨1, ![6144]⟩
abbrev S6144x1 : Shape := ⟨2, ![6144, 1]⟩

abbrev nBuf : Space → Nat
  | .hbm => 83
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S64x4096x128, .f32⟩
  | .hbm, ⟨2, _⟩ => ⟨S_, .f32⟩
  | .hbm, ⟨3, _⟩ => ⟨S64x2048, .f32⟩
  | .hbm, ⟨4, _⟩ => ⟨S_, .f32⟩
  | .hbm, ⟨5, _⟩ => ⟨S64x2048, .f32⟩
  | .hbm, ⟨6, _⟩ => ⟨S64x2048, .f32⟩
  | .hbm, ⟨7, _⟩ => ⟨S_, .f32⟩
  | .hbm, ⟨8, _⟩ => ⟨S64x4096, .f32⟩
  | .hbm, ⟨9, _⟩ => ⟨S_, .f32⟩
  | .hbm, ⟨10, _⟩ => ⟨S64x4096, .f32⟩
  | .hbm, ⟨11, _⟩ => ⟨S64x4096, .f32⟩
  | .hbm, ⟨12, _⟩ => ⟨S64x6144, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S1, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S1, .f32⟩
  | .hbm, ⟨35, _⟩ => ⟨S33, .f32⟩
  | .hbm, ⟨36, _⟩ => ⟨S1x1x33, .f32⟩
  | .hbm, ⟨37, _⟩ => ⟨S64x6144x1, .f32⟩
  | .hbm, ⟨38, _⟩ => ⟨S64x6144x33, .f32⟩
  | .hbm, ⟨39, _⟩ => ⟨S64x6144x33, .f32⟩
  | .hbm, ⟨40, _⟩ => ⟨S64x6144x33, .i1⟩
  | .hbm, ⟨41, _⟩ => ⟨S64x6144x33, .i32⟩
  | .hbm, ⟨42, _⟩ => ⟨S_, .i32⟩
  | .hbm, ⟨43, _⟩ => ⟨S64x6144, .i32⟩
  | .hbm, ⟨44, _⟩ => ⟨S_, .i32⟩
  | .hbm, ⟨45, _⟩ => ⟨S64x6144, .i32⟩
  | .hbm, ⟨46, _⟩ => ⟨S64x6144, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x6144, .i32⟩
  | .hbm, ⟨51, _⟩ => ⟨S64x6144, .i32⟩
  | .hbm, ⟨52, _⟩ => ⟨S_, .i32⟩
  | .hbm, ⟨53, _⟩ => ⟨S64x6144, .i32⟩
  | .hbm, ⟨54, _⟩ => ⟨S64x6144, .i32⟩
  | .hbm, ⟨55, _⟩ => ⟨S64x6144x1, .i32⟩
  | .hbm, ⟨56, _⟩ => ⟨S32, .i32⟩
  | .hbm, ⟨57, _⟩ => ⟨S1x1x32, .i32⟩
  | .hbm, ⟨58, _⟩ => ⟨S64x6144x32, .i32⟩
  | .hbm, ⟨59, _⟩ => ⟨S64x6144x32, .i32⟩
  | .hbm, ⟨60, _⟩ => ⟨S64x6144x32, .i1⟩
  | .hbm, ⟨61, _⟩ => ⟨S64x6144x32, .i32⟩
  | .hbm, ⟨62, _⟩ => ⟨S_, .i32⟩
  | .hbm, ⟨63, _⟩ => ⟨S6144x32, .i32⟩
  | .hbm, ⟨64, _⟩ => ⟨S6144x32, .f32⟩
  | .hbm, ⟨65, _⟩ => ⟨S_, .f32⟩
  | .hbm, ⟨66, _⟩ => ⟨S6144, .f32⟩
  | .hbm, ⟨67, _⟩ => ⟨S6144x1, .f32⟩
  | .hbm, ⟨68, _⟩ => ⟨S_, .f32⟩
  | .hbm, ⟨69, _⟩ => ⟨S_, .f32⟩
  | .hbm, ⟨70, _⟩ => ⟨S6144x1, .f32⟩
  | .hbm, ⟨71, _⟩ => ⟨S6144x1, .f32⟩
  | .hbm, ⟨72, _⟩ => ⟨S6144x32, .f32⟩
  | .hbm, ⟨73, _⟩ => ⟨S6144x32, .f32⟩
  | .hbm, ⟨74, _⟩ => ⟨S_, .f32⟩
  | .hbm, ⟨75, _⟩ => ⟨S_, .f32⟩
  | .hbm, ⟨76, _⟩ => ⟨S6144x32, .f32⟩
  | .hbm, ⟨77, _⟩ => ⟨S6144x32, .f32⟩
  | .hbm, ⟨78, _⟩ => ⟨S6144x32, .f32⟩
  | .hbm, ⟨79, _⟩ => ⟨S6144x32, .f32⟩
  | .hbm, ⟨80, _⟩ => ⟨S_, .f32⟩
  | .hbm, ⟨81, _⟩ => ⟨S6144, .f32⟩
  | .hbm, ⟨82, _⟩ => ⟨S6144, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_call0_cst_0 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_c_5 : Ref sig .tc := ⟨.hbm, 44, rfl⟩
abbrev main_v17 : Ref sig .tc := ⟨.hbm, 45, rfl⟩
abbrev main_v18 : Ref sig .tc := ⟨.hbm, 46, rfl⟩
abbrev main_c_6 : Ref sig .tc := ⟨.hbm, 47, rfl⟩
abbrev main_c_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_8 : Ref sig .tc := ⟨.hbm, 62, rfl⟩
abbrev main_v27 : Ref sig .tc := ⟨.hbm, 63, rfl⟩
abbrev main_v28 : Ref sig .tc := ⟨.hbm, 64, rfl⟩
abbrev main_cst_9 : Ref sig .tc := ⟨.hbm, 65, rfl⟩
abbrev main_v29 : Ref sig .tc := ⟨.hbm, 66, rfl⟩
abbrev main_v30 : Ref sig .tc := ⟨.hbm, 67, rfl⟩
abbrev main_cst_10 : Ref sig .tc := ⟨.hbm, 68, rfl⟩
abbrev main_call2_v0 : Ref sig .tc := ⟨.hbm, 69, rfl⟩
abbrev main_call2_v1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_11 : Ref sig .tc := ⟨.hbm, 74, rfl⟩
abbrev main_call3_v0 : Ref sig .tc := ⟨.hbm, 75, rfl⟩
abbrev main_call3_v1 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_12 : Ref sig .tc := ⟨.hbm, 80, rfl⟩
abbrev main_v37 : Ref sig .tc := ⟨.hbm, 81, rfl⟩
abbrev main_v38 : Ref sig .tc := ⟨.hbm, 82, rfl⟩

abbrev nD : Nat := 1
abbrev τ : Topo := Topo.v7x

variable {F : FTy → Type} [FloatOps F]
-- ==== Proof.Sc.Counts.lean ====
/-
  The histogram a tile accumulates, as a function: how often each bin has been met in each column by the rows
  taken so far, and what one indexed add of sixteen ones does to it.
-/
module

public import proofs.«01_k».proof.Proof.Gen.KernelIdeal
public import proofs.«01_k».proof.Proof.Gen.KernelIdeal.Skeleton

@[expose] public section

noncomputable section

namespace Cert.Proof.Sc

open Cert.KernelIdeal
open Idealize.ShloMosaic

variable {F : FTy → Type} [FloatOps F]

/-- The float zero and one of the kernel's constant vectors. -/
abbrev zeroF : F .f32 := Scalar.ofBits .f32 0x00000000#32
abbrev oneF : F .f32 := Scalar.ofBits .f32 0x3F800000#32

/-- The count `n` as the float that adding one `n` times leaves. -/
def cw : ℕ → F .f32
  | 0 => zeroF
  | n + 1 => Elt.idxAdd (F := F) .f32 (cw n) oneF

/-- How many of the first `n` rows fall in bin `b` at column `c`. -/
def cnt (bin : ℕ → ℕ → ℕ) (b c n : ℕ) : ℕ := ((Finset.range n).filter fun r => bin r c = b).card

theorem cnt_zero (bin : ℕ → ℕ → ℕ) (b c : ℕ) : cnt bin b c 0 = 0 := by simp [cnt]

theorem cnt_succ (bin : ℕ → ℕ → ℕ) (b c n : ℕ) :
    cnt bin b c (n + 1) = cnt bin b c n + if bin n c = b then 1 else 0 := by
  unfold cnt
  rw [Finset.range_add_one, Finset.filter_insert]
  split
  · rw [Finset.card_insert_of_notMem (by simp)]
  · simp

theorem cnt_le (bin : ℕ → ℕ → ℕ) (b c n : ℕ) : cnt bin b c n ≤ n :=
  (Finset.card_filter_le _ _).trans (by simp)

/-- The counts' buffer when rows below `r` are done, and row `r` is done in the columns below `t`: word
    `128 * b + c` holds the count of bin `b` in column `c`. -/
def cells (bin : ℕ → ℕ → ℕ) (r t : ℕ) : S4096.Idx → F .f32 := fun i =>
  cw (cnt bin ((i 0).val / 128) ((i 0).val % 128) (if (i 0).val % 128 < t then r + 1 else r))

theorem cells_zero (bin : ℕ → ℕ → ℕ) : cells (F := F) bin 0 0 = fun _ => zeroF := by
  funext i; simp [cells, cnt_zero, cw]

theorem cells_row (bin : ℕ → ℕ → ℕ) (r : ℕ) : cells (F := F) bin r 128 = cells bin (r + 1) 0 := by
  funext i
  have : (i 0).val % 128 < 128 := Nat.mod_lt _ (by decide)
  simp [cells, this]

/-- One lane's add: the word of bin `bin r t` in column `t` is counted up, and column `t` is done. -/
theorem cells_step (bin : ℕ → ℕ → ℕ) (r t : ℕ) (ht : t < 128) (k : S4096.Idx) (hk : (k 0).val = 128 * bin r t + t) :
    (fun j => if (∀ a, (j a).val = (k a).val) then Elt.idxAdd (F := F) .f32 (cells bin r t k) oneF else cells bin r t j)
      = cells bin r (t + 1) := by
  funext j
  have hj : (∀ a, (j a).val = (k a).val) ↔ (j 0).val = (k 0).val :=
    ⟨fun h => h 0, fun h a => by rw [Fin.eq_zero a]; exact h⟩
  by_cases h : (j 0).val = (k 0).val
  · rw [if_pos (hj.mpr h)]
    have e1 : (j 0).val / 128 = bin r t := by omega
    have e2 : (j 0).val % 128 = t := by omega
    have e3 : (k 0).val / 128 = bin r t := by omega
    have e4 : (k 0).val % 128 = t := by omega
    simp only [cells, e1, e2, e3, e4, lt_irrefl, if_false, Nat.lt_succ_self, if_true, cnt_succ]
    rfl
  · rw [if_neg (fun h' => h (hj.mp h'))]
    simp only [cells]
    by_cases hc : (j 0).val % 128 = t
    · have hb : bin r t ≠ (j 0).val / 128 := by omega
      rw [hc, if_neg (lt_irrefl _), if_pos (Nat.lt_succ_self _), cnt_succ, if_neg hb, Nat.add_zero]
    · have : (j 0).val % 128 < t ↔ (j 0).val % 128 < t + 1 := by omega
      simp only [this]

/-- Lane `l` of sixteen. -/
abbrev lane (l : Fin 16) : S16.Idx := Shape.ofLane (d := ![16]) l

/-- What lane `l` does to the buffer: a one added at the word its index names. -/
def addLane (idx : IVec S16 32) (h : ∀ a x, ((![idx] : Fin 1 → IVec S16 32) a x).toNat < S4096.size a)
    (g : S4096.Idx → F .f32) (l : Fin 16) : S4096.Idx → F .f32 := fun j =>
  if (∀ a, (j a).val = (idxAt (s := S4096) ![idx] h (lane l) a).val)
  then Elt.idxAdd (F := F) .f32 (g (idxAt (s := S4096) ![idx] h (lane l))) oneF else g j

theorem addLane_cells (bin : ℕ → ℕ → ℕ) (r t : ℕ) (idx : IVec S16 32)
    (h : ∀ a x, ((![idx] : Fin 1 → IVec S16 32) a x).toNat < S4096.size a) (l : Fin 16) (ht : t < 128)
    (hidx : (idx (lane l)).toNat = 128 * bin r t + t) :
    addLane (F := F) idx h (cells bin r t) l = cells bin r (t + 1) :=
  cells_step bin r t ht _ hidx

theorem foldl_addLane (bin : ℕ → ℕ → ℕ) (r t : ℕ) (ht : t + 16 ≤ 128) (idx : IVec S16 32)
    (hidx : ∀ l : Fin 16, (idx (lane l)).toNat = 128 * bin r (t + l.val) + (t + l.val))
    (h : ∀ a x, ((![idx] : Fin 1 → IVec S16 32) a x).toNat < S4096.size a) (n : ℕ) (hn : n ≤ 16) :
    ((List.finRange 16).take n).foldl (addLane (F := F) idx h) (cells bin r t) = cells bin r (t + n) := by
  induction n with
  | zero => simp
  | succ n ih =>
    have hn' : n < 16 := by omega
    rw [List.take_succ, List.foldl_append, ih (by omega), List.getElem?_eq_getElem (by simpa using hn')]
    simp only [Option.toList_some, List.foldl_cons, List.foldl_nil, List.getElem_finRange]
    exact addLane_cells bin r (t + n) idx h _ (by omega) (hidx ⟨n, hn'⟩)

/-- Sixteen ones added at the words of bin `bin r (t + l)` in column `t + l`, for each lane `l`. -/
theorem cells_scatter (bin : ℕ → ℕ → ℕ) (r t : ℕ) (ht : t + 16 ≤ 128) (idx : IVec S16 32) (ones : FVec F S16 .f32)
    (hones : ones = fun _ => oneF)
    (hidx : ∀ l : Fin 16, (idx (lane l)).toNat = 128 * bin r (t + l.val) + (t + l.val))
    (h : ∀ a x, ((![idx] : Fin 1 → IVec S16 32) a x).toNat < S4096.size a) :
    storeIdx (F := F) (s := S4096) (e := .f32) (d := ![16]) (cells bin r t) ![idx] ones (fun _ => 1#1) true h
      = cells bin r (t + 16) := by
  subst hones
  rw [← foldl_addLane bin r t ht idx hidx h 16 le_rfl, List.take_of_length_le (by simp)]
  unfold storeIdx
  refine congrArg (fun f => List.foldl f (cells (F := F) bin r t) (List.finRange 16)) ?_
  funext g l
  refine (if_pos rfl).trans ?_
  funext j
  simp only [addLane, if_true]

end Cert.Proof.Sc

end
-- ==== Proof.Sc.Setup.lean ====
/-
  The program as the launch theorem sees it, the resource algebra, and the buffers of the SparseCore call.
-/
module

public import proofs.«01_k».proof.Defs
public import proofs.«01_k».proof.Proof.Sc.Counts
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

abbrev xLoc (d : Dev nD) : Loc nD τ sig := (SparseCore.T d).loc main_v0_0
abbrev pLoc (d : Dev nD) : Loc nD τ sig := (SparseCore.T d).loc main_v0_1
abbrev tLoc (d : Dev nD) : Loc nD τ sig := (SparseCore.T d).loc main_v8
abbrev oLoc (d : Dev nD) : Loc nD τ sig := (SparseCore.T d).loc main_v9

abbrev xM : Memref sig .scVector .hbm S48x64x128 .f32 := Memref.whole main_v0_0_scv
abbrev pM : Memref sig .scVector .hbm S2x16 .f32 := Memref.whole main_v0_1_scv
abbrev tM : Memref sig .scVector .hbm S80 .f32 := Memref.whole main_v8_scv
abbrev oM : Memref sig .scVector .hbm S6144 .f32 := Memref.whole main_v9_scv
abbrev x0M : Memref sig .scVector .vmem S64x128 .f32 := Memref.whole cc1_scratch0
abbrev x1M : Memref sig .scVector .vmem S64x128 .f32 := Memref.whole cc1_scratch1
abbrev pvM : Memref sig .scVector .vmem S2x16 .f32 := Memref.whole cc1_scratch2
abbrev tvM : Memref sig .scVector .vmem S80 .f32 := Memref.whole cc1_scratch3
abbrev cvM : Memref sig .scVector .vmem S4096 .f32 := Memref.whole cc1_scratch4
abbrev evM : Memref sig .scVector .vmem S128 .f32 := Memref.whole cc1_scratch5

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

end Cert.Proof.Sc

end
-- ==== Proof.Tc.Body.lean ====
/-
  One grid point of the TensorCore call, run symbolically: the block means stored, the running minimum and
  maximum updated, at the last point the two parameter rows stored.
-/
module

public import proofs.«01_k».proof.Proof.Sc.Setup
public import proofs.«01_k».proof.Proof.Gen.KernelIdeal.Launch
public import proofs.«01_k».proof.Proof.Gen.KernelIdeal.Points
public import Idealize.ShloMosaic.Lib.Pipeline.ArrRel
public import Idealize.ShloMosaic.Lib.Pipeline.FrameBody
public import Idealize.ShloMosaic.Lib.Pipeline.RegionArrays

@[expose] public section

noncomputable section

namespace Cert.Proof.Tc

open Cert.KernelIdeal Cert.KernelIdeal.Gen
open Cert.Proof.Sc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- An index of a 64 by 256 block. -/
def ixA (a b : ℕ) (ha : a < 64) (hb : b < 256) : S64x256.Idx := fun | 0 => ⟨a, ha⟩ | 1 => ⟨b, hb⟩
/-- An index of a 64 by 512 block. -/
def ixB (a b : ℕ) (ha : a < 64) (hb : b < 512) : S64x512.Idx := fun | 0 => ⟨a, ha⟩ | 1 => ⟨b, hb⟩
/-- An index of a single chunk. -/
def ixC (a b : ℕ) (ha : a < 64) (hb : b < 128) : S1x64x128.Idx := fun | 0 => ⟨0, by decide⟩ | 1 => ⟨a, ha⟩ | 2 => ⟨b, hb⟩

theorem lt0 (y : S4x64x128.Idx) : (y 0).val < 4 := (y 0).isLt
theorem lt1 (y : S4x64x128.Idx) : (y 1).val < 64 := (y 1).isLt
theorem lt2 (y : S4x64x128.Idx) : (y 2).val < 128 := (y 2).isLt
theorem ltA (k b : ℕ) (h : b < 128) : 128 * (k % 2) + b < 256 := by omega
theorem ltB (k b : ℕ) (hk : k < 4) (h : b < 128) : 128 * k + b < 512 := by omega

/-- The means of a block of the first input, written over its half of an output block. -/
def blockLo (v : Vec F S64x256x128 .f32) (q : ℕ) (Y : S4x64x128.Idx → F .f32) : S4x64x128.Idx → F .f32 := fun y =>
  if (y 0).val / 2 = q then k0_pay6 v (ixA (y 1).val (128 * ((y 0).val % 2) + (y 2).val) (lt1 y) (ltA _ _ (lt2 y))) else Y y

/-- The means of a block of the second input, as an output block. -/
def blockHi (v : Vec F S64x512x128 .f32) : S4x64x128.Idx → F .f32 := fun y =>
  k0_pay11 v (ixB (y 1).val (128 * (y 0).val + (y 2).val) (lt1 y) (ltB _ _ (lt0 y) (lt2 y)))

/-- The scratch pair, a minimum and a maximum. -/
def pair (a b : F .f32) : S1x2.Idx → F .f32 := fun i => if (i 1).val = 0 then a else b

/-- A chunk of a block of means, stored as a block of its own, at an index. -/
theorem chunkA (x : FVec F S64x256 .f32) (o : ℕ) (hs : S64x256.Slices ![0, o] S64x128) (a b : ℕ) (ha : a < 64) (hb : b < 128)
    (hob : o + b < 256) :
    shapeCast S1x64x128 (extractStridedSlice S64x128 ![0, o] x hs) shapeCasts_S64x128_S1x64x128 (ixC a b ha hb)
      = x (ixA a (o + b) ha hob) := by
  refine (Idealize.ShloMosaic.shapeCast_addUnit_apply ![64, 128] _ _ _).trans ?_
  refine extractStridedSlice_apply _ _ _ _ _ fun e => ?_
  match e with
  | ⟨0, _⟩ => show a = 0 + a; omega
  | ⟨1, _⟩ => rfl

theorem chunkB (x : FVec F S64x512 .f32) (o : ℕ) (hs : S64x512.Slices ![0, o] S64x128) (a b : ℕ) (ha : a < 64) (hb : b < 128)
    (hob : o + b < 512) :
    shapeCast S1x64x128 (extractStridedSlice S64x128 ![0, o] x hs) shapeCasts_S64x128_S1x64x128 (ixC a b ha hb)
      = x (ixB a (o + b) ha hob) := by
  refine (Idealize.ShloMosaic.shapeCast_addUnit_apply ![64, 128] _ _ _).trans ?_
  refine extractStridedSlice_apply _ _ _ _ _ fun e => ?_
  match e with
  | ⟨0, _⟩ => show a = 0 + a; omega
  | ⟨1, _⟩ => rfl

theorem ixA_congr {a b b' : ℕ} {ha hb hb'} (h : b = b') : ixA a b ha hb = ixA a b' ha hb' := by subst h; rfl
theorem ixB_congr {a b b' : ℕ} {ha hb hb'} (h : b = b') : ixB a b ha hb = ixB a b' ha hb' := by subst h; rfl

/-- Reading a chunk that was just stored, and one that was not. -/
theorem read_chunk (m : Memref sig .tc .vmem S4x64x128 .f32) (f : m.view.ty.Contents (Elt F)) {off : Fin 3 → ℕ} (k : ℕ) (hoff : off = ![k, 0, 0])
    (inb : ∀ a, off a + S1x64x128.size a ≤ S4x64x128.size a) (w : S1x64x128.Idx → F .f32)
    (L : List (View.Piece (Elt F) S4x64x128 .f32)) (y : S4x64x128.Idx) :
    m.view.read (Elt F) (m.view.writes (Elt F) f ((⟨Rect.unit (s := S4x64x128) off S1x64x128.size inb, w⟩ : View.Piece (Elt F) S4x64x128 .f32) :: L)) y
      = if (y 0).val = k then w (ixC (y 1).val (y 2).val (lt1 y) (lt2 y)) else m.view.read (Elt F) (m.view.writes (Elt F) f L) y := by
  by_cases hk : (y 0).val = k
  · rw [if_pos hk]
    refine View.read_writes_cons_unit_of_mem m.view f inb w L y (ixC (y 1).val (y 2).val (lt1 y) (lt2 y)) hoff fun a => ?_
    match a with
    | ⟨0, _⟩ => show (y 0).val = k + 0; omega
    | ⟨1, _⟩ => show (y 1).val = 0 + (y 1).val; omega
    | ⟨2, _⟩ => show (y 2).val = 0 + (y 2).val; omega
  · rw [if_neg hk]
    refine View.read_writes_cons_unit_of_not_mem m.view f inb w L y hoff 0 ?_
    show (y 0).val < k ∨ k + 1 ≤ (y 0).val
    omega

theorem read_lo (m : Memref sig .tc .vmem S4x64x128 .f32) (f : m.view.ty.Contents (Elt F)) (o1 o0 : Fin 3 → ℕ) (q : ℕ)
    (h1 : o1 = ![2 * q + 1, 0, 0]) (h0 : o0 = ![2 * q + 0, 0, 0])
    (inb1 : ∀ a, o1 a + S1x64x128.size a ≤ S4x64x128.size a) (inb0 : ∀ a, o0 a + S1x64x128.size a ≤ S4x64x128.size a)
    (v : Vec F S64x256x128 .f32) :
    m.view.read (Elt F) (m.view.writes (Elt F) f [(⟨Rect.unit (s := S4x64x128) o1 S1x64x128.size inb1, k0_pay8 v⟩ : View.Piece (Elt F) S4x64x128 .f32),
        (⟨Rect.unit (s := S4x64x128) o0 S1x64x128.size inb0, k0_pay7 v⟩ : View.Piece (Elt F) S4x64x128 .f32)])
      = blockLo v q (m.view.read (Elt F) f) := by
  funext y
  have := lt0 y; have := lt2 y
  rw [read_chunk m f _ h1, read_chunk m f _ h0]
  unfold blockLo k0_pay7 k0_pay8
  by_cases e1 : (y 0).val = 2 * q + 1
  · rw [if_pos e1, if_pos (by omega)]
    refine (chunkA _ 128 slices_S64x256_o0_128_S64x128 _ _ (lt1 y) (lt2 y) (by omega)).trans (congrArg (k0_pay6 v) (ixA_congr (by omega)))
  · rw [if_neg e1]
    by_cases e0 : (y 0).val = 2 * q + 0
    · rw [if_pos e0, if_pos (by omega)]
      refine (chunkA _ 0 slices_S64x256_o0_0_S64x128 _ _ (lt1 y) (lt2 y) (by omega)).trans (congrArg (k0_pay6 v) (ixA_congr (by omega)))
    · rw [if_neg e0, if_neg (by omega)]
      rfl

theorem read_hi (m : Memref sig .tc .vmem S4x64x128 .f32) (f : m.view.ty.Contents (Elt F)) (v : Vec F S64x512x128 .f32) :
    m.view.read (Elt F) (m.view.writes (Elt F) f
        [(⟨Rect.unit (s := S4x64x128) ![3, 0, 0] S1x64x128.size inb_S4x64x128_S1x64x128_3_0_0, k0_pay15 v⟩ : View.Piece (Elt F) S4x64x128 .f32),
         (⟨Rect.unit (s := S4x64x128) ![2, 0, 0] S1x64x128.size inb_S4x64x128_S1x64x128_2_0_0, k0_pay14 v⟩ : View.Piece (Elt F) S4x64x128 .f32),
         (⟨Rect.unit (s := S4x64x128) ![1, 0, 0] S1x64x128.size inb_S4x64x128_S1x64x128_1_0_0, k0_pay13 v⟩ : View.Piece (Elt F) S4x64x128 .f32),
         (⟨Rect.unit (s := S4x64x128) ![0, 0, 0] S1x64x128.size inb_S4x64x128_S1x64x128_0_0_0, k0_pay12 v⟩ : View.Piece (Elt F) S4x64x128 .f32)])
      = blockHi v := by
  funext y
  have := lt0 y; have := lt2 y
  rw [read_chunk m f _ rfl, read_chunk m f _ rfl, read_chunk m f _ rfl, read_chunk m f _ rfl]
  unfold blockHi k0_pay12 k0_pay13 k0_pay14 k0_pay15
  by_cases e3 : (y 0).val = 3
  · rw [if_pos e3]
    exact (chunkB _ 384 slices_S64x512_o0_384_S64x128 _ _ (lt1 y) (lt2 y) (by omega)).trans (congrArg (k0_pay11 v) (ixB_congr (by omega)))
  rw [if_neg e3]
  by_cases e2 : (y 0).val = 2
  · rw [if_pos e2]
    exact (chunkB _ 256 slices_S64x512_o0_256_S64x128 _ _ (lt1 y) (lt2 y) (by omega)).trans (congrArg (k0_pay11 v) (ixB_congr (by omega)))
  rw [if_neg e2]
  by_cases e1 : (y 0).val = 1
  · rw [if_pos e1]
    exact (chunkB _ 128 slices_S64x512_o0_128_S64x128 _ _ (lt1 y) (lt2 y) (by omega)).trans (congrArg (k0_pay11 v) (ixB_congr (by omega)))
  rw [if_neg e1, if_pos (by omega)]
  exact (chunkB _ 0 slices_S64x512_o0_0_S64x128 _ _ (lt1 y) (lt2 y) (by omega)).trans (congrArg (k0_pay11 v) (ixB_congr (by omega)))

/-- The one index of a scratch cell. -/
def ixP : S1x1.Idx := fun | 0 => ⟨0, by decide⟩ | 1 => ⟨0, by decide⟩

theorem read_pair (f : (Memref.whole cc0_scratch0 : Memref sig .tc .smem S1x2 .f32).view.ty.Contents (Elt F)) (a b : F .f32) :
    (Memref.whole cc0_scratch0 : Memref sig .tc .smem S1x2 .f32).view.read (Elt F)
      ((Memref.whole cc0_scratch0 : Memref sig .tc .smem S1x2 .f32).view.writes (Elt F) f
        [(⟨Rect.unit (s := S1x2) ![0, 1] S1x1.size inb_S1x2_S1x1_0_1, fun _ => b⟩ : View.Piece (Elt F) S1x2 .f32),
         (⟨Rect.unit (s := S1x2) ![0, 0] S1x1.size inb_S1x2_S1x1_0_0, fun _ => a⟩ : View.Piece (Elt F) S1x2 .f32)])
      = pair a b := by
  funext i
  have h0 : (i 0).val < 1 := (i 0).isLt
  have h1 : (i 1).val < 2 := (i 1).isLt
  unfold pair
  by_cases e : (i 1).val = 0
  · rw [if_pos e]
    refine (View.read_writes_cons_unit_of_not_mem _ _ _ _ _ i rfl 1 (.inl ?_)).trans
      (View.read_writes_cons_unit_of_mem _ _ _ _ _ i ixP rfl fun k => ?_)
    · show (i 1).val < 1; omega
    · match k with
      | ⟨0, _⟩ => show (i 0).val = 0 + 0; omega
      | ⟨1, _⟩ => show (i 1).val = 0 + 0; omega
  · rw [if_neg e]
    refine View.read_writes_cons_unit_of_mem _ _ _ _ _ i ixP rfl fun k => ?_
    match k with
    | ⟨0, _⟩ => show (i 0).val = 0 + 0; omega
    | ⟨1, _⟩ => show (i 1).val = 1 + 0; omega

theorem load_A (m : Memref sig .tc .vmem S64x256x128 .f32) (f : m.view.ty.Contents (Elt F)) :
    m.view.readAt (Elt F) (Rect.unit (s := S64x256x128) ![0, 0, 0] S64x256x128.size inb_S64x256x128_S64x256x128_0_0_0).toLoadRect f = m.view.read (Elt F) f :=
  View.ld_unit_zero (S := S64x256x128) (by funext a; fin_cases a <;> rfl) inb_S64x256x128_S64x256x128_0_0_0 (m.view.read (Elt F) f)

theorem load_B (m : Memref sig .tc .vmem S64x512x128 .f32) (f : m.view.ty.Contents (Elt F)) :
    m.view.readAt (Elt F) (Rect.unit (s := S64x512x128) ![0, 0, 0] S64x512x128.size inb_S64x512x128_S64x512x128_0_0_0).toLoadRect f = m.view.read (Elt F) f :=
  View.ld_unit_zero (S := S64x512x128) (by funext a; fin_cases a <;> rfl) inb_S64x512x128_S64x512x128_0_0_0 (m.view.read (Elt F) f)

/-- Reading one cell of the scratch pair. -/
theorem cell_min {f : (Memref.whole cc0_scratch0 : Memref sig .tc .smem S1x2 .f32).view.ty.Contents (Elt F)} {a b : F .f32}
    (h : (Memref.whole cc0_scratch0 : Memref sig .tc .smem S1x2 .f32).view.read (Elt F) f = pair a b) (x : S1x1.Idx) :
    (Memref.whole cc0_scratch0 : Memref sig .tc .smem S1x2 .f32).view.readAt (Elt F)
      (Rect.unit (s := S1x2) ![0, 0] S1x1.size inb_S1x2_S1x1_0_0).toLoadRect f x = a := by
  refine (congrFun h _).trans (if_pos ?_)
  have : (x 1).val < 1 := (x 1).isLt
  show 0 + 1 * (x 1).val = 0
  omega

theorem cell_max {f : (Memref.whole cc0_scratch0 : Memref sig .tc .smem S1x2 .f32).view.ty.Contents (Elt F)} {a b : F .f32}
    (h : (Memref.whole cc0_scratch0 : Memref sig .tc .smem S1x2 .f32).view.read (Elt F) f = pair a b) (x : S1x1.Idx) :
    (Memref.whole cc0_scratch0 : Memref sig .tc .smem S1x2 .f32).view.readAt (Elt F)
      (Rect.unit (s := S1x2) ![0, 1] S1x1.size inb_S1x2_S1x1_0_1).toLoadRect f x = b := by
  refine (congrFun h _).trans (if_neg ?_)
  have : (x 1).val < 1 := (x 1).isLt
  show ¬ 1 + 1 * (x 1).val = 0
  omega

/-- The parameter block stored whole. -/
theorem read_par (m : Memref sig .tc .vmem S2x16 .f32) (f : m.view.ty.Contents (Elt F)) (w : S2x16.Idx → F .f32) :
    m.view.read (Elt F) (m.view.writes (Elt F) f
        [(⟨Rect.unit (s := S2x16) ![0, 0] S2x16.size inb_S2x16_S2x16_0_0, w⟩ : View.Piece (Elt F) S2x16 .f32)]) = w := by
  funext y
  refine View.read_writes_cons_unit_of_mem m.view f _ w [] y y rfl fun a => ?_
  match a with
  | ⟨0, _⟩ => show (y 0).val = 0 + (y 0).val; omega
  | ⟨1, _⟩ => show (y 1).val = 0 + (y 1).val; omega

/-- The conditions on the grid coordinate that the two branches test, as the kernel computes them. -/
abbrev isFirst (i : grid0.Coords) : BitVec 1 :=
  Scalar.cmpi .ne (Scalar.extui (Scalar.cmpi .eq (BitVec.ofNat 32 (i 0).val) 0#32) : BitVec 32) 0#32
abbrev isLater (i : grid0.Coords) : BitVec 1 :=
  Scalar.cmpi .ne (Scalar.extui (Scalar.cmpi .sgt (BitVec.ofNat 32 (i 0).val) 0#32) : BitVec 32) 0#32

/-- What a point of each kind leaves, and what the scratch pair held. -/
def LO (v : Vec F S64x256x128 .f32) (first : Bool) (a b : F .f32) : S1x2.Idx → F .f32 :=
  if first then pair (k0_pay9 v) (k0_pay10 v) else pair (k0_pay1 (k0_pay9 v) a) (k0_pay2 (k0_pay10 v) b)

set_option maxHeartbeats 4000000 in
theorem run_first (c : Dev nD) (i : grid0.Coords) (arg1 : Memref sig .tc .vmem S64x256x128 .f32) (harg1 : arg1.IsWhole)
    (arg2 : Memref sig .tc .vmem S64x512x128 .f32) (harg2 : arg2.IsWhole) (arg3 : Memref sig .tc .vmem S4x64x128 .f32)
    (harg3 : arg3.IsWhole) (arg4 : Memref sig .tc .vmem S2x16 .f32) (harg4 : arg4.IsWhole)
    (h1 : k0_cond1 i = 1#1) (h4 : ¬ k0_cond4 i = 1#1) (h7 : ¬ k0_cond7 i = 1#1)
    (h2 : isFirst i = 1#1) (h3 : ¬ isLater i = 1#1)
    (q : ℕ) (hq1 : k0_off1 i 1#32 = ![2 * q + 1, 0, 0]) (hq0 : k0_off1 i 0#32 = ![2 * q + 0, 0, 0])
    (Y1 : S64x256x128.Idx → F .f32) (Y3 : S4x64x128.Idx → F .f32)
    (Kp : PUnit → sProp 𝕄) :
    iprop(owns (c : Thread nD τ) arg1 fullShare Y1 ∗ owns (c : Thread nD τ) arg3 fullShare Y3
        ∗ (∃ d, owns (c : Thread nD τ) (Memref.whole cc0_scratch0) fullShare d)
        ∗ (iprop(owns (c : Thread nD τ) arg1 fullShare Y1 ∗ owns (c : Thread nD τ) arg3 fullShare (blockLo Y1 q Y3)
              ∗ owns (c : Thread nD τ) (Memref.whole cc0_scratch0) fullShare (pair (k0_pay9 Y1) (k0_pay10 Y1))) -∗ Kp ⟨⟩))
      ⊢ wp frame (wpE (defs₀ (F := F)) Variants.none c none) Set.univ
          (cc0__mean_body i arg1 harg1 arg2 harg2 arg3 harg3 arg4 harg4 (Memref.whole cc0_scratch0) (Memref.isWhole_whole _)) Kp := by
  simp only [cc0__mean_body_eq_skeleton]; unfold cc0__mean_body_skel
  simp only [k0_part1_eq_skeleton]; unfold k0_part1_skel
  simp only [dif_pos h1, dif_neg h4, dif_neg h7, bind_assoc, pure_bind]
  unfold owns
  iintro ⟨⟨%f1, %e1, H1⟩, ⟨%f3, %e3, H3⟩, ⟨%ds, %fs, -, HS⟩, Hk⟩
  sl_exec
  sl_step
  iapply Hk
  isplitl [H1]
  · iexists f1; isplitr; swap; · iexact H1
    ipureintro; exact e1
  isplitl [H3]
  · iexists _; isplitr; swap; · iexact H3
    ipureintro
    rw [load_A, e1, ← e3]; exact read_lo arg3 f3 _ _ q hq1 hq0 _ _ Y1
  iexists _; isplitr; swap; · iexact HS
  ipureintro
  rw [load_A, e1]; exact read_pair _ _ _

set_option maxHeartbeats 4000000 in
theorem run_lo (c : Dev nD) (i : grid0.Coords) (arg1 : Memref sig .tc .vmem S64x256x128 .f32) (harg1 : arg1.IsWhole)
    (arg2 : Memref sig .tc .vmem S64x512x128 .f32) (harg2 : arg2.IsWhole) (arg3 : Memref sig .tc .vmem S4x64x128 .f32)
    (harg3 : arg3.IsWhole) (arg4 : Memref sig .tc .vmem S2x16 .f32) (harg4 : arg4.IsWhole)
    (h1 : k0_cond1 i = 1#1) (h4 : ¬ k0_cond4 i = 1#1) (h7 : ¬ k0_cond7 i = 1#1)
    (h2 : ¬ isFirst i = 1#1) (h3 : isLater i = 1#1)
    (q : ℕ) (hq1 : k0_off1 i 1#32 = ![2 * q + 1, 0, 0]) (hq0 : k0_off1 i 0#32 = ![2 * q + 0, 0, 0])
    (Y1 : S64x256x128.Idx → F .f32) (Y3 : S4x64x128.Idx → F .f32) (a b : F .f32)
    (Kp : PUnit → sProp 𝕄) :
    iprop(owns (c : Thread nD τ) arg1 fullShare Y1 ∗ owns (c : Thread nD τ) arg3 fullShare Y3
        ∗ owns (c : Thread nD τ) (Memref.whole cc0_scratch0) fullShare (pair a b)
        ∗ (iprop(owns (c : Thread nD τ) arg1 fullShare Y1 ∗ owns (c : Thread nD τ) arg3 fullShare (blockLo Y1 q Y3)
              ∗ owns (c : Thread nD τ) (Memref.whole cc0_scratch0) fullShare (pair (k0_pay1 (k0_pay9 Y1) a) (k0_pay2 (k0_pay10 Y1) b))) -∗ Kp ⟨⟩))
      ⊢ wp frame (wpE (defs₀ (F := F)) Variants.none c none) Set.univ
          (cc0__mean_body i arg1 harg1 arg2 harg2 arg3 harg3 arg4 harg4 (Memref.whole cc0_scratch0) (Memref.isWhole_whole _)) Kp := by
  simp only [cc0__mean_body_eq_skeleton]; unfold cc0__mean_body_skel
  simp only [k0_part1_eq_skeleton]; unfold k0_part1_skel
  simp only [dif_pos h1, dif_neg h4, dif_neg h7, bind_assoc, pure_bind]
  unfold owns
  iintro ⟨⟨%f1, %e1, H1⟩, ⟨%f3, %e3, H3⟩, ⟨%fs, %es, HS⟩, Hk⟩
  sl_exec
  sl_step
  iapply Hk
  isplitl [H1]
  · iexists f1; isplitr; swap; · iexact H1
    ipureintro; exact e1
  isplitl [H3]
  · iexists _; isplitr; swap; · iexact H3
    ipureintro
    rw [load_A, e1, ← e3]; exact read_lo arg3 f3 _ _ q hq1 hq0 _ _ Y1
  iexists _; isplitr; swap; · iexact HS
  ipureintro
  unfold run_lo.sl.r run_lo.sl.r_1 run_lo.sl.f
  rw [load_A, e1, cell_min es, cell_max es]; exact read_pair _ _ _

set_option maxHeartbeats 4000000 in
theorem run_hi (c : Dev nD) (i : grid0.Coords) (arg1 : Memref sig .tc .vmem S64x256x128 .f32) (harg1 : arg1.IsWhole)
    (arg2 : Memref sig .tc .vmem S64x512x128 .f32) (harg2 : arg2.IsWhole) (arg3 : Memref sig .tc .vmem S4x64x128 .f32)
    (harg3 : arg3.IsWhole) (arg4 : Memref sig .tc .vmem S2x16 .f32) (harg4 : arg4.IsWhole)
    (h1 : ¬ k0_cond1 i = 1#1) (h4 : k0_cond4 i = 1#1) (h7 : ¬ k0_cond7 i = 1#1)
    (h2 : ¬ isFirst i = 1#1) (h3 : isLater i = 1#1)
    (Y2 : S64x512x128.Idx → F .f32) (Y3 : S4x64x128.Idx → F .f32) (a b : F .f32)
    (Kp : PUnit → sProp 𝕄) :
    iprop(owns (c : Thread nD τ) arg2 fullShare Y2 ∗ owns (c : Thread nD τ) arg3 fullShare Y3
        ∗ owns (c : Thread nD τ) (Memref.whole cc0_scratch0) fullShare (pair a b)
        ∗ (iprop(owns (c : Thread nD τ) arg2 fullShare Y2 ∗ owns (c : Thread nD τ) arg3 fullShare (blockHi Y2)
              ∗ owns (c : Thread nD τ) (Memref.whole cc0_scratch0) fullShare (pair (k0_pay3 (k0_pay16 Y2) a) (k0_pay4 (k0_pay17 Y2) b))) -∗ Kp ⟨⟩))
      ⊢ wp frame (wpE (defs₀ (F := F)) Variants.none c none) Set.univ
          (cc0__mean_body i arg1 harg1 arg2 harg2 arg3 harg3 arg4 harg4 (Memref.whole cc0_scratch0) (Memref.isWhole_whole _)) Kp := by
  simp only [cc0__mean_body_eq_skeleton]; unfold cc0__mean_body_skel
  simp only [k0_part2_eq_skeleton]; unfold k0_part2_skel
  simp only [dif_neg h1, dif_pos h4, dif_neg h7, bind_assoc, pure_bind]
  unfold owns
  iintro ⟨⟨%f1, %e1, H1⟩, ⟨%f3, %e3, H3⟩, ⟨%fs, %es, HS⟩, Hk⟩
  sl_exec
  sl_step
  iapply Hk
  isplitl [H1]
  · iexists f1; isplitr; swap; · iexact H1
    ipureintro; exact e1
  isplitl [H3]
  · iexists _; isplitr; swap; · iexact H3
    ipureintro
    rw [load_B, e1]; exact read_hi arg3 f3 Y2
  iexists _; isplitr; swap; · iexact HS
  ipureintro
  unfold run_hi.sl.r run_hi.sl.r_1 run_hi.sl.f
  rw [load_B, e1, cell_min es, cell_max es]; exact read_pair _ _ _

set_option maxHeartbeats 4000000 in
theorem run_last (c : Dev nD) (i : grid0.Coords) (arg1 : Memref sig .tc .vmem S64x256x128 .f32) (harg1 : arg1.IsWhole)
    (arg2 : Memref sig .tc .vmem S64x512x128 .f32) (harg2 : arg2.IsWhole) (arg3 : Memref sig .tc .vmem S4x64x128 .f32)
    (harg3 : arg3.IsWhole) (arg4 : Memref sig .tc .vmem S2x16 .f32) (harg4 : arg4.IsWhole)
    (h1 : ¬ k0_cond1 i = 1#1) (h4 : k0_cond4 i = 1#1) (h7 : k0_cond7 i = 1#1)
    (h2 : ¬ isFirst i = 1#1) (h3 : isLater i = 1#1)
    (Y2 : S64x512x128.Idx → F .f32) (Y3 : S4x64x128.Idx → F .f32) (Y4 : S2x16.Idx → F .f32) (a b : F .f32)
    (Kp : PUnit → sProp 𝕄) :
    iprop(owns (c : Thread nD τ) arg2 fullShare Y2 ∗ owns (c : Thread nD τ) arg3 fullShare Y3 ∗ owns (c : Thread nD τ) arg4 fullShare (Y4)
        ∗ owns (c : Thread nD τ) (Memref.whole cc0_scratch0) fullShare (pair a b)
        ∗ (iprop(owns (c : Thread nD τ) arg2 fullShare Y2 ∗ owns (c : Thread nD τ) arg3 fullShare (blockHi Y2) ∗ owns (c : Thread nD τ) arg4 fullShare (k0_pay5 (k0_pay3 (k0_pay16 Y2) a) (k0_pay4 (k0_pay17 Y2) b))
              ∗ owns (c : Thread nD τ) (Memref.whole cc0_scratch0) fullShare (pair (k0_pay3 (k0_pay16 Y2) a) (k0_pay4 (k0_pay17 Y2) b))) -∗ Kp ⟨⟩))
      ⊢ wp frame (wpE (defs₀ (F := F)) Variants.none c none) Set.univ
          (cc0__mean_body i arg1 harg1 arg2 harg2 arg3 harg3 arg4 harg4 (Memref.whole cc0_scratch0) (Memref.isWhole_whole _)) Kp := by
  simp only [cc0__mean_body_eq_skeleton]; unfold cc0__mean_body_skel
  simp only [k0_part2_eq_skeleton]; unfold k0_part2_skel
  simp only [dif_neg h1, dif_pos h4, dif_pos h7, bind_assoc, pure_bind]
  unfold owns
  iintro ⟨⟨%f1, %e1, H1⟩, ⟨%f3, %e3, H3⟩, ⟨%f4, %e4, H4⟩, ⟨%fs, %es, HS⟩, Hk⟩
  sl_exec
  sl_step
  iapply Hk
  isplitl [H1]
  · iexists f1; isplitr; swap; · iexact H1
    ipureintro; exact e1
  isplitl [H3]
  · iexists _; isplitr; swap; · iexact H3
    ipureintro
    rw [load_B, e1]; exact read_hi arg3 f3 Y2
  isplitl [H4]
  · iexists _; isplitr; swap; · iexact H4
    ipureintro
    unfold run_last.sl.r_2 run_last.sl.r_3 run_last.sl.r run_last.sl.r_1 run_last.sl.f
    rw [load_B, e1, cell_min es, cell_max es]; exact read_par _ _ _
  iexists _; isplitr; swap; · iexact HS
  ipureintro
  unfold run_last.sl.r run_last.sl.r_1 run_last.sl.f
  rw [load_B, e1, cell_min es, cell_max es]; exact read_pair _ _ _

end Cert.Proof.Tc

end
-- ==== Proof.Tc.Data.lean ====
/-
  The TensorCore call's proof data: what each grid point leaves in the windows' buffers and in the scratch pair,
  as functions of the two arguments' contents.
-/
module

public import proofs.«01_k».proof.Proof.Tc.Body

@[expose] public section

noncomputable section

namespace Cert.Proof.Tc

open Cert.KernelIdeal Cert.KernelIdeal.Gen
open Cert.Proof.Sc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F] [Named F]

local notation "𝕄" => MT nD τ sig (HIx 1) (Elt F) ℕ UU ℕ

/-- An index of the first argument, of the second, of the array of means. -/
def ix0 (a b c : ℕ) (ha : a < 64) (hb : b < 2048) (hc : c < 128) : S64x2048x128.Idx := fun | 0 => ⟨a, ha⟩ | 1 => ⟨b, hb⟩ | 2 => ⟨c, hc⟩
def ix1 (a b c : ℕ) (ha : a < 64) (hb : b < 4096) (hc : c < 128) : S64x4096x128.Idx := fun | 0 => ⟨a, ha⟩ | 1 => ⟨b, hb⟩ | 2 => ⟨c, hc⟩

theorem ltA0 (y : S64x256x128.Idx) : (y 0).val < 64 := (y 0).isLt
theorem ltA1 (t : ℕ) (y : S64x256x128.Idx) : 256 * min t 7 + (y 1).val < 2048 := by
  have : (y 1).val < 256 := (y 1).isLt
  omega
theorem ltA2 (y : S64x256x128.Idx) : (y 2).val < 128 := (y 2).isLt
theorem ltB0 (y : S64x512x128.Idx) : (y 0).val < 64 := (y 0).isLt
theorem ltB1 (t : ℕ) (y : S64x512x128.Idx) : 512 * min (t - 8) 7 + (y 1).val < 4096 := by
  have : (y 1).val < 512 := (y 1).isLt
  omega
theorem ltB2 (y : S64x512x128.Idx) : (y 2).val < 128 := (y 2).isLt

/-- The block of the first argument that point `t` reads. -/
def blkA (a : S64x2048x128.Idx → F .f32) (t : ℕ) : Vec F S64x256x128 .f32 := fun y =>
  a (ix0 (y 0).val (256 * min t 7 + (y 1).val) (y 2).val (ltA0 y) (ltA1 t y) (ltA2 y))
/-- The block of the second argument that point `t` reads. -/
def blkB (b : S64x4096x128.Idx → F .f32) (t : ℕ) : Vec F S64x512x128 .f32 := fun y =>
  b (ix1 (y 0).val (512 * min (t - 8) 7 + (y 1).val) (y 2).val (ltB0 y) (ltB1 t y) (ltB2 y))

/-- The running minimum after point `t`. -/
def mn (a : S64x2048x128.Idx → F .f32) (b : S64x4096x128.Idx → F .f32) : ℕ → F .f32
  | 0 => k0_pay9 (blkA a 0)
  | t + 1 => if t + 1 < 8 then k0_pay1 (k0_pay9 (blkA a (t + 1))) (mn a b t) else k0_pay3 (k0_pay16 (blkB b (t + 1))) (mn a b t)
/-- The running maximum after point `t`. -/
def mx (a : S64x2048x128.Idx → F .f32) (b : S64x4096x128.Idx → F .f32) : ℕ → F .f32
  | 0 => k0_pay10 (blkA a 0)
  | t + 1 => if t + 1 < 8 then k0_pay2 (k0_pay10 (blkA a (t + 1))) (mx a b t) else k0_pay4 (k0_pay17 (blkB b (t + 1))) (mx a b t)

/-- The two parameter rows. -/
def PARAMS (a : S64x2048x128.Idx → F .f32) (b : S64x4096x128.Idx → F .f32) : S2x16.Idx → F .f32 := k0_pay5 (mn a b 15) (mx a b 15)

theorem ltM1 (y : S48x64x128.Idx) : (y 1).val < 64 := (y 1).isLt
theorem ltM2 (y : S48x64x128.Idx) : (y 2).val < 128 := (y 2).isLt
/-- The array of means. -/
def MEANS (a : S64x2048x128.Idx → F .f32) (b : S64x4096x128.Idx → F .f32) : S48x64x128.Idx → F .f32 := fun y =>
  if (y 0).val < 16 then k0_pay6 (blkA a ((y 0).val / 2)) (ixA (y 1).val (128 * ((y 0).val % 2) + (y 2).val) (ltM1 y) (ltA _ _ (ltM2 y)))
  else k0_pay11 (blkB b ((y 0).val / 4 + 4)) (ixB (y 1).val (128 * ((y 0).val % 4) + (y 2).val) (ltM1 y) (ltB _ _ (Nat.mod_lt _ (by decide)) (ltM2 y)))

/-! ## The grid's points -/

theorem cond1_iff : ∀ t : Fin grid0.N, k0_cond1 (grid0.coords t) = 1#1 ↔ t.val < 8 := by decide +kernel
theorem cond4_iff : ∀ t : Fin grid0.N, k0_cond4 (grid0.coords t) = 1#1 ↔ ¬ t.val < 8 := by decide +kernel
theorem cond7_iff : ∀ t : Fin grid0.N, k0_cond7 (grid0.coords t) = 1#1 ↔ t.val = 15 := by decide +kernel
theorem first_iff : ∀ t : Fin grid0.N, isFirst (grid0.coords t) = 1#1 ↔ t.val = 0 := by decide +kernel
theorem later_iff : ∀ t : Fin grid0.N, isLater (grid0.coords t) = 1#1 ↔ t.val ≠ 0 := by decide +kernel
theorem off1_eq : ∀ t : Fin grid0.N, t.val < 8 → k0_off1 (grid0.coords t) 1#32 = ![2 * (t.val % 2) + 1, 0, 0] := by decide +kernel
theorem off0_eq : ∀ t : Fin grid0.N, t.val < 8 → k0_off1 (grid0.coords t) 0#32 = ![2 * (t.val % 2) + 0, 0, 0] := by decide +kernel
theorem flush2_iff : ∀ t : Fin grid0.N, win0_2.flush t = true ↔ (t.val % 2 = 1 ∨ 8 ≤ t.val) := by decide +kernel
theorem index0_eq : ∀ t : Fin grid0.N, win0_0.index t = ![0, min t.val 7, 0] := by decide +kernel
theorem index1_eq : ∀ t : Fin grid0.N, win0_1.index t = ![0, min (t.val - 8) 7, 0] := by decide +kernel
theorem index2_eq : ∀ t : Fin grid0.N, win0_2.index t = ![if t.val < 8 then t.val / 2 else t.val - 4, 0, 0] := by decide +kernel
theorem covers2 : win0_2.Covers := by decide +kernel
theorem whole3 : win0_3.WholeAt t0_15 := by decide +kernel

/-! ## The proof data -/

variable (m : (ℓ : Loc nD τ sig) → Buf (Elt F) ℓ)

/-- The two arguments' contents at launch. -/
abbrev arg0 (c : Dev nD) : S64x2048x128.Idx → F .f32 := m ((c : Thread nD τ).loc main_arg0)
abbrev arg1 (c : Dev nD) : S64x4096x128.Idx → F .f32 := m ((c : Thread nD τ).loc main_arg1)

/-- What a point leaves in a window's buffer, of what it found there. -/
def aft (c : Dev nD) : (w : Fin cfg0.W) → (t : Fin cfg0.N) → (Y X : (cfg0.win w).block.Idx → Elt F (cfg0.win w).elt) → Prop
  | ⟨0, _⟩ => fun _ Y X => X = Y
  | ⟨1, _⟩ => fun _ Y X => X = Y
  | ⟨2, _⟩ => fun t Y X => X = if t.val < 8 then blockLo (blkA (arg0 m c) t.val) (t.val % 2) Y else blockHi (blkB (arg1 m c) t.val)
  | ⟨3, _⟩ => fun t Y X => X = if t.val = 15 then PARAMS (arg0 m c) (arg1 m c) else Y

/-- The scratch pair before point `t`: at anything before the first, at the running minimum and maximum after it. -/
def scr (c : Dev nD) : ℕ → sProp 𝕄
  | 0 => iprop(∃ d : S1x2.Idx → F .f32, owns (c : Thread nD τ) (Memref.whole cc0_scratch0) fullShare d)
  | t + 1 => owns (c : Thread nD τ) (Memref.whole cc0_scratch0) fullShare (pair (mn (arg0 m c) (arg1 m c) t) (mx (arg0 m c) (arg1 m c) t))

def rdat (c : Dev nD) : RDat τ (Elt F) (HIx 1) ℕ UU ℕ cfg0 c where
  A w := m ((cfg0.win w).arr.view.loc (c.tc : Thread nD τ))
  after := aft m c
  Φ t := scr m c t.val
  q _ := fullShare
  owed _ := (K (F := F)).Otc c 0
  recorded _ := {p | (K (F := F)).lev (SparseCore.T c, p.1) p.2 ≤ 8 * (inferInstance : SparseCore.Cfg.Blocks 1 1).fst 0}

/-- What a fetch of the first argument's window puts in its buffer. -/
theorem fetched0 (c : Dev nD) (t : Fin cfg0.N) (d : (cfg0.win 0).block.Idx → Elt F (cfg0.win 0).elt) :
    (rdat m c).fetched 0 t d = blkA (arg0 m c) t.val := by
  have e := index0_eq
  funext y
  show m ((cfg0.win 0).arr.view.loc (c.tc : Thread nD τ)) (((cfg0.win 0).blk t).view.emb y) = _
  unfold blkA
  refine congrArg (m ((c : Thread nD τ).loc main_arg0)) ?_
  funext a
  apply Fin.ext
  match a with
  | ⟨0, _⟩ => blk_simp [e]; simp [ix0]
  | ⟨1, _⟩ => blk_simp [e]; simp [ix0]; omega
  | ⟨2, _⟩ => blk_simp [e]; simp [ix0]

theorem fetched1 (c : Dev nD) (t : Fin cfg0.N) (d : (cfg0.win 1).block.Idx → Elt F (cfg0.win 1).elt) :
    (rdat m c).fetched 1 t d = blkB (arg1 m c) t.val := by
  have e := index1_eq
  funext y
  show m ((cfg0.win 1).arr.view.loc (c.tc : Thread nD τ)) (((cfg0.win 1).blk t).view.emb y) = _
  unfold blkB
  refine congrArg (m ((c : Thread nD τ).loc main_arg1)) ?_
  funext a
  apply Fin.ext
  match a with
  | ⟨0, _⟩ => blk_simp [e]; simp [ix1]
  | ⟨1, _⟩ => blk_simp [e]; simp [ix1]; omega
  | ⟨2, _⟩ => blk_simp [e]; simp [ix1]

theorem finds0 [∀ e, Nonempty (Elt F e)] (c : Dev nD) (t : Fin cfg0.N) (Y) (h : (rdat m c).Finds 0 t Y) : Y = blkA (arg0 m c) t.val := by
  obtain ⟨d, rfl⟩ := RDat.finds_in_eq_fetched (rdat m c) 0 rfl (fun _ _ _ => rfl) (fun _ _ _ h => h) t Y h
  exact fetched0 m c t d
theorem finds1 [∀ e, Nonempty (Elt F e)] (c : Dev nD) (t : Fin cfg0.N) (Y) (h : (rdat m c).Finds 1 t Y) : Y = blkB (arg1 m c) t.val := by
  obtain ⟨d, rfl⟩ := RDat.finds_in_eq_fetched (rdat m c) 1 rfl (fun _ _ _ => rfl) (fun _ _ _ h => h) t Y h
  exact fetched1 m c t d

end Cert.Proof.Tc

end
-- ==== Proof.Val.Entropy.lean ====
/-
  The entropy of thirty-two counts that sum to sixty-four, as the reference computes it from the probabilities and as
  the kernel does from the counts: `-Σ P log P = log 64 - (Σ k log k) / 64` at `P = k / 64`.
-/
module

public import Idealize.ShloMosaic.PureOps.Ideal
public import Idealize.ShloMosaic.Lib.IdealHost

@[expose] public section

noncomputable section

namespace Cert.Proof.Val

open Idealize.ShloMosaic

/-- The reference's small bound, `1e-12` as a float. -/
def tiny : EReal := Ideal.ofBits .f32 0x2B8CBCCC#32

theorem tiny_real : ∃ c : ℝ, 0 < c ∧ c ≤ 1 / 64 ∧ tiny = (c : EReal) := by
  refine ⟨9223372 * 2 ^ (-63 : ℤ), by positivity, by norm_num, ?_⟩
  unfold tiny
  simp [Ideal.ofBits, Ideal.ieee, -EReal.coe_mul]

/-- Thirty-two: the number of bins, as the float `32`. -/
theorem ofBits_32 : Ideal.ofBits .f32 0x42000000#32 = ((32 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_inv128 : Ideal.ofBits .f32 0x3C000000#32 = ((1 / 128 : ℝ) : EReal) := by
  simp [Ideal.ofBits, Ideal.ieee, -EReal.coe_mul]; norm_num
theorem ofBits_inv64 : Ideal.ofBits .f32 0x3C800000#32 = ((1 / 64 : ℝ) : EReal) := by
  simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reference's probability of bin `b`, its entropy of the counts. -/
def prob (k : Fin 32 → ℕ) (b : Fin 32) : EReal := Ideal.div ((k b : ℝ) : EReal) (max tiny (0 + ∑ b, ((k b : ℝ) : EReal)))
def refEnt (k : Fin 32 → ℕ) : EReal := -(0 + ∑ b, prob k b * Ideal.log (max tiny (prob k b)))

theorem prob_eq (k : Fin 32 → ℕ) (hk : ∑ b, k b = 64) (b : Fin 32) : prob k b = (((k b : ℝ) * (1 / 64) : ℝ) : EReal) := by
  obtain ⟨c, hc0, hc1, hc⟩ := tiny_real
  unfold prob
  have e : (0 + ∑ b, ((k b : ℝ) : EReal)) = ((64 : ℝ) : EReal) := by
    have h64 : ∑ b, (k b : ℝ) = 64 := by rw [← Nat.cast_sum, hk]; norm_num
    rw [zero_add, ← coe_sum, h64]
  have hm : max tiny ((64 : ℝ) : EReal) = ((64 : ℝ) : EReal) := by
    rw [hc]; apply max_eq_right; exact_mod_cast (by linarith : c ≤ 64)
  rw [e, hm, Ideal.div_coe (by norm_num), ← EReal.coe_mul]

theorem term_eq (n : ℕ) (p : EReal) (hp : p = (((n : ℝ) * (1 / 64) : ℝ) : EReal)) :
    p * Ideal.log (max tiny p) = (((n : ℝ) * Real.log n * (1 / 64) - (n : ℝ) * (Real.log 64 * (1 / 64)) : ℝ) : EReal) := by
  obtain ⟨c, hc0, hc1, hc⟩ := tiny_real
  rcases Nat.eq_zero_or_pos n with rfl | hn
  · rw [hp]; simp
  · have h1 : (1 : ℝ) ≤ n := by exact_mod_cast hn
    have hm : max tiny p = p := by
      rw [hc, hp]; apply max_eq_right; exact_mod_cast (by linarith : c ≤ (n : ℝ) * (1 / 64))
    rw [hm, hp]
    have hl : Ideal.log (((n : ℝ) * (1 / 64) : ℝ) : EReal) = ((Real.log n - Real.log 64 : ℝ) : EReal) := by
      rw [Ideal.log_coe, if_neg (by linarith)]
      refine EReal.coe_eq_coe_iff.mpr ?_
      rw [mul_one_div, Real.log_div (by linarith) (by norm_num)]
    rw [hl, ← EReal.coe_mul]
    refine EReal.coe_eq_coe_iff.mpr ?_
    ring

theorem refEnt_eq (k : Fin 32 → ℕ) (hk : ∑ b, k b = 64) :
    refEnt k = ((Real.log 64 - (∑ b, (k b : ℝ) * Real.log (k b)) * (1 / 64) : ℝ) : EReal) := by
  unfold refEnt
  have h64 : ∑ b, (k b : ℝ) = 64 := by rw [← Nat.cast_sum, hk]; norm_num
  rw [Finset.sum_congr rfl (fun b _ => term_eq (k b) (prob k b) (prob_eq k hk b)), zero_add, ← coe_sum, ← EReal.coe_neg]
  refine EReal.coe_eq_coe_iff.mpr ?_
  rw [Finset.sum_sub_distrib, ← Finset.sum_mul, ← Finset.sum_mul, h64]
  ring

/-- The sum over the even bins and the sum over the odd ones make up the sum over all. -/
theorem even_odd (f : ℕ → ℝ) : (∑ j ∈ Finset.range 16, f (2 * j)) + (∑ j ∈ Finset.range 16, f (2 * j + 1)) = ∑ b : Fin 32, f b.val := by
  rw [Fin.sum_univ_eq_sum_range (fun i => f i) 32]
  simp only [Finset.sum_range_succ, Finset.sum_range_zero]
  norm_num
  ring

end Cert.Proof.Val

end
-- ==== Proof.Val.Bins.lean ====
/-
  The bin of a mean, as the kernel computes it and as the reference does, over the extended reals: the kernel scales,
  shifts and truncates, the reference counts the edges below. Where the mean lies on no interior edge the two agree.
-/
module

public import Idealize.ShloMosaic.PureOps.Ideal
public import Idealize.ShloMosaic.PureOps.Reduce
public import Idealize.ShloMosaic.Lib.IdealHost
public import Idealize.ShloMosaic.Lib.IndicatorCount
public import Mathlib.Algebra.Order.Floor.Ring
public import Mathlib.Order.Interval.Finset.Nat

@[expose] public section

noncomputable section

namespace Cert.Proof.Val

open Idealize.ShloMosaic

/-- The real that the bin of `x` among thirty-two between `lo` and `hi` truncates, in the kernel's operations. -/
def kv (lo hi x : EReal) : EReal := x * Ideal.div ((32 : ℝ) : EReal) (hi - lo) - lo * Ideal.div ((32 : ℝ) : EReal) (hi - lo)

/-- The kernel's bin: the word capped at 31, of which the address `128 * bin + column` keeps the lower 25 bits. -/
def kb (lo hi x : EReal) : ℕ := (IntOp.minsi (Ideal.fptosi 32 (kv lo hi x)) 31#32).toNat % 33554432

/-- A word that is a small number, capped at 31. -/
theorem minsi_31 (k : ℕ) (hk : k ≤ 2147483647) : (IntOp.minsi (BitVec.ofNat 32 k) 31#32).toNat = min k 31 := by
  unfold IntOp.minsi
  have e : (BitVec.ofNat 32 k).toInt = k := by
    rw [BitVec.toInt_eq_toNat_of_lt] <;> simp [BitVec.toNat_ofNat] <;> omega
  have hs : (BitVec.ofNat 32 k).slt 31#32 = decide (k < 31) := by
    rw [BitVec.slt_eq_decide, e]
    have : (31#32 : BitVec 32).toInt = 31 := by decide
    rw [this]
    simp
  rw [hs]
  by_cases h : k < 31
  · simp [h]; omega
  · simp [h]; omega

/-- Truncating a real that is not negative: its floor, capped at the largest word. -/
theorem fptosi_nonneg (u : ℝ) (hu : 0 ≤ u) : Ideal.fptosi 32 (u : EReal) = BitVec.ofNat 32 (min ⌊u⌋₊ 2147483647) := by
  unfold Ideal.fptosi
  rw [Ideal.toIntClamped_coe, if_pos hu, ← Int.natCast_floor_eq_floor hu]
  rw [← BitVec.ofInt_natCast]
  congr 1
  push_cast
  omega

theorem kb_of_kv (lo hi x : EReal) (u : ℝ) (hu : 0 ≤ u) (h : kv lo hi x = (u : EReal)) : kb lo hi x = min ⌊u⌋₊ 31 := by
  unfold kb
  rw [h, fptosi_nonneg u hu, minsi_31 _ (min_le_right _ _)]
  omega

/-- Between two reals the truncated value is the scaled distance from the lower. -/
theorem kv_real (lo hi x : ℝ) (h : lo < hi) : kv lo hi x = (((x - lo) * (32 / (hi - lo)) : ℝ) : EReal) := by
  unfold kv
  have hd : (hi - lo : ℝ) ≠ 0 := (sub_pos.mpr h).ne'
  rw [← EReal.coe_sub, Ideal.div_coe hd, ← EReal.coe_mul, ← EReal.coe_mul, ← EReal.coe_mul, ← EReal.coe_sub]
  congr 1
  field_simp

theorem kv_top (lo hi x : EReal) (h : hi - lo = ⊤) : kv lo hi x = ((0 : ℝ) : EReal) := by
  unfold kv
  rw [h]
  have e : Ideal.div ((32 : ℝ) : EReal) ⊤ = 0 := by simp [Ideal.div]
  rw [e]; simp

/-- When all means are equal the scale is infinite or zero, and the kernel's bin is the first: the truncated word is zero
    or the least one, whose lower 25 bits are zero. -/
theorem kb_self (x : EReal) : kb x x x = 0 := by
  have key : kv x x x = ((0 : ℝ) : EReal) ∨ kv x x x = ⊥ := by
    have e32 : Ideal.div ((32 : ℝ) : EReal) ⊥ = 0 := by simp [Ideal.div]
    have hbot : kv x x x = x * Ideal.div ((32 : ℝ) : EReal) (x - x) - x * Ideal.div ((32 : ℝ) : EReal) (x - x) := rfl
    rw [hbot]
    induction x with
    | bot =>
      left
      rw [show (⊥ : EReal) - ⊥ = ⊥ from by simp [sub_eq_add_neg], e32]; simp
    | top =>
      left
      rw [show (⊤ : EReal) - ⊤ = ⊥ from by simp [sub_eq_add_neg], e32]; simp
    | coe r =>
      have ed : Ideal.div ((32 : ℝ) : EReal) ((r : EReal) - r) = ⊤ := by
        rw [← EReal.coe_sub, sub_self]
        simp [Ideal.div]
      rw [ed]
      rcases lt_trichotomy r 0 with h | h | h
      · right; rw [EReal.coe_mul_top_of_neg h]; simp [sub_eq_add_neg]
      · left; subst h; simp
      · right; rw [EReal.coe_mul_top_of_pos h]; simp [sub_eq_add_neg]
  unfold kb
  rcases key with e | e
  · rw [e, fptosi_nonneg 0 le_rfl]; simp [IntOp.minsi]
  · rw [e]
    have : Ideal.fptosi 32 ⊥ = 2147483648#32 := by simp [Ideal.fptosi]
    rw [this]; decide

/-- Wherever the smallest mean is below the largest, each mean's bin is one of the thirty-two. -/
theorem kb_lt_of_lt (lo hi x : EReal) (h : lo < hi) (h0 : lo ≤ x) (h1 : x ≤ hi) : kb lo hi x < 32 := by
  have key : ∃ u : ℝ, 0 ≤ u ∧ kv lo hi x = (u : EReal) := by
    induction lo with
    | bot =>
      refine ⟨0, le_refl _, kv_top _ _ _ ?_⟩
      rw [sub_eq_add_neg, EReal.neg_bot, EReal.add_top_of_ne_bot h.ne']
    | top => exact absurd h (by simp)
    | coe lo =>
      induction hi with
      | bot => exact absurd h (by simp)
      | top => exact ⟨0, le_refl _, kv_top _ _ _ (EReal.top_sub_coe lo)⟩
      | coe hi =>
        induction x with
        | bot => exact absurd h0 (by simp)
        | top => exact absurd h1 (by simp)
        | coe x =>
          have h' : lo < hi := by exact_mod_cast h
          have h0' : lo ≤ x := by exact_mod_cast h0
          exact ⟨_, mul_nonneg (by linarith) (div_nonneg (by norm_num) (by linarith)), kv_real lo hi x h'⟩
  obtain ⟨u, hu, e⟩ := key
  rw [kb_of_kv lo hi x u hu e]
  omega

/-- Each mean's bin is one of the thirty-two. -/
theorem kb_lt (lo hi x : EReal) (h0 : lo ≤ x) (h1 : x ≤ hi) : kb lo hi x < 32 := by
  rcases (h0.trans h1).lt_or_eq with h | h
  · exact kb_lt_of_lt lo hi x h h0 h1
  · subst h
    rw [le_antisymm h1 h0, kb_self]
    decide

/-! ## The reference's bin -/

/-- Edge `k` of the reference's thirty-three. -/
def edge (lo hi : EReal) (k : ℕ) : EReal :=
  if k < 32 then lo * (1 - ((k : ℝ) : EReal) * ((1 / 32 : ℝ) : EReal)) + hi * (((k : ℝ) : EReal) * ((1 / 32 : ℝ) : EReal)) else hi

/-- How many edges lie below `x`. -/
def below (lo hi x : EReal) : ℕ := (Finset.univ.filter fun k : Fin 33 => edge lo hi k.val < x).card

/-- The reference's bin. -/
def rb (lo hi x : EReal) : ℕ :=
  (IntOp.minsi 31#32 (IntOp.maxsi 0#32 (IntOp.subi (BitVec.ofNat 32 (below lo hi x)) 1#32))).toNat

theorem clip_eq : ∀ n : Fin 34, (IntOp.minsi 31#32 (IntOp.maxsi 0#32 (IntOp.subi (BitVec.ofNat 32 n.val) 1#32)))
    = BitVec.ofNat 32 (min (n.val - 1) 31) := by decide

theorem below_le (lo hi x : EReal) : below lo hi x ≤ 33 := by
  unfold below
  exact (Finset.card_filter_le _ _).trans (by simp)

theorem rb_word (lo hi x : EReal) :
    IntOp.minsi 31#32 (IntOp.maxsi 0#32 (IntOp.subi (BitVec.ofNat 32 (below lo hi x)) 1#32)) = BitVec.ofNat 32 (rb lo hi x) := by
  unfold rb
  rw [BitVec.ofNat_toNat, BitVec.setWidth_eq]

theorem rb_eq (lo hi x : EReal) : rb lo hi x = min (below lo hi x - 1) 31 := by
  unfold rb
  rw [clip_eq ⟨below lo hi x, Nat.lt_succ_of_le (below_le lo hi x)⟩, BitVec.toNat_ofNat]
  simp only
  omega

theorem edge_real (lo hi : ℝ) (k : ℕ) (hk : k ≤ 32) : edge lo hi k = ((lo + k * (hi - lo) / 32 : ℝ) : EReal) := by
  unfold edge
  split
  · rw [← EReal.coe_mul, ← EReal.coe_one, ← EReal.coe_sub, ← EReal.coe_mul, ← EReal.coe_mul, ← EReal.coe_add]
    congr 1
    ring
  · have : k = 32 := by omega
    subst this
    congr 1
    push_cast
    ring

/-- When all means are equal, so are the edges. -/
theorem edge_self (x : EReal) (k : ℕ) : edge x x k = x := by
  unfold edge
  split
  · rename_i hk
    have h1 : (1 : EReal) - ((k : ℝ) : EReal) * ((1 / 32 : ℝ) : EReal) = ((1 - k * (1 / 32) : ℝ) : EReal) := by
      rw [← EReal.coe_mul, ← EReal.coe_one, ← EReal.coe_sub]
    have hk' : (k : ℝ) < 32 := by exact_mod_cast hk
    have hp : (0 : ℝ) < 1 - k * (1 / 32) := by linarith
    rw [h1, ← EReal.coe_mul]
    have h0 : (0 : ℝ) ≤ k * (1 / 32) := by positivity
    induction x with
    | bot => rw [EReal.bot_mul_coe_of_pos hp, EReal.bot_add]
    | top =>
      rw [EReal.top_mul_coe_of_pos hp, EReal.top_add_of_ne_bot]
      rcases h0.lt_or_eq with h | h
      · rw [EReal.top_mul_coe_of_pos h]; simp
      · rw [← h]; simp
    | coe r =>
      rw [← EReal.coe_mul, ← EReal.coe_mul, ← EReal.coe_add, EReal.coe_eq_coe_iff]
      ring
  · rfl

/-- An inner edge is not finite where the smallest mean is `⊥`: it is `⊥` too. -/
theorem edge_bot (hi : EReal) (k : ℕ) (hk : k < 32) : edge ⊥ hi k = ⊥ := by
  unfold edge
  rw [if_pos hk, ← EReal.coe_mul, ← EReal.coe_one, ← EReal.coe_sub, EReal.bot_mul_coe_of_pos, EReal.bot_add]
  have hk' : (k : ℝ) < 32 := by exact_mod_cast hk
  linarith

/-- Where the largest mean is `⊤` and the smallest is a real, an inner edge is `⊤`. -/
theorem edge_top (lo : ℝ) (k : ℕ) (h1 : 1 ≤ k) (hk : k < 32) : edge lo ⊤ k = ⊤ := by
  unfold edge
  have h1' : (1 : ℝ) ≤ k := by exact_mod_cast h1
  rw [if_pos hk, ← EReal.coe_mul, ← EReal.coe_one, ← EReal.coe_sub, ← EReal.coe_mul, EReal.top_mul_coe_of_pos (by linarith)]
  exact EReal.coe_add_top _

theorem rb_self (x : EReal) : rb x x x = 0 := by
  rw [rb_eq]
  have : below x x x = 0 := by
    unfold below
    rw [Finset.card_eq_zero, Finset.filter_eq_empty_iff]
    intro k _
    rw [edge_self]
    exact lt_irrefl x
  rw [this]; rfl

/-- The number of naturals below a real. -/
theorem card_lt (u : ℝ) (h1 : u ≤ 32) : (Finset.univ.filter fun k : Fin 33 => (k.val : ℝ) < u).card = ⌈u⌉₊ := by
  have hc : ⌈u⌉₊ ≤ 32 := Nat.ceil_le.mpr (by exact_mod_cast h1)
  have e : (Finset.univ.filter fun k : Fin 33 => (k.val : ℝ) < u) = Finset.univ.filter fun k : Fin 33 => k.val < ⌈u⌉₊ := by
    ext k; simp only [Finset.mem_filter, Finset.mem_univ, true_and, Nat.lt_ceil]
  rw [e, Fin.card_filter_val_lt]
  omega

theorem below_real (lo hi x : ℝ) (h : lo < hi) (h1 : x ≤ hi) : below lo hi x = ⌈(x - lo) * (32 / (hi - lo))⌉₊ := by
  have hd : 0 < hi - lo := by linarith
  unfold below
  rw [← card_lt _ (by rw [mul_div_assoc', div_le_iff₀ hd]; nlinarith)]
  congr 1
  ext k
  simp only [Finset.mem_filter, Finset.mem_univ, true_and]
  rw [edge_real lo hi k.val (by omega), EReal.coe_lt_coe_iff, mul_div_assoc', lt_div_iff₀ hd]
  constructor <;> intro h <;> nlinarith

/-- Between two reals, off the interior edges, the two bins are one. -/
theorem kb_eq_rb (lo hi x : ℝ) (h : lo < hi) (h0 : lo ≤ x) (h1 : x ≤ hi)
    (hne : ∀ k : ℕ, 1 ≤ k → k ≤ 31 → (x : EReal) ≠ edge lo hi k) : kb lo hi x = rb lo hi x := by
  have hd : 0 < hi - lo := by linarith
  rw [rb_eq, below_real lo hi x h h1]
  have hu : 0 ≤ (x - lo) * (32 / (hi - lo)) := mul_nonneg (by linarith) (div_nonneg (by norm_num) hd.le)
  rw [kb_of_kv _ _ _ _ hu (kv_real lo hi x h)]
  generalize hue : (x - lo) * (32 / (hi - lo)) = u at hu ⊢
  have hu1 : u ≤ 32 := by rw [← hue, mul_div_assoc', div_le_iff₀ hd]; nlinarith
  have hf : ∀ k : ℕ, 1 ≤ k → k ≤ 31 → u ≠ k := by
    intro k hk hk' e
    refine hne k hk hk' ?_
    rw [edge_real lo hi k (by omega)]
    congr 1
    rw [← e, ← hue]
    field_simp
    ring
  by_cases hi' : (⌊u⌋₊ : ℝ) = u
  · have hn : ⌈u⌉₊ = ⌊u⌋₊ := by rw [← hi', Nat.ceil_natCast, hi']
    rw [hn]
    have hle : ⌊u⌋₊ ≤ 32 := by
      have : (⌊u⌋₊ : ℝ) ≤ 32 := by rw [hi']; exact hu1
      exact_mod_cast this
    by_cases hz : 1 ≤ ⌊u⌋₊ ∧ ⌊u⌋₊ ≤ 31
    · exact absurd hi'.symm (hf _ hz.1 hz.2)
    · omega
  · have hlt : (⌊u⌋₊ : ℝ) < u := lt_of_le_of_ne (Nat.floor_le hu) hi'
    have hn : ⌈u⌉₊ = ⌊u⌋₊ + 1 := by
      apply le_antisymm
      · exact Nat.ceil_le_floor_add_one u
      · exact Nat.lt_ceil.mpr hlt
    rw [hn]
    simp

end Cert.Proof.Val

end
-- ==== Proof.Val.Means.lean ====
/-
  The means of the features, their smallest and their largest, over the extended reals: as the host computes them, and
  as the TensorCore call leaves them in blocks with a running minimum and maximum.
-/
module

public import proofs.«01_k».proof.Proof.Tc.Data
public import proofs.«01_k».proof.Proof.Gen.ReferenceIdeal
public import proofs.«01_k».proof.Proof.Val.Entropy
public import proofs.«01_k».proof.Proof.Val.Bins
public import Idealize.ShloMosaic.Lib.Pointwise
public import Idealize.ShloMosaic.Lib.Pipeline.Value

@[expose] public section

noncomputable section

namespace Cert.Proof.Val

open Idealize.ShloMosaic
open Idealize.ShloMosaic.ValueIdx (hostDivf_apply hostReduceAdd_apply broadcastInDim_scalar_apply)

abbrev A0 : Shape := ⟨3, ![64, 2048, 128]⟩
abbrev A1 : Shape := ⟨3, ![64, 4096, 128]⟩
abbrev AM : Shape := ⟨2, ![64, 6144]⟩

/-- The mean of sample `s`, column `T`: of the first argument below column 2048, of the second from there on. -/
def X (a : A0.Idx → EReal) (b : A1.Idx → EReal) (s : Fin 64) (T : Fin 6144) : EReal :=
  if h : T.val < 2048 then (∑ k : Fin 128, a (ix3 s ⟨T.val, h⟩ k)) * ((1 / 128 : ℝ) : EReal)
  else (∑ k : Fin 128, b (ix3 s ⟨T.val - 2048, by omega⟩ k)) * ((1 / 128 : ℝ) : EReal)

/-! ## The host's -/

section Host
open Cert.ReferenceIdeal Cert.ReferenceIdeal.Gen

/-- The host's array of means. -/
def HM (a : A0.Idx → EReal) (b : A1.Idx → EReal) : FVec Ideal S64x6144 .f32 :=
  concatenate S64x6144 1
    [⟨S64x2048, Host.divf (F := Ideal) (φ := .f32) (Host.reduceAdd (F := Ideal) (φ := .f32) a (constant S_ .f32 0x00000000#32) reducesTo_S64x2048x128_S64x2048_d2 h_S_)
        (broadcastInDim S64x2048 ![] bcast_S_S64x2048 (constant S_ .f32 0x43000000#32))⟩,
      ⟨S64x4096, Host.divf (F := Ideal) (φ := .f32) (Host.reduceAdd (F := Ideal) (φ := .f32) b (constant S_ .f32 0x00000000#32) reducesTo_S64x4096x128_S64x4096_d2 h_S_)
        (broadcastInDim S64x4096 ![] bcast_S_S64x4096 (constant S_ .f32 0x43000000#32))⟩]
    concatenates_S64x2048_S64x4096_S64x6144_d1

theorem HM_apply (a : A0.Idx → EReal) (b : A1.Idx → EReal) (s : Fin 64) (T : Fin 6144) : HM a b (ix2 s T) = X a b s T := by
  unfold HM X
  split
  · rename_i h
    refine (concatenate_pair_apply_left (s₁ := S64x2048) (s₂ := S64x4096) 1 _ _ _ (ix2 s T) rfl (ix2 (n1 := 2048) s ⟨T.val, h⟩) (by intro b; match b with | ⟨0, _⟩ => rfl | ⟨1, _⟩ => rfl)).trans ?_
    rw [hostDivf_apply, hostReduceAdd_apply, broadcastInDim_scalar_apply, constant_apply, constant_apply, Ideal.ofBits_def, Ideal.ofBits_def, ofBits_128, Ideal.div_coe (by norm_num),
      Ideal.hostReduceAdd_r3_a2, Ideal.ofBits_zero_f32, zero_add]
    rfl
  · rename_i h
    refine (concatenate_pair_apply_right (s₁ := S64x2048) (s₂ := S64x4096) 1 _ _ _ (ix2 s T) rfl rfl (ix2 (n1 := 4096) s ⟨T.val - 2048, by omega⟩) (by intro b hb; match b with | ⟨0, _⟩ => rfl | ⟨1, _⟩ => exact absurd rfl hb) (by show T.val - 2048 + 2048 = T.val; omega)).trans ?_
    rw [hostDivf_apply, hostReduceAdd_apply, broadcastInDim_scalar_apply, constant_apply, constant_apply, Ideal.ofBits_def, Ideal.ofBits_def, ofBits_128, Ideal.div_coe (by norm_num),
      Ideal.hostReduceAdd_r3_a2, Ideal.ofBits_zero_f32, zero_add]
    rfl

/-- The host's smallest and largest mean. -/
def HMN (M : FVec Ideal S64x6144 .f32) : FVec Ideal S_ .f32 :=
  Host.reduce FloatOps.minimumf M (constant S_ .f32 0x7F800000#32) reducesTo_S64x6144_S_d0_1 h_S_
def HMX (M : FVec Ideal S64x6144 .f32) : FVec Ideal S_ .f32 :=
  Host.reduce FloatOps.maximumf M (constant S_ .f32 0xFF800000#32) reducesTo_S64x6144_S_d0_1 h_S_

end Host

/-! ## Least and greatest -/

theorem fold_min_least {ι : Type} (s : Finset ι) (hs : s.Nonempty) (f : ι → EReal) : IsLeast (f '' s) (s.fold min ⊤ f) := by
  have lb : ∀ x ∈ s, s.fold min ⊤ f ≤ f x := (Finset.le_fold_min (s.fold min ⊤ f)).mp le_rfl |>.2
  refine ⟨?_, by rintro _ ⟨x, hx, rfl⟩; exact lb x hx⟩
  rcases (Finset.fold_min_le (s.fold min ⊤ f)).mp le_rfl with h | ⟨x, hx, h⟩
  · obtain ⟨x, hx⟩ := hs
    exact ⟨x, hx, le_antisymm (le_top.trans h) (lb x hx)⟩
  · exact ⟨x, hx, le_antisymm h (lb x hx)⟩

theorem fold_max_greatest {ι : Type} (s : Finset ι) (hs : s.Nonempty) (f : ι → EReal) : IsGreatest (f '' s) (s.fold max ⊥ f) := by
  have ub : ∀ x ∈ s, f x ≤ s.fold max ⊥ f := (Finset.fold_max_le (s.fold max ⊥ f)).mp le_rfl |>.2
  refine ⟨?_, by rintro _ ⟨x, hx, rfl⟩; exact ub x hx⟩
  rcases (Finset.le_fold_max (s.fold max ⊥ f)).mp le_rfl with h | ⟨x, hx, h⟩
  · obtain ⟨x, hx⟩ := hs
    exact ⟨x, hx, le_antisymm (ub x hx) (h.trans bot_le)⟩
  · exact ⟨x, hx, le_antisymm (ub x hx) h⟩

/-- The means of the columns from `p` up to `q`. -/
def cols (a : A0.Idx → EReal) (b : A1.Idx → EReal) (p q : ℕ) : Set EReal := {x | ∃ (s : Fin 64) (T : Fin 6144), p ≤ T.val ∧ T.val < q ∧ X a b s T = x}

theorem cols_union (a : A0.Idx → EReal) (b : A1.Idx → EReal) (p q r : ℕ) (h : p ≤ q) (h' : q ≤ r) : cols a b p r = cols a b p q ∪ cols a b q r := by
  ext x
  constructor
  · rintro ⟨s, T, h1, h2, e⟩
    by_cases hT : T.val < q
    · exact Or.inl ⟨s, T, h1, hT, e⟩
    · exact Or.inr ⟨s, T, by omega, h2, e⟩
  · rintro (⟨s, T, h1, h2, e⟩ | ⟨s, T, h1, h2, e⟩)
    · exact ⟨s, T, h1, by omega, e⟩
    · exact ⟨s, T, by omega, h2, e⟩

theorem HMN_least (a : A0.Idx → EReal) (b : A1.Idx → EReal) (j) : IsLeast (cols a b 0 6144) (HMN (HM a b) j) := by
  unfold HMN
  rw [Host.reduce_eq_fold, constant_apply, Ideal.ofBits_def, ofBits_top]
  have h := fold_min_least (Finset.univ.filter fun i => Cert.ReferenceIdeal.Gen.reducesTo_S64x6144_S_d0_1.drop i = j)
    ⟨ix2 0 0, Finset.mem_filter.mpr ⟨Finset.mem_univ _, funext fun x => x.elim0⟩⟩ (HM a b)
  refine Eq.subst (motive := fun S => IsLeast S _) ?_ h
  ext x
  symm
  constructor
  · rintro ⟨s, T, -, -, e⟩
    exact ⟨ix2 s T, by simp; exact funext fun x => x.elim0, by rw [HM_apply, e]⟩
  · rintro ⟨i, -, e⟩
    refine ⟨i 0, i 1, Nat.zero_le _, (i 1).isLt, ?_⟩
    rw [← e]
    refine (HM_apply a b (i 0) (i 1)).symm.trans (congrArg (HM a b) ?_)
    funext x; match x with | ⟨0, _⟩ => rfl | ⟨1, _⟩ => rfl

theorem HMX_greatest (a : A0.Idx → EReal) (b : A1.Idx → EReal) (j) : IsGreatest (cols a b 0 6144) (HMX (HM a b) j) := by
  unfold HMX
  rw [Host.reduce_eq_fold, constant_apply, Ideal.ofBits_def, ofBits_bot]
  have h := fold_max_greatest (Finset.univ.filter fun i => Cert.ReferenceIdeal.Gen.reducesTo_S64x6144_S_d0_1.drop i = j)
    ⟨ix2 0 0, Finset.mem_filter.mpr ⟨Finset.mem_univ _, funext fun x => x.elim0⟩⟩ (HM a b)
  refine Eq.subst (motive := fun S => IsGreatest S _) ?_ h
  ext x
  symm
  constructor
  · rintro ⟨s, T, -, -, e⟩
    exact ⟨ix2 s T, by simp; exact funext fun x => x.elim0, by rw [HM_apply, e]⟩
  · rintro ⟨i, -, e⟩
    refine ⟨i 0, i 1, Nat.zero_le _, (i 1).isLt, ?_⟩
    rw [← e]
    refine (HM_apply a b (i 0) (i 1)).symm.trans (congrArg (HM a b) ?_)
    funext x; match x with | ⟨0, _⟩ => rfl | ⟨1, _⟩ => rfl

/-! ## The kernel's -/

section Kernel
open Cert.KernelIdeal Cert.KernelIdeal.Gen Cert.Proof.Tc

theorem pay6_apply (v : Vec Ideal S64x256x128 .f32) (s : Fin 64) (c : Fin 256) :
    k0_pay6 (F := Ideal) v (ix2 s c) = (∑ k : Fin 128, (v (ix3 s c k) : EReal)) * ((1 / 128 : ℝ) : EReal) := by
  unfold k0_pay6
  dsimp only
  refine congrArg₂ (fun x y : EReal => x * y) ?_ ofBits_inv128
  refine (multiReduction_add_apply _ _ _ _ _ _).trans ?_
  rw [Ideal.reduceAdd_def, Ideal.reduceAdd_r3_a2]
  rfl

theorem pay11_apply (v : Vec Ideal S64x512x128 .f32) (s : Fin 64) (c : Fin 512) :
    k0_pay11 (F := Ideal) v (ix2 s c) = (∑ k : Fin 128, (v (ix3 s c k) : EReal)) * ((1 / 128 : ℝ) : EReal) := by
  unfold k0_pay11
  dsimp only
  refine congrArg₂ (fun x y : EReal => x * y) ?_ ofBits_inv128
  refine (multiReduction_add_apply _ _ _ _ _ _).trans ?_
  rw [Ideal.reduceAdd_def, Ideal.reduceAdd_r3_a2]
  rfl

theorem ix0_eq (p q r : ℕ) (hp : p < 64) (hq : q < 2048) (hr : r < 128) : ix0 p q r hp hq hr = (ix3 ⟨p, hp⟩ ⟨q, hq⟩ ⟨r, hr⟩ : A0.Idx) := by
  funext x; match x with | ⟨0, _⟩ => rfl | ⟨1, _⟩ => rfl | ⟨2, _⟩ => rfl
theorem ix1_eq (p q r : ℕ) (hp : p < 64) (hq : q < 4096) (hr : r < 128) : ix1 p q r hp hq hr = (ix3 ⟨p, hp⟩ ⟨q, hq⟩ ⟨r, hr⟩ : A1.Idx) := by
  funext x; match x with | ⟨0, _⟩ => rfl | ⟨1, _⟩ => rfl | ⟨2, _⟩ => rfl

variable (a : A0.Idx → EReal) (b : A1.Idx → EReal)

theorem blkA_mean (t : ℕ) (ht : t < 8) (s : Fin 64) (c : Fin 256) :
    k0_pay6 (F := Ideal) (blkA (F := Ideal) a t) (ix2 s c) = X a b s ⟨256 * t + c.val, by omega⟩ := by
  rw [pay6_apply]
  have h : 256 * t + c.val < 2048 := by omega
  unfold X
  rw [dif_pos h]
  refine congrArg (· * _) (Finset.sum_congr rfl fun k _ => ?_)
  unfold blkA
  rw [ix0_eq]
  refine congrArg a ?_
  have e0 : 256 * min t 7 + c.val = 256 * t + c.val := by omega
  funext x
  apply Fin.ext
  match x with
  | ⟨0, _⟩ => rfl
  | ⟨1, _⟩ => exact e0
  | ⟨2, _⟩ => rfl

theorem blkB_mean (t : ℕ) (ht : 8 ≤ t) (ht' : t < 16) (s : Fin 64) (c : Fin 512) :
    k0_pay11 (F := Ideal) (blkB (F := Ideal) b t) (ix2 s c) = X a b s ⟨2048 + 512 * (t - 8) + c.val, by omega⟩ := by
  rw [pay11_apply]
  have h : ¬ 2048 + 512 * (t - 8) + c.val < 2048 := by omega
  unfold X
  rw [dif_neg h]
  refine congrArg (· * _) (Finset.sum_congr rfl fun k _ => ?_)
  unfold blkB
  rw [ix1_eq]
  refine congrArg b ?_
  have e1 : 512 * min (t - 8) 7 + c.val = 2048 + 512 * (t - 8) + c.val - 2048 := by omega
  funext x
  apply Fin.ext
  match x with
  | ⟨0, _⟩ => exact Eq.refl s.val
  | ⟨1, _⟩ => exact e1
  | ⟨2, _⟩ => exact Eq.refl k.val

/-- The array of means that the call leaves holds at block `j`, sample `s`, column `c` the mean of column `128 j + c`. -/
theorem MEANS_apply (y : S48x64x128.Idx) :
    MEANS (F := Ideal) a b y = X a b ⟨(y 1).val, ltM1 y⟩ ⟨128 * (y 0).val + (y 2).val, by
      have h0 : (y 0).val < 48 := (y 0).isLt
      have := ltM2 y
      omega⟩ := by
  have h0 : (y 0).val < 48 := (y 0).isLt
  have h2 := ltM2 y
  unfold MEANS
  split
  · rename_i h
    have e := blkA_mean a b ((y 0).val / 2) (by omega) ⟨(y 1).val, ltM1 y⟩ ⟨128 * ((y 0).val % 2) + (y 2).val, by omega⟩
    refine Eq.trans ?_ (e.trans ?_)
    · refine congrArg _ ?_
      funext x; match x with | ⟨0, _⟩ => rfl | ⟨1, _⟩ => rfl
    · congr 1
      apply Fin.ext
      show 256 * ((y 0).val / 2) + (128 * ((y 0).val % 2) + (y 2).val) = 128 * (y 0).val + (y 2).val
      omega
  · rename_i h
    have e := blkB_mean a b ((y 0).val / 4 + 4) (by omega) (by omega) ⟨(y 1).val, ltM1 y⟩ ⟨128 * ((y 0).val % 4) + (y 2).val, by omega⟩
    refine Eq.trans ?_ (e.trans ?_)
    · refine congrArg _ ?_
      funext x; match x with | ⟨0, _⟩ => rfl | ⟨1, _⟩ => rfl
    · congr 1
      apply Fin.ext
      show 2048 + 512 * ((y 0).val / 4 + 4 - 8) + (128 * ((y 0).val % 4) + (y 2).val) = 128 * (y 0).val + (y 2).val
      omega

end Kernel

end Cert.Proof.Val

end
-- ==== Proof.Val.MinMax.lean ====
/-
  The running minimum and maximum that the TensorCore call keeps are, after its last point, the host's smallest
  and largest mean; and the two parameter rows, entry by entry.
-/
module

public import proofs.«01_k».proof.Proof.Val.Means

@[expose] public section

noncomputable section

namespace Cert.Proof.Val

open Idealize.ShloMosaic
open Cert.KernelIdeal Cert.KernelIdeal.Gen Cert.Proof.Tc

/-- The smallest element of an array, as the kernel takes it: of the array with a unit axis put before it. -/
theorem red_least {s t : Shape} {axes : List (Fin t.rank)} (v : s.Idx → EReal) (i0 : s.Idx) (hs : s.ShapeCasts t) (h : t.Reduces axes S1)
    (hφ : FKind.Formats .f32) (hacc : (0x7F800000#32 : BitVec (FTy.f32).bits) = FKind.minimumf.neutral .f32 hφ) (j : S1.Idx) :
    IsLeast (Set.range v) (multiReduction (F := Ideal) .minimumf axes S1 (shapeCast t v hs : FVec Ideal t .f32) 0x7F800000#32 h hφ hacc j) := by
  rw [multiReduction_minimumf_eq_fold, Ideal.ofBits_def, ofBits_top]
  have hu : ∀ i : t.Idx, i ∈ Finset.univ.filter fun i => h.drop i = j := fun i =>
    Finset.mem_filter.mpr ⟨Finset.mem_univ _, funext fun x => Fin.ext (by
      have h1 : (h.drop i x).val < 1 := by have := (h.drop i x).isLt; match x with | ⟨0, _⟩ => exact this
      have h2 : (j x).val < 1 := by have := (j x).isLt; match x with | ⟨0, _⟩ => exact this
      omega)⟩
  have h' := fold_min_least (Finset.univ.filter fun i => h.drop i = j) ⟨(Shape.reshapeEquiv hs).symm i0, hu _⟩ (shapeCast t v hs)
  refine Eq.subst (motive := fun S => IsLeast S _) ?_ h'
  ext x
  constructor
  · rintro ⟨i, -, e⟩; exact ⟨Shape.reshapeEquiv hs i, e⟩
  · rintro ⟨i, e⟩
    refine ⟨(Shape.reshapeEquiv hs).symm i, hu _, ?_⟩
    show v (Shape.reshapeEquiv hs ((Shape.reshapeEquiv hs).symm i)) = x
    rw [Equiv.apply_symm_apply, e]

theorem red_greatest {s t : Shape} {axes : List (Fin t.rank)} (v : s.Idx → EReal) (i0 : s.Idx) (hs : s.ShapeCasts t) (h : t.Reduces axes S1)
    (hφ : FKind.Formats .f32) (hacc : (0xFF800000#32 : BitVec (FTy.f32).bits) = FKind.maximumf.neutral .f32 hφ) (j : S1.Idx) :
    IsGreatest (Set.range v) (multiReduction (F := Ideal) .maximumf axes S1 (shapeCast t v hs : FVec Ideal t .f32) 0xFF800000#32 h hφ hacc j) := by
  rw [multiReduction_maximumf_eq_fold, Ideal.ofBits_def, ofBits_bot]
  have hu : ∀ i : t.Idx, i ∈ Finset.univ.filter fun i => h.drop i = j := fun i =>
    Finset.mem_filter.mpr ⟨Finset.mem_univ _, funext fun x => Fin.ext (by
      have h1 : (h.drop i x).val < 1 := by have := (h.drop i x).isLt; match x with | ⟨0, _⟩ => exact this
      have h2 : (j x).val < 1 := by have := (j x).isLt; match x with | ⟨0, _⟩ => exact this
      omega)⟩
  have h' := fold_max_greatest (Finset.univ.filter fun i => h.drop i = j) ⟨(Shape.reshapeEquiv hs).symm i0, hu _⟩ (shapeCast t v hs)
  refine Eq.subst (motive := fun S => IsGreatest S _) ?_ h'
  ext x
  constructor
  · rintro ⟨i, -, e⟩; exact ⟨Shape.reshapeEquiv hs i, e⟩
  · rintro ⟨i, e⟩
    refine ⟨(Shape.reshapeEquiv hs).symm i, hu _, ?_⟩
    show v (Shape.reshapeEquiv hs ((Shape.reshapeEquiv hs).symm i)) = x
    rw [Equiv.apply_symm_apply, e]

variable (a : A0.Idx → EReal) (b : A1.Idx → EReal)

theorem rangeA (t : ℕ) (ht : t < 8) : Set.range (k0_pay6 (F := Ideal) (blkA (F := Ideal) a t)) = cols a b (256 * t) (256 * (t + 1)) := by
  ext x
  constructor
  · rintro ⟨i, e⟩
    obtain ⟨s, c, rfl⟩ : ∃ (s : Fin 64) (c : Fin 256), i = ix2 s c := ⟨i 0, i 1, eq_ix2 i⟩
    have e' := blkA_mean a b t ht s c
    exact ⟨s, _, Nat.le_add_right _ _, by show 256 * t + c.val < _; omega, e'.symm.trans e⟩
  · rintro ⟨s, T, h1, h2, e⟩
    refine ⟨ix2 s ⟨T.val - 256 * t, by omega⟩, (blkA_mean a b t ht s _).trans (Eq.trans ?_ e)⟩
    congr 1
    apply Fin.ext
    show 256 * t + (T.val - 256 * t) = T.val
    omega

theorem rangeB (t : ℕ) (ht : 8 ≤ t) (ht' : t < 16) :
    Set.range (k0_pay11 (F := Ideal) (blkB (F := Ideal) b t)) = cols a b (2048 + 512 * (t - 8)) (2048 + 512 * (t + 1 - 8)) := by
  ext x
  constructor
  · rintro ⟨i, e⟩
    obtain ⟨s, c, rfl⟩ : ∃ (s : Fin 64) (c : Fin 512), i = ix2 s c := ⟨i 0, i 1, eq_ix2 i⟩
    have e' := blkB_mean a b t ht ht' s c
    exact ⟨s, _, Nat.le_add_right _ _, by show 2048 + 512 * (t - 8) + c.val < _; omega, e'.symm.trans e⟩
  · rintro ⟨s, T, h1, h2, e⟩
    refine ⟨ix2 s ⟨T.val - (2048 + 512 * (t - 8)), by omega⟩, (blkB_mean a b t ht ht' s _).trans (Eq.trans ?_ e)⟩
    congr 1
    apply Fin.ext
    show 2048 + 512 * (t - 8) + (T.val - (2048 + 512 * (t - 8))) = T.val
    omega

/-- The first column that point `t` reads, counted over the whole array of means. -/
def first (t : ℕ) : ℕ := if t < 8 then 256 * t else 2048 + 512 * (t - 8)

theorem minA (t : ℕ) (ht : t < 8) : IsLeast (cols a b (first t) (first (t + 1))) (k0_pay9 (F := Ideal) (blkA (F := Ideal) a t)) := by
  have e : first t = 256 * t := if_pos ht
  have e' : first (t + 1) = 256 * (t + 1) := by unfold first; split <;> omega
  rw [e, e', ← rangeA a b t ht]
  exact red_least _ (ix2 0 0) _ _ (.inl rfl) rfl _
theorem maxA (t : ℕ) (ht : t < 8) : IsGreatest (cols a b (first t) (first (t + 1))) (k0_pay10 (F := Ideal) (blkA (F := Ideal) a t)) := by
  have e : first t = 256 * t := if_pos ht
  have e' : first (t + 1) = 256 * (t + 1) := by unfold first; split <;> omega
  rw [e, e', ← rangeA a b t ht]
  exact red_greatest _ (ix2 0 0) _ _ (.inl rfl) rfl _
theorem minB (t : ℕ) (ht : 8 ≤ t) (ht' : t < 16) : IsLeast (cols a b (first t) (first (t + 1))) (k0_pay16 (F := Ideal) (blkB (F := Ideal) b t)) := by
  have e : first t = 2048 + 512 * (t - 8) := if_neg (by omega)
  have e' : first (t + 1) = 2048 + 512 * (t + 1 - 8) := if_neg (by omega)
  rw [e, e', ← rangeB a b t ht ht']
  exact red_least _ (ix2 0 0) _ _ (.inl rfl) rfl _
theorem maxB (t : ℕ) (ht : 8 ≤ t) (ht' : t < 16) : IsGreatest (cols a b (first t) (first (t + 1))) (k0_pay17 (F := Ideal) (blkB (F := Ideal) b t)) := by
  have e : first t = 2048 + 512 * (t - 8) := if_neg (by omega)
  have e' : first (t + 1) = 2048 + 512 * (t + 1 - 8) := if_neg (by omega)
  rw [e, e', ← rangeB a b t ht ht']
  exact red_greatest _ (ix2 0 0) _ _ (.inl rfl) rfl _

theorem first_mono (t : ℕ) : first t ≤ first (t + 1) := by unfold first; split <;> split <;> omega

theorem mn_least (t : ℕ) (ht : t < 16) : IsLeast (cols a b 0 (first (t + 1))) (mn (F := Ideal) a b t) := by
  induction t with
  | zero => exact minA a b 0 (by omega)
  | succ t ih =>
    rw [cols_union a b 0 (first (t + 1)) (first (t + 1 + 1)) (Nat.zero_le _) (first_mono _)]
    unfold mn
    by_cases h : t + 1 < 8
    · rw [if_pos h]; exact (ih (by omega)).union (minA a b (t + 1) h)
    · rw [if_neg h]; exact (ih (by omega)).union (minB a b (t + 1) (by omega) ht)

theorem mx_greatest (t : ℕ) (ht : t < 16) : IsGreatest (cols a b 0 (first (t + 1))) (mx (F := Ideal) a b t) := by
  induction t with
  | zero => exact maxA a b 0 (by omega)
  | succ t ih =>
    rw [cols_union a b 0 (first (t + 1)) (first (t + 1 + 1)) (Nat.zero_le _) (first_mono _)]
    unfold mx
    by_cases h : t + 1 < 8
    · rw [if_pos h]; exact (ih (by omega)).union (maxA a b (t + 1) h)
    · rw [if_neg h]; exact (ih (by omega)).union (maxB a b (t + 1) (by omega) ht)

/-- The smallest and the largest mean. -/
def lo : EReal := HMN (HM a b) (fun x => x.elim0)
def hi : EReal := HMX (HM a b) (fun x => x.elim0)

theorem mn_eq : mn (F := Ideal) a b 15 = lo a b := (mn_least a b 15 (by omega)).unique (HMN_least a b _)
theorem mx_eq : mx (F := Ideal) a b 15 = hi a b := (mx_greatest a b 15 (by omega)).unique (HMX_greatest a b _)
theorem HMN_eq (j) : HMN (HM a b) j = lo a b := (HMN_least a b j).unique (HMN_least a b _)
theorem HMX_eq (j) : HMX (HM a b) j = hi a b := (HMX_greatest a b j).unique (HMX_greatest a b _)
theorem lo_le (s : Fin 64) (T : Fin 6144) : lo a b ≤ X a b s T := (HMN_least a b _).2 ⟨s, T, Nat.zero_le _, T.isLt, rfl⟩
theorem le_hi (s : Fin 64) (T : Fin 6144) : X a b s T ≤ hi a b := (HMX_greatest a b _).2 ⟨s, T, Nat.zero_le _, T.isLt, rfl⟩
theorem lo_mem : ∃ (s : Fin 64) (T : Fin 6144), X a b s T = lo a b := by
  obtain ⟨s, T, -, -, e⟩ := (HMN_least a b fun x => x.elim0).1; exact ⟨s, T, e⟩
theorem hi_mem : ∃ (s : Fin 64) (T : Fin 6144), X a b s T = hi a b := by
  obtain ⟨s, T, -, -, e⟩ := (HMX_greatest a b fun x => x.elim0).1; exact ⟨s, T, e⟩

theorem pay5_lo (u v : EReal) (x : Fin 16) : k0_pay5 (F := Ideal) u v (ix2 0 x) = u := by
  unfold k0_pay5
  exact concatenate_pair_apply_left (s₁ := S1x16) (s₂ := S1x16) (t := S2x16) 0 _ _ _ (ix2 (n0 := 2) 0 x) rfl (ix2 (n0 := 1) 0 x) (by intro b; match b with | ⟨0, _⟩ => rfl | ⟨1, _⟩ => rfl)
theorem pay5_scale (u v : EReal) (x : Fin 16) : k0_pay5 (F := Ideal) u v (ix2 1 x) = Ideal.div ((32 : ℝ) : EReal) (v - u) := by
  rw [← ofBits_32]
  unfold k0_pay5
  exact concatenate_pair_apply_right (s₁ := S1x16) (s₂ := S1x16) (t := S2x16) 0 _ _ _ (ix2 (n0 := 2) 1 x) rfl rfl (ix2 (n0 := 1) 0 x) (by intro b hb; match b with | ⟨0, _⟩ => exact absurd rfl hb | ⟨1, _⟩ => rfl) rfl
theorem PARAMS_lo (x : Fin 16) : PARAMS (F := Ideal) a b (ix2 0 x) = lo a b := (pay5_lo _ _ x).trans (mn_eq a b)
theorem PARAMS_scale (x : Fin 16) : PARAMS (F := Ideal) a b (ix2 1 x) = Ideal.div ((32 : ℝ) : EReal) (hi a b - lo a b) := by
  refine (pay5_scale _ _ x).trans ?_
  rw [mn_eq, mx_eq]

end Cert.Proof.Val

end
-- ==== Proof.Tc.Region.lean ====
/-
  The TensorCore call as a region of the main function: its body obligation, the contents it leaves in its arrays.
-/
module

public import proofs.«01_k».proof.Proof.Tc.Data

@[expose] public section

noncomputable section

namespace Cert.Proof.Tc

open Cert.KernelIdeal Cert.KernelIdeal.Gen
open Cert.Proof.Sc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F] [Named F]

local notation "𝕄" => MT nD τ sig (HIx 1) (Elt F) ℕ UU ℕ

variable (m : (ℓ : Loc nD τ sig) → Buf (Elt F) ℓ)

theorem body_obligation [∀ e, Nonempty (Elt F e)] (c : Dev nD) : (rdat m c).BodyObligation (defs₀ (F := F)) 𝒱₀ none Set.univ := fun t Y hY => by
  have hN : t.val < 16 := Nat.lt_of_lt_of_eq t.isLt N_0
  have h0 : Y 0 = blkA (arg0 m c) t.val := finds0 m c t (Y 0) (hY 0)
  have h1 : Y 1 = blkB (arg1 m c) t.val := finds1 m c t (Y 1) (hY 1)
  have c1 := cond1_iff t
  have c4 := cond4_iff t
  have c7 := cond7_iff t
  have c2 := first_iff t
  have c3 := later_iff t
  rw [bigSep_W0, bigSep_W0]
  rw [show (rdat m c).Φ t.castSucc = scr m c t.val from rfl, show (rdat m c).Φ t.succ = scr m c (t.val + 1) from rfl,
    show (rdat m c).owesAt none t.succ = (rdat m c).owesAt none t.castSucc from rfl]
  have hA0 : (rdat m c).after 0 t (Y 0) (Y 0) := rfl
  have hA1 : (rdat m c).after 1 t (Y 1) (Y 1) := rfl
  by_cases h8 : t.val < 8
  · have hA2 : (rdat m c).after 2 t (Y 2) (blockLo (Y 0) (t.val % 2) (Y 2)) := by
      show _ = if t.val < 8 then _ else _
      rw [if_pos h8, h0]
    have hA3 : (rdat m c).after 3 t (Y 3) (Y 3) := by
      show _ = if t.val = 15 then _ else _
      rw [if_neg (by omega)]
    rcases Nat.eq_zero_or_pos t.val with hz | hz
    · have e0 : scr m c t.val = iprop(∃ d : S1x2.Idx → F .f32, owns (c : Thread nD τ) (Memref.whole cc0_scratch0) fullShare d) := by rw [hz]; rfl
      have e1 : scr m c (t.val + 1) = owns (c : Thread nD τ) (Memref.whole cc0_scratch0) fullShare (pair (k0_pay9 (Y 0)) (k0_pay10 (Y 0))) := by
        rw [h0, hz]; rfl
      rw [e0, e1]
      refine BIBase.Entails.trans ?_ (run_first (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (c1.mpr h8) (fun h => c4.mp h h8) (fun h => absurd (c7.mp h) (by omega)) (c2.mpr hz) (fun h => c3.mp h hz) (t.val % 2) (off1_eq t h8) (off0_eq t h8) (Y 0) (Y 2) _)
      iintro ⟨HΦ, HO, H0, H1, H2, H3⟩
      isplitl [H0]; · iexact H0
      isplitl [H2]; · iexact H2
      isplitl [HΦ]; · iexact HΦ
      iintro ⟨H0, H2, HΦ⟩
      isplitl [HΦ]; · iexact HΦ
      isplitl [HO]; · iexact HO
      isplitl [H0]; · iexists _; isplitr; swap; (· iexact H0); ipureintro; exact hA0
      isplitl [H1]; · iexists _; isplitr; swap; (· iexact H1); ipureintro; exact hA1
      isplitl [H2]; · iexists _; isplitr; swap; (· iexact H2); ipureintro; exact hA2
      iexists _; isplitr; swap; (· iexact H3); ipureintro; exact hA3
    · obtain ⟨k, hk⟩ : ∃ k, t.val = k + 1 := ⟨t.val - 1, by omega⟩
      have e0 : scr m c t.val = owns (c : Thread nD τ) (Memref.whole cc0_scratch0) fullShare (pair (mn (arg0 m c) (arg1 m c) k) (mx (arg0 m c) (arg1 m c) k)) := by
        rw [hk]; rfl
      have e1 : scr m c (t.val + 1) = owns (c : Thread nD τ) (Memref.whole cc0_scratch0) fullShare
          (pair (k0_pay1 (k0_pay9 (Y 0)) (mn (arg0 m c) (arg1 m c) k)) (k0_pay2 (k0_pay10 (Y 0)) (mx (arg0 m c) (arg1 m c) k))) := by
        have en : mn (arg0 m c) (arg1 m c) t.val = k0_pay1 (k0_pay9 (Y 0)) (mn (arg0 m c) (arg1 m c) k) := by
          rw [h0, hk]
          conv_lhs => unfold mn
          rw [if_pos (by omega)]
        have ex : mx (arg0 m c) (arg1 m c) t.val = k0_pay2 (k0_pay10 (Y 0)) (mx (arg0 m c) (arg1 m c) k) := by
          rw [h0, hk]
          conv_lhs => unfold mx
          rw [if_pos (by omega)]
        rw [← en, ← ex]; rfl
      rw [e0, e1]
      refine BIBase.Entails.trans ?_ (run_lo (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (c1.mpr h8) (fun h => c4.mp h h8) (fun h => absurd (c7.mp h) (by omega)) (fun h => absurd (c2.mp h) (by omega)) (c3.mpr (by omega)) (t.val % 2) (off1_eq t h8) (off0_eq t h8) (Y 0) (Y 2) (mn (arg0 m c) (arg1 m c) k) (mx (arg0 m c) (arg1 m c) k) _)
      iintro ⟨HΦ, HO, H0, H1, H2, H3⟩
      isplitl [H0]; · iexact H0
      isplitl [H2]; · iexact H2
      isplitl [HΦ]; · iexact HΦ
      iintro ⟨H0, H2, HΦ⟩
      isplitl [HΦ]; · iexact HΦ
      isplitl [HO]; · iexact HO
      isplitl [H0]; · iexists _; isplitr; swap; (· iexact H0); ipureintro; exact hA0
      isplitl [H1]; · iexists _; isplitr; swap; (· iexact H1); ipureintro; exact hA1
      isplitl [H2]; · iexists _; isplitr; swap; (· iexact H2); ipureintro; exact hA2
      iexists _; isplitr; swap; (· iexact H3); ipureintro; exact hA3
  · have hA2 : (rdat m c).after 2 t (Y 2) (blockHi (Y 1)) := by
      show _ = if t.val < 8 then _ else _
      rw [if_neg h8, h1]
    obtain ⟨k, hk⟩ : ∃ k, t.val = k + 1 := ⟨t.val - 1, by omega⟩
    have e0 : scr m c t.val = owns (c : Thread nD τ) (Memref.whole cc0_scratch0) fullShare (pair (mn (arg0 m c) (arg1 m c) k) (mx (arg0 m c) (arg1 m c) k)) := by
      rw [hk]; rfl
    have en : mn (arg0 m c) (arg1 m c) t.val = k0_pay3 (k0_pay16 (Y 1)) (mn (arg0 m c) (arg1 m c) k) := by
      rw [h1, hk]
      conv_lhs => unfold mn
      rw [if_neg (by omega)]
    have ex : mx (arg0 m c) (arg1 m c) t.val = k0_pay4 (k0_pay17 (Y 1)) (mx (arg0 m c) (arg1 m c) k) := by
      rw [h1, hk]
      conv_lhs => unfold mx
      rw [if_neg (by omega)]
    have e1 : scr m c (t.val + 1) = owns (c : Thread nD τ) (Memref.whole cc0_scratch0) fullShare
        (pair (k0_pay3 (k0_pay16 (Y 1)) (mn (arg0 m c) (arg1 m c) k)) (k0_pay4 (k0_pay17 (Y 1)) (mx (arg0 m c) (arg1 m c) k))) := by
      rw [← en, ← ex]; rfl
    rw [e0, e1]
    by_cases h15 : t.val = 15
    · have hA3 : (rdat m c).after 3 t (Y 3) (k0_pay5 (k0_pay3 (k0_pay16 (Y 1)) (mn (arg0 m c) (arg1 m c) k)) (k0_pay4 (k0_pay17 (Y 1)) (mx (arg0 m c) (arg1 m c) k))) := by
        show _ = if t.val = 15 then _ else _
        rw [if_pos h15, ← en, ← ex, h15]; rfl
      refine BIBase.Entails.trans ?_ (run_last (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (fun h => h8 (c1.mp h)) (c4.mpr h8) (c7.mpr h15) (fun h => absurd (c2.mp h) (by omega)) (c3.mpr (by omega)) (Y 1) (Y 2) (Y 3) (mn (arg0 m c) (arg1 m c) k) (mx (arg0 m c) (arg1 m c) k) _)
      iintro ⟨HΦ, HO, H0, H1, H2, H3⟩
      isplitl [H1]; · iexact H1
      isplitl [H2]; · iexact H2
      isplitl [H3]; · iexact H3
      isplitl [HΦ]; · iexact HΦ
      iintro ⟨H1, H2, H3, HΦ⟩
      isplitl [HΦ]; · iexact HΦ
      isplitl [HO]; · iexact HO
      isplitl [H0]; · iexists _; isplitr; swap; (· iexact H0); ipureintro; exact hA0
      isplitl [H1]; · iexists _; isplitr; swap; (· iexact H1); ipureintro; exact hA1
      isplitl [H2]; · iexists _; isplitr; swap; (· iexact H2); ipureintro; exact hA2
      iexists _; isplitr; swap; (· iexact H3); ipureintro; exact hA3
    · have hA3 : (rdat m c).after 3 t (Y 3) (Y 3) := by
        show _ = if t.val = 15 then _ else _
        rw [if_neg h15]
      refine BIBase.Entails.trans ?_ (run_hi (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (fun h => h8 (c1.mp h)) (c4.mpr h8) (fun h => h15 (c7.mp h)) (fun h => absurd (c2.mp h) (by omega)) (c3.mpr (by omega)) (Y 1) (Y 2) (mn (arg0 m c) (arg1 m c) k) (mx (arg0 m c) (arg1 m c) k) _)
      iintro ⟨HΦ, HO, H0, H1, H2, H3⟩
      isplitl [H1]; · iexact H1
      isplitl [H2]; · iexact H2
      isplitl [HΦ]; · iexact HΦ
      iintro ⟨H1, H2, HΦ⟩
      isplitl [HΦ]; · iexact HΦ
      isplitl [HO]; · iexact HO
      isplitl [H0]; · iexists _; isplitr; swap; (· iexact H0); ipureintro; exact hA0
      isplitl [H1]; · iexists _; isplitr; swap; (· iexact H1); ipureintro; exact hA1
      isplitl [H2]; · iexists _; isplitr; swap; (· iexact H2); ipureintro; exact hA2
      iexists _; isplitr; swap; (· iexact H3); ipureintro; exact hA3

/-! ## What the call leaves in its arrays -/

/-- An index of the array of means. -/
def ixM (a b c : ℕ) (ha : a < 48) (hb : b < 64) (hc : c < 128) : S48x64x128.Idx := fun | 0 => ⟨a, ha⟩ | 1 => ⟨b, hb⟩ | 2 => ⟨c, hc⟩

theorem ixM_lt (t : ℕ) (ht : t < 16) (y : S4x64x128.Idx) : 4 * (if t < 8 then t / 2 else t - 4) + (y 0).val < 48 := by
  have := lt0 y
  split <;> omega

theorem MEANS_ixM (a : S64x2048x128.Idx → F .f32) (b : S64x4096x128.Idx → F .f32) (r s l : ℕ) (hr : r < 48) (hs : s < 64) (hl : l < 128) :
    MEANS a b (ixM r s l hr hs hl) = if r < 16 then k0_pay6 (blkA a (r / 2)) (ixA s (128 * (r % 2) + l) hs (ltA _ _ hl))
      else k0_pay11 (blkB b (r / 4 + 4)) (ixB s (128 * (r % 4) + l) hs (ltB _ _ (Nat.mod_lt _ (by decide)) hl)) := rfl

theorem pay6_congr (a : S64x2048x128.Idx → F .f32) {t t' x x' s : ℕ} {hs hx hx'} (ht : t = t') (hxx : x = x') :
    k0_pay6 (blkA a t) (ixA s x hs hx) = k0_pay6 (blkA a t') (ixA s x' hs hx') := by subst ht hxx; rfl
theorem pay11_congr (b : S64x4096x128.Idx → F .f32) {t t' x x' s : ℕ} {hs hx hx'} (ht : t = t') (hxx : x = x') :
    k0_pay11 (blkB b t) (ixB s x hs hx) = k0_pay11 (blkB b t') (ixB s x' hs hx') := by subst ht hxx; rfl

theorem leaves2 [∀ e, Nonempty (Elt F e)] (c : Dev nD) (t : Fin cfg0.N) (ht : t.val < 16) (hf : win0_2.flush t = true) (X : S4x64x128.Idx → F .f32)
    (h : (rdat m c).Leaves 2 t X) (y : S4x64x128.Idx) :
    X y = MEANS (arg0 m c) (arg1 m c) (ixM (4 * (if t.val < 8 then t.val / 2 else t.val - 4) + (y 0).val) (y 1).val (y 2).val (ixM_lt t.val ht y) (lt1 y) (lt2 y)) := by
  have hy := lt0 y
  have hfl := (flush2_iff t).mp hf
  obtain ⟨Y, hY, hX⟩ := h
  replace hX : X = if t.val < 8 then blockLo (blkA (arg0 m c) t.val) (t.val % 2) Y else blockHi (blkB (arg1 m c) t.val) := hX
  rw [MEANS_ixM]
  by_cases h8 : t.val < 8
  · rw [if_pos h8] at hX
    simp only [if_pos h8]
    have hodd : t.val % 2 = 1 := by omega
    have h0 : t.val ≠ 0 := by omega
    have hp : t.val - 1 < cfg0.N := Nat.lt_of_le_of_lt (Nat.sub_le _ _) t.isLt
    rw [if_pos (by omega)]
    rcases ((rdat m c).finds_of_pos (w := 2) (t := t) rfl h0 Y).mp hY with hfl' | ⟨Y', -, hR⟩
    · exact absurd ((flush2_iff ⟨t.val - 1, hp⟩).mp hfl') (by
        show ¬ ((t.val - 1) % 2 = 1 ∨ 8 ≤ t.val - 1)
        omega)
    · replace hR : Y = if t.val - 1 < 8 then blockLo (blkA (arg0 m c) (t.val - 1)) ((t.val - 1) % 2) Y' else blockHi (blkB (arg1 m c) (t.val - 1)) := hR
      rw [if_pos (by omega)] at hR
      subst hX hR
      unfold blockLo
      by_cases hq : (y 0).val / 2 = t.val % 2
      · rw [if_pos hq]
        exact pay6_congr _ (by omega) (by omega)
      · rw [if_neg hq, if_pos (by omega)]
        exact pay6_congr _ (by omega) (by omega)
  · rw [if_neg h8] at hX
    simp only [if_neg h8]
    rw [if_neg (by omega)]
    subst hX
    unfold blockHi
    exact pay11_congr _ (by omega) (by omega)

theorem means_final [∀ e, Nonempty (Elt F e)] (c : Dev nD) (G : Buf (Elt F) (xLoc c)) (hG : (rdat m c).ArrAt 2 cfg0.N G) :
    G = MEANS (arg0 m c) (arg1 m c) := by
  obtain ⟨X, hX, hA⟩ := hG.exists_exact
  have e := hA (Function.update (fun _ _ _ => Classical.arbitrary _) 2 X) fun u _ _ => by rw [Function.update_self]
  rw [e]
  refine Dat.arrAt_eq_of_covers _ 2 _ covers2 fun t hf y => ?_
  have ht : t.val < 16 := Nat.lt_of_lt_of_eq t.isLt N_0
  rw [RDat.withAfter_after, Function.update_self]
  have ei := index2_eq
  refine (leaves2 m c t ht hf (X t) (hX t t.isLt hf) _).trans (congrArg (MEANS (arg0 m c) (arg1 m c)) ?_)
  funext a
  apply Fin.ext
  match a with
  | ⟨0, _⟩ => blk_simp [ei]; by_cases h8 : t.val < 8 <;> simp [ixM, h8] <;> omega
  | ⟨1, _⟩ => blk_simp [ei]; simp [ixM]
  | ⟨2, _⟩ => blk_simp [ei]; simp [ixM]

theorem params_final [∀ e, Nonempty (Elt F e)] (c : Dev nD) (G : Buf (Elt F) (pLoc c)) (hG : (rdat m c).ArrAt 3 cfg0.N G) :
    G = PARAMS (arg0 m c) (arg1 m c) := by
  obtain ⟨X, ⟨Y, -, hX⟩, hA⟩ := hG.emb_eq_of_wholeAt whole3
  replace hX : X = if t0_15.val = 15 then PARAMS (arg0 m c) (arg1 m c) else Y := hX
  rw [if_pos (show t0_15.val = 15 from rfl)] at hX
  subst hX
  funext j
  exact hA j

/-! ## The region -/

abbrev adm : (p : Fin 1) → (pcfgs (F := F) p).Adm := fun p => (cfgs p).toPCfg_adm
def rdats : (p : Fin 1) → (c : Dev nD) → RDat τ (Elt F) (HIx 1) ℕ UU ℕ (Pipeline.pin (pcfgs (F := F)) adm p) c := fun _ c => rdat m c

theorem Otc_none (c : Dev nD) (g : GSem nD τ sig) : ((K (F := F)).Otc c 0 : CellTallies nD τ sig (HIx 1)) g none = 0 := by
  refine Nat.eq_zero_of_not_pos fun h => ?_
  have := (K (F := F)).lev_of_Otc_pos h
  have e : (K (F := F)).lev g (none : HIx 1) = 0 := rfl
  omega

/-- The core's debts before the SparseCore call. -/
abbrev owing (c : Dev nD) : sProp 𝕄 :=
  iprop(∃ W, ⌜(K (F := F)).WBelow (SparseCore.T c) W (8 * (inferInstance : SparseCore.Cfg.Blocks 1 1).fst 0)⌝ ∗ owes (SparseCore.T c) ((K (F := F)).Otc c 0) W)

abbrev a0Loc (c : Dev nD) : Loc nD τ sig := (SparseCore.T c).loc main_arg0
abbrev a1Loc (c : Dev nD) : Loc nD τ sig := (SparseCore.T c).loc main_arg1

set_option backward.isDefEq.respectTransparency.types false in
def reg [∀ e, Nonempty (Elt F e)] : RDat.RegionSeg (pcfgs (F := F)) adm (rdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation m c
  hwaits c := RDat.cellsWaits_intro (Pipeline.pin (pcfgs (F := F)) adm) (rdats m) none 0 c fun w s t => (K (F := F)).mayWait_none _ (Otc_none c)
  pre c := iprop((a0Loc c ↦{fullShare} m (a0Loc c)) ∗ (a1Loc c ↦{fullShare} m (a1Loc c)) ∗ (xLoc c ↦{fullShare} m (xLoc c))
    ∗ (pLoc c ↦{fullShare} m (pLoc c)) ∗ owing (F := F) c)
  post c := iprop((a0Loc c ↦{fullShare} m (a0Loc c)) ∗ (a1Loc c ↦{fullShare} m (a1Loc c))
    ∗ (xLoc c ↦{fullShare} (MEANS (arg0 m c) (arg1 m c) : Buf (Elt F) (xLoc c)))
    ∗ (pLoc c ↦{fullShare} (PARAMS (arg0 m c) (arg1 m c) : Buf (Elt F) (pLoc c))) ∗ owing (F := F) c)
  X _ := BI.emp
  Y _ := BI.emp
  Z _ := BI.emp
  hentry c := by
    rw [Pipeline.ownSems0_none, Pipeline.prefHeld_of_none _ rfl]
    rw [RDat.arrays_eq (pcfgs (F := F)) adm (rdats m) 0 c launch0.arr_whole (fun w => by unfold RDat.share; split <;> rfl)]
    rw [bigSep_W0]
    iintro ⟨⟨H0, H1, H2, H3, %W, %hW, HO⟩, -, -⟩
    imodintro
    isplitl [H0 H1 H2 H3]
    · isplitl [H0]; · iexact H0
      isplitl [H1]; · iexact H1
      isplitl [H2]; · iexact H2
      iexact H3
    isplitr; · iempintro
    isplitl [HO]
    · iexists W
      isplitr; swap; · iexact HO
      ipureintro
      exact fun p hp => Or.inl (hW p hp)
    isplitr; · iempintro
    iempintro
  hin c := by
    rw [show (rdats m 0 c).Φ 0 = scr m c 0 from rfl]
    rw [show scr m c 0 = iprop(∃ d : S1x2.Idx → F .f32, owns (c : Thread nD τ) (Memref.whole cc0_scratch0) fullShare d) from rfl]
    iintro ⟨-, -, Hr⟩
    ihave H := (BIBase.Entails.of_eq (scopedRest0_eq (Val := Elt F) (Ix := HIx 1) (Name := ℕ) (U := UU) (Lvl := ℕ) c)) $$ Hr
    icases H with ⟨%f, H⟩
    iexists f
    iapply (BIBase.Entails.of_eq (owns_whole (c : Thread nD τ) cc0_scratch0 fullShare f).symm) $$ H
  hout c := by
    rw [Pipeline.ownSems0_none, show (rdats m 0 c).Φ (Fin.last _) = owns (c : Thread nD τ) (Memref.whole cc0_scratch0) fullShare (pair (mn (arg0 m c) (arg1 m c) 15) (mx (arg0 m c) (arg1 m c) 15)) from rfl]
    iintro Hr
    isplitr; · iempintro
    isplitr; · iempintro
    iapply (BIBase.Entails.of_eq (scopedRest0_eq (Val := Elt F) (Ix := HIx 1) (Name := ℕ) (U := UU) (Lvl := ℕ) c).symm)
    iexists _
    iapply (BIBase.Entails.of_eq (owns_whole (c : Thread nD τ) cc0_scratch0 fullShare _)) $$ Hr
  hexit c := by
    rw [RDat.arraysAt_eq (pcfgs (F := F)) adm (rdats m) 0 c launch0.arr_whole (fun w => by unfold RDat.share; split <;> rfl)]
    rw [bigSep_W0]
    iintro ⟨⟨⟨%f0, %h0, H0⟩, ⟨%f1, %h1, H1⟩, ⟨%f2, %h2, H2⟩, %f3, %h3, H3⟩, ⟨%W, %hW, HO⟩, -, -⟩
    have e0 : f0 = m (a0Loc c) := by
      have := RDat.ArrAt_in (rdat m c) 0 rfl (Pipeline.pin (pcfgs (F := F)) adm 0).N
      exact (congrFun this f0).mp h0
    have e1 : f1 = m (a1Loc c) := by
      have := RDat.ArrAt_in (rdat m c) 1 rfl (Pipeline.pin (pcfgs (F := F)) adm 0).N
      exact (congrFun this f1).mp h1
    have e2 := means_final m c f2 h2
    have e3 := params_final m c f3 h3
    subst e0 e1 e2 e3
    imodintro
    isplitl [H0]; · iexact H0
    isplitl [H1]; · iexact H1
    isplitl [H2]; · iexact H2
    isplitl [H3]; · iexact H3
    iexists W
    isplitr; swap; · iexact HO
    ipureintro
    intro p hp
    rcases hW hp with h | ⟨w, s, h⟩
    · exact h
    · rw [show p.2 = none from congrArg Prod.snd h]
      exact Nat.zero_le _

end Cert.Proof.Tc

end
-- ==== Proof.Sc.Steps.lean ====
/-
  The steps a tile's body is made of, each proved once for both of its chunks: a trip of the zeroing loop, one
  indexed add of sixteen columns of a row, a trip of the entropy loop, one store of the sixteen results.
-/
module

public import proofs.«01_k».proof.Proof.Sc.Setup

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords)

/-! ## Values -/

/-- Index `(r, c)` of a 64 × 128 array. -/
def ix2 (r c : ℕ) : S64x128.Idx := fun
  | 0 => (⟨r % 64, Nat.mod_lt _ (by decide)⟩ : Fin 64) | 1 => (⟨c % 128, Nat.mod_lt _ (by decide)⟩ : Fin 128)

/-- The bin the kernel gives the mean at row `r`, column `c`: scaled, shifted, truncated and capped at 31, of which
    the address `128 * bin + column` keeps the lower 25 bits. -/
def bin (xf : S64x128.Idx → F .f32) (s n : FVec F S16 .f32) (r c : ℕ) : ℕ :=
  (IntOp.minsi (FloatOps.fptosi 32 (FloatOps.subf (FloatOps.mulf (xf (ix2 r c)) (s (lane ⟨c % 16, Nat.mod_lt _ (by decide)⟩)))
    (n (lane ⟨c % 16, Nat.mod_lt _ (by decide)⟩))) : BitVec 32) 31#32).toNat % 33554432

/-- The table at `k`. -/
def tabAt (tf : S80.Idx → F .f32) (k : ℕ) : F .f32 := tf fun | 0 => (⟨k % 80, Nat.mod_lt _ (by decide)⟩ : Fin 80)

/-- The sum over the bins `2 n + p`, `n < m`, of the table at the bin's count in column `c`, in the kernel's order. -/
def eacc (b : ℕ → ℕ → ℕ) (tf : S80.Idx → F .f32) (p c : ℕ) : ℕ → F .f32
  | 0 => zeroF
  | m + 1 => FloatOps.addf (eacc b tf p c m) (tabAt tf (cnt b (2 * m + p) c 64))

/-- The entropy the kernel leaves for column `c`. -/
def outC (b : ℕ → ℕ → ℕ) (tf : S80.Idx → F .f32) (c : ℕ) : F .f32 :=
  FloatOps.subf (Named.named κ "log_batch" 0x40851592#32)
    (FloatOps.mulf (FloatOps.addf (eacc b tf 0 c 16) (eacc b tf 1 c 16)) (Scalar.ofBits .f32 0x3C800000#32))

/-- Sixteen of them, at columns `o + l`. -/
def outV (b : ℕ → ℕ → ℕ) (tf : S80.Idx → F .f32) (o : ℕ) : FVec F S16 .f32 := fun x => outC b tf (o + (x 0).val)
def eaccV (b : ℕ → ℕ → ℕ) (tf : S80.Idx → F .f32) (p o m : ℕ) : FVec F S16 .f32 := fun x => eacc b tf p (o + (x 0).val) m

/-- The flat positions the kernel adds at: `128 * bin + column`. -/
def flat (n : FVec F S16 .f32) (s : Vec F S16 .f32) (v19 v20 : IVec S16 32) (o : BitVec 32) (ld : Vec F S1x16 .f32) : IVec S16 32 :=
  addi (muli (minsi (fptosi 32 (subf (mulf (shapeCast S16 ld shapeCasts_S1x16_S16) s) n)) v20) (broadcast S16 128#32))
    (addi v19 (broadcast S16 o))

theorem lane_eq (x : S16.Idx) : x = lane (x 0) := by
  funext a; rw [Fin.eq_zero a]; rfl

theorem exists_lane (x : S16.Idx) : ∃ l : Fin 16, x = lane l := ⟨x 0, lane_eq x⟩

/-- Index `(0, l)` of a 1 × 16 array. -/
def row1 (l : Fin 16) : S1x16.Idx := fun | 0 => (0 : Fin 1) | 1 => l

theorem castIdx (l : Fin 16) : Shape.reshapeEquiv shapeCasts_S1x16_S16 (lane l) = row1 l := by
  revert l; decide

theorem cast_lane (ld : Vec F S1x16 .f32) (l : Fin 16) : shapeCast S16 ld shapeCasts_S1x16_S16 (lane l) = ld (row1 l) :=
  congrArg ld (castIdx l)

theorem cv_set : (cvM.access (.whole S4096)).set = Finset.univ := Memref.set_access_whole cc1_scratch4
theorem cv_read (f : S4096.Idx → F .f32) : (cvM.access (.whole S4096)).read (Elt F) f = f := Memref.read_access_whole (Elt F) cc1_scratch4 f
theorem cv_write (f w : S4096.Idx → F .f32) : (cvM.access (.whole S4096)).write (Elt F) f w Finset.univ = w :=
  Memref.write_access_whole_univ (Elt F) cc1_scratch4 f w
theorem tv_set : (tvM.access (.whole S80)).set = Finset.univ := Memref.set_access_whole cc1_scratch3
theorem tv_read (f : S80.Idx → F .f32) : (tvM.access (.whole S80)).read (Elt F) f = f := Memref.read_access_whole (Elt F) cc1_scratch3 f

theorem flat_lane (xf : S64x128.Idx → F .f32) (n s : FVec F S16 .f32) (v19 v20 : IVec S16 32) (r o : ℕ) (ob : BitVec 32)
    (hr : r < 64) (ho : o + 16 ≤ 128) (ho16 : o % 16 = 0) (hob : ob = BitVec.ofNat 32 o)
    (h19 : ∀ l : Fin 16, v19 (lane l) = BitVec.ofNat 32 l.val) (h20 : ∀ x, v20 x = 31#32)
    (hb : ∀ c < 128, bin xf s n r c < 32)
    (ld : Vec F S1x16 .f32) (hld : ∀ l : Fin 16, ld (row1 l) = xf (ix2 r (o + l.val))) (l : Fin 16) :
    (flat n s v19 v20 ob ld (lane l)).toNat = 128 * bin xf s n r (o + l.val) + (o + l.val) := by
  have hl := l.isLt
  have h := hb (o + l.val) (by omega)
  have hm : (⟨(o + l.val) % 16, Nat.mod_lt _ (by decide)⟩ : Fin 16) = l := Fin.ext (by show (o + l.val) % 16 = l.val; omega)
  unfold bin at h ⊢
  rw [hm] at h ⊢
  show (IntOp.addi (IntOp.muli (IntOp.minsi (FloatOps.fptosi 32 (FloatOps.subf (FloatOps.mulf
    (shapeCast S16 ld shapeCasts_S1x16_S16 (lane l)) (s (lane l))) (n (lane l)))) (v20 (lane l))) 128#32) (IntOp.addi (v19 (lane l)) ob)).toNat = _
  rw [cast_lane, hld, h19, h20, hob]
  generalize (IntOp.minsi (FloatOps.fptosi 32 (FloatOps.subf (FloatOps.mulf (xf (ix2 r (o + l.val))) (s (lane l))) (n (lane l)))) 31#32) = b at h ⊢
  simp only [IntOp.addi, IntOp.muli, BitVec.toNat_add, BitVec.toNat_mul, BitVec.toNat_ofNat]
  omega

/-! ## Stores of sixteen words -/

theorem cv_store (f : S4096.Idx → F .f32) {off : Fin 1 → ℕ} (n : ℕ) (hoff : off = ![n]) (inb : ∀ a, off a + S16.size a ≤ S4096.size a)
    (w : FVec F S16 .f32) (i : S4096.Idx) :
    (cvM.access (Rect.unit (s := S4096) off S16.size inb)).write (Elt F) f w Finset.univ i
      = if h : n ≤ (i 0).val ∧ (i 0).val < n + 16 then w (lane ⟨(i 0).val - n, by omega⟩) else f i := by
  have h := View.read_writes_cons_unit (v := View.whole cc1_scratch4) (Val := Elt F) f inb w [] i hoff
  refine h.trans ?_
  by_cases hc : n ≤ (i 0).val ∧ (i 0).val < n + 16
  · rw [dif_pos hc, dif_pos (fun a => by rw [Fin.eq_zero a]; exact hc)]
    refine congrArg w (funext fun a => ?_)
    rw [Fin.eq_zero a]; rfl
  · rw [dif_neg hc, dif_neg (fun h' => hc (h' 0))]; rfl

theorem ev_store (f : S128.Idx → F .f32) {off : Fin 1 → ℕ} (n : ℕ) (hoff : off = ![n]) (inb : ∀ a, off a + S16.size a ≤ S128.size a)
    (w : FVec F S16 .f32) (i : S128.Idx) :
    (evM.access (Rect.unit (s := S128) off S16.size inb)).write (Elt F) f w Finset.univ i
      = if h : n ≤ (i 0).val ∧ (i 0).val < n + 16 then w (lane ⟨(i 0).val - n, by omega⟩) else f i := by
  have h := View.read_writes_cons_unit (v := View.whole cc1_scratch5) (Val := Elt F) f inb w [] i hoff
  refine h.trans ?_
  by_cases hc : n ≤ (i 0).val ∧ (i 0).val < n + 16
  · rw [dif_pos hc, dif_pos (fun a => by rw [Fin.eq_zero a]; exact hc)]
    refine congrArg w (funext fun a => ?_)
    rw [Fin.eq_zero a]; rfl
  · rw [dif_neg hc, dif_neg (fun h' => hc (h' 0))]; rfl

/-! ## The steps -/

abbrev cvP (f : S4096.Idx → F .f32) : sProp 𝕄 := cvM.view.loc (thr d L) ↦{fullShare} f
abbrev tvP (f : S80.Idx → F .f32) : sProp 𝕄 := tvM.view.loc (thr d L) ↦{fullShare} f

/-- The counts' buffer with its first `16 n` words zero. -/
def zeros (n : ℕ) : sProp 𝕄 := iprop(∃ f : S4096.Idx → F .f32, ⌜∀ i, (i 0).val < 16 * n → f i = zeroF⌝ ∗ cvP d L f)

/-- The results' buffer with its first `o` words at their values. -/
def evHeld (g : ℕ → F .f32) (o : ℕ) : sProp 𝕄 :=
  iprop(∃ f : S128.Idx → F .f32, ⌜∀ i, (i 0).val < o → f i = g (i 0).val⌝ ∗ evM.view.loc (thr d L) ↦{fullShare} f)

theorem zero_step {off : Fin 1 → ℕ} (n : ℕ) (hoff : off = ![16 * n]) (inb : ∀ a, off a + S16.size a ≤ S4096.size a)
    (v : FVec F S16 .f32) (hv : v = fun _ => zeroF) {hl hst hm} {α : Type}
    (k : PUnit → Prog (TpuEff nD τ sig (Elt F) Λ₀ (thr d L).2) α) {Q : α → sProp 𝕄} :
    zeros d L n ⊢ iprop((zeros d L (n + 1) -∗ wp frame (wpE (defs₀ (F := F)) 𝒱₀ (thr d L) none) Set.univ (k ⟨⟩) Q)
      -∗ wp frame (wpE (defs₀ (F := F)) 𝒱₀ (thr d L) none) Set.univ
        (Prog.lift (.load cvM (Rect.unit (s := S4096) off S16.size inb).toLoadRect hl) >>= fun _ =>
          Prog.lift (.store cvM (Rect.unit (s := S4096) off S16.size inb) v Finset.univ hst hm) >>= k) Q) := by
  unfold zeros
  iintro ⟨%f, %hf, H⟩ Hk
  iapply (wp_load (defs := defs₀ (F := F)) 𝒱₀ (thr d L) none Set.univ (Q := Q) (S := Finset.univ) (q := fullShare) (f := f) (m := cvM) (hl := hl)
    (r := (Rect.unit (s := S4096) off S16.size inb).toLoadRect)
    (k := fun _ => Prog.lift (.store cvM (Rect.unit (s := S4096) off S16.size inb) v Finset.univ hst hm) >>= k) (Finset.subset_univ _)) $$ H
  iintro H
  iapply (wp_store (defs := defs₀ (F := F)) 𝒱₀ (thr d L) none Set.univ (Q := Q) (S := Finset.univ) (f := f) (m := cvM)
    (r := Rect.unit (s := S4096) off S16.size inb) (w := v) (Mk := Finset.univ) (hx := hst) (hm := hm) (k := k) (Finset.subset_univ _)) $$ H
  iintro H
  iapply Hk
  iexists _
  isplitr
  swap; · iexact H
  ipureintro
  intro i hi
  refine (cv_store f (16 * n) hoff inb v i).trans ?_
  split
  · rw [hv]
  · exact hf i (by omega)

theorem ev_step {off : Fin 1 → ℕ} (g : ℕ → F .f32) (o : ℕ) (hoff : off = ![o]) (inb : ∀ a, off a + S16.size a ≤ S128.size a)
    (v : FVec F S16 .f32) (hv : ∀ l : Fin 16, v (lane l) = g (o + l.val)) {hl hst hm} {α : Type}
    (k : PUnit → Prog (TpuEff nD τ sig (Elt F) Λ₀ (thr d L).2) α) {Q : α → sProp 𝕄} :
    evHeld d L g o ⊢ iprop((evHeld d L g (o + 16) -∗ wp frame (wpE (defs₀ (F := F)) 𝒱₀ (thr d L) none) Set.univ (k ⟨⟩) Q)
      -∗ wp frame (wpE (defs₀ (F := F)) 𝒱₀ (thr d L) none) Set.univ
        (Prog.lift (.load evM (Rect.unit (s := S128) off S16.size inb).toLoadRect hl) >>= fun _ =>
          Prog.lift (.store evM (Rect.unit (s := S128) off S16.size inb) v Finset.univ hst hm) >>= k) Q) := by
  unfold evHeld
  iintro ⟨%f, %hf, H⟩ Hk
  iapply (wp_load (defs := defs₀ (F := F)) 𝒱₀ (thr d L) none Set.univ (Q := Q) (S := Finset.univ) (q := fullShare) (f := f) (m := evM) (hl := hl)
    (r := (Rect.unit (s := S128) off S16.size inb).toLoadRect)
    (k := fun _ => Prog.lift (.store evM (Rect.unit (s := S128) off S16.size inb) v Finset.univ hst hm) >>= k) (Finset.subset_univ _)) $$ H
  iintro H
  iapply (wp_store (defs := defs₀ (F := F)) 𝒱₀ (thr d L) none Set.univ (Q := Q) (S := Finset.univ) (f := f) (m := evM)
    (r := Rect.unit (s := S128) off S16.size inb) (w := v) (Mk := Finset.univ) (hx := hst) (hm := hm) (k := k) (Finset.subset_univ _)) $$ H
  iintro H
  iapply Hk
  iexists _
  isplitr
  swap; · iexact H
  ipureintro
  intro i hi
  refine (ev_store f o hoff inb v i).trans ?_
  split
  · rename_i h
    rw [hv]; congr 1; show o + ((i 0).val - o) = _; omega
  · exact hf i (by omega)

theorem hist_step (m : Memref sig .scVector .vmem S64x128 .f32) {q : PosShare TreeShare} (f : Buf (Elt F) (m.view.loc (thr d L)))
    (xf : S64x128.Idx → F .f32) (hf : m.view.read (Elt F) f = xf) (n s : FVec F S16 .f32) (v18 : FVec F S16 .f32) (v19 v20 : IVec S16 32)
    (h18 : v18 = fun _ => oneF)
    (h19 : ∀ l : Fin 16, v19 (lane l) = BitVec.ofNat 32 l.val) (h20 : ∀ x, v20 x = 31#32)
    {off : Fin 2 → ℕ} (r o : ℕ) (hoff : off = ![r, o]) (inb : ∀ a, off a + S1x16.size a ≤ S64x128.size a)
    (ob : BitVec 32) (hob : ob = BitVec.ofNat 32 o) (hr : r < 64) (ho : o + 16 ≤ 128) (ho16 : o % 16 = 0)
    (hb : ∀ c < 128, bin xf s n r c < 32)
    (idx : Vec F S1x16 .f32 → IVec S16 32) (hidx : idx = flat n s v19 v20 ob)
    (chk : IVec S16 32 → Prop) (dec : ∀ v, Decidable (chk v)) (inbx : ∀ v, chk v → ∀ a x, ((![v] : Fin 1 → IVec S16 32) a x).toNat < S4096.size a)
    (hchk : ∀ v : IVec S16 32, (∀ x, (v x).toNat < 4096) → chk v) {hl hst} {α : Type}
    (k : PUnit → Prog (TpuEff nD τ sig (Elt F) Λ₀ (thr d L).2) α) {Q : α → sProp 𝕄} :
    iprop((m.view.loc (thr d L) ↦{q} f) ∗ cvP d L (cells (bin xf s n) r o))
      ⊢ iprop(((m.view.loc (thr d L) ↦{q} f) ∗ cvP d L (cells (bin xf s n) r (o + 16))
          -∗ wp frame (wpE (defs₀ (F := F)) 𝒱₀ (thr d L) none) Set.univ (k ⟨⟩) Q)
      -∗ wp frame (wpE (defs₀ (F := F)) 𝒱₀ (thr d L) none) Set.univ
        (Prog.lift (.load m (Rect.unit (s := S64x128) off S1x16.size inb).toLoadRect hl) >>= fun ld =>
          Prog.lift (.assume (chk (idx ld)) (dec (idx ld))) >>= fun hw =>
          SparseCore.vectorStoreIdx cvM ![idx ld] v18 (fun _ => 1#1) true (inbx (idx ld) hw.down) hst >>= k) Q) := by
  subst hidx
  iintro ⟨Hm, Hc⟩ Hk
  iapply (wp_load (defs := defs₀ (F := F)) 𝒱₀ (thr d L) none Set.univ (Q := Q) (S := Finset.univ) (q := q) (f := f) (m := m) (hl := hl)
    (r := (Rect.unit (s := S64x128) off S1x16.size inb).toLoadRect)
    (k := fun ld => Prog.lift (.assume (chk (flat n s v19 v20 ob ld)) (dec (flat n s v19 v20 ob ld))) >>= fun hw =>
          SparseCore.vectorStoreIdx cvM ![flat n s v19 v20 ob ld] v18 (fun _ => 1#1) true (inbx (flat n s v19 v20 ob ld) hw.down) hst >>= k)
    (Finset.subset_univ _)) $$ Hm
  iintro Hm
  have hld : ∀ l : Fin 16, m.view.readAt (Elt F) (Rect.unit (s := S64x128) off S1x16.size inb).toLoadRect f (row1 l)
      = xf (ix2 r (o + l.val)) := by
    intro l
    subst hoff
    have hl := l.isLt
    rw [View.readAt_apply, hf]
    refine congrArg xf (funext fun a => Fin.ext ?_)
    match a with
    | 0 => show r + 1 * 0 = r % 64; omega
    | 1 => show o + 1 * l.val = (o + l.val) % 128; omega
  generalize m.view.readAt (Elt F) (Rect.unit (s := S64x128) off S1x16.size inb).toLoadRect f = ld at hld
  have hlane := flat_lane xf n s v19 v20 r o ob hr ho ho16 hob h19 h20 hb ld hld
  have hc : chk (flat n s v19 v20 ob ld) := hchk _ fun x => by
    obtain ⟨l, rfl⟩ := exists_lane x
    have := hb (o + l.val) (by have := l.isLt; omega)
    have := l.isLt
    rw [hlane]
    omega
  iapply (Entails.of_eq (wp_assume_of (defs := defs₀ (F := F)) 𝒱₀ (thr d L) none Set.univ (Q := Q) (d := dec (flat n s v19 v20 ob ld)) (k := fun hw =>
          SparseCore.vectorStoreIdx cvM ![flat n s v19 v20 ob ld] v18 (fun _ => 1#1) true (inbx (flat n s v19 v20 ob ld) hw.down) hst >>= k) hc).symm)
  ihave Hc' := (Entails.of_eq (show cvP d L (cells (bin xf s n) r o)
    = ((cvM.access (.whole S4096)).loc (thr d L) ↦[(cvM.access (.whole S4096)).set]{fullShare} (cells (bin xf s n) r o) : sProp 𝕄) by
      rw [cv_set])) $$ Hc
  iapply (SparseCore.wp_vectorStoreIdx (defs := defs₀ (F := F)) 𝒱₀ (thr d L) none Set.univ (Q := Q) (base := cvM) (d := ![16]) (v := v18)
    (idxs := ![flat n s v19 v20 ob ld]) (mask := fun _ => 1#1) (add := true) (h := inbx (flat n s v19 v20 ob ld) hc) (hs := hst) (k := k)) $$ Hc'
  iintro Hc
  iapply Hk
  isplitl [Hm]; · iexact Hm
  iapply (Entails.of_eq (show ((cvM.access (.whole S4096)).loc (thr d L) ↦[(cvM.access (.whole S4096)).set]{fullShare} _ : sProp 𝕄)
    = cvP d L (cells (bin xf s n) r (o + 16)) by
      rw [cv_set, cv_read, cv_write,
        cells_scatter (bin xf s n) r o ho _ v18 h18 hlane])) $$ Hc

/-! ## A trip of the entropy loop -/

/-- What the entropy loop over columns `o …` holds before trip `t`. -/
def entI (b : ℕ → ℕ → ℕ) (tf : S80.Idx → F .f32) (o t : ℕ) (acc : FVec F S16 .f32 × FVec F S16 .f32) : sProp 𝕄 :=
  iprop(⌜acc = (eaccV b tf 0 o t, eaccV b tf 1 o t)⌝ ∗ cvP d L (cells b 64 0) ∗ tvP d L tf)

theorem cells_read (b : ℕ → ℕ → ℕ) (t o p : ℕ) (ho : o + 16 ≤ 128) (hp : p < 2) (ht : t < 16)
    {off : Fin 1 → ℕ} {oo : ℕ} (hoff : off = ![256 * t + oo]) (hoo : oo = o + 128 * p) (inb : ∀ a, off a + S16.size a ≤ S4096.size a) (l : Fin 16) :
    cvM.view.readAt (Elt F) (Rect.unit (s := S4096) off S16.size inb).toLoadRect (cells b 64 0) (lane l)
      = cw (cnt b (2 * t + p) (o + l.val) 64) := by
  subst hoff
  have hl := l.isLt
  rw [View.readAt_apply]
  show cells b 64 0 _ = _
  have h : (cvM.view.emb ((Rect.unit (s := S4096) ![256 * t + oo] S16.size inb).toLoadRect.idx (lane l)) 0).val = 256 * t + oo + l.val := by
    show 256 * t + oo + 1 * l.val = _; omega
  unfold cells
  erw [h]
  rw [show (256 * t + oo + l.val) / 128 = 2 * t + p by omega, show (256 * t + oo + l.val) % 128 = o + l.val by omega, if_neg (by omega)]

theorem ent_trip (b : ℕ → ℕ → ℕ) (tf : S80.Idx → F .f32) (hcw : ∀ n ≤ 64, FloatOps.fptosi 32 (cw n : F .f32) = BitVec.ofNat 32 n)
    (o t : ℕ) (ho : o + 16 ≤ 128) (ht : t < 16) (acc : FVec F S16 .f32 × FVec F S16 .f32)
    {offA offB : Fin 1 → ℕ} {oA oB : ℕ} (hA : offA = ![256 * t + oA]) (hoA : oA = o) (hB : offB = ![256 * t + oB]) (hoB : oB = o + 128)
    (inbA : ∀ a, offA a + S16.size a ≤ S4096.size a) (inbB : ∀ a, offB a + S16.size a ≤ S4096.size a)
    (chkA : IVec S16 32 → Prop) (decA : ∀ v, Decidable (chkA v)) (inA : ∀ v, chkA v → ∀ a x, ((![v] : Fin 1 → IVec S16 32) a x).toNat < S80.size a)
    (chkB : IVec S16 32 → Prop) (decB : ∀ v, Decidable (chkB v)) (inB : ∀ v, chkB v → ∀ a x, ((![v] : Fin 1 → IVec S16 32) a x).toNat < S80.size a)
    (hcA : ∀ v : IVec S16 32, (∀ x, (v x).toNat < 80) → chkA v) (hcB : ∀ v : IVec S16 32, (∀ x, (v x).toNat < 80) → chkB v)
    {hl1 hl2 hl3 hl4} :
    entI d L b tf o t acc ⊢ wp frame (wpE (defs₀ (F := F)) 𝒱₀ (thr d L) none) Set.univ
        (Prog.lift (.load cvM (Rect.unit (s := S4096) offA S16.size inbA).toLoadRect hl1) >>= fun v101 =>
          Prog.lift (.load cvM (Rect.unit (s := S4096) offB S16.size inbB).toLoadRect hl2) >>= fun v107 =>
          Prog.lift (.assume (chkA (fptosi 32 v101)) (decA (fptosi 32 v101))) >>= fun hw =>
          SparseCore.vectorLoadIdx tvM ![fptosi 32 v101] (inA (fptosi 32 v101) hw.down) hl3 >>= fun v109 =>
          Prog.lift (.assume (chkB (fptosi 32 v107)) (decB (fptosi 32 v107))) >>= fun hw' =>
          SparseCore.vectorLoadIdx tvM ![fptosi 32 v107] (inB (fptosi 32 v107) hw'.down) hl4 >>= fun v112 =>
          (pure (addf acc.1 v109, addf acc.2 v112) : Prog (TpuEff nD τ sig (Elt F) Λ₀ (thr d L).2) (FVec F S16 .f32 × FVec F S16 .f32)))
        (entI d L b tf o (t + 1)) := by
  unfold entI
  iintro ⟨%hacc, Hc, Ht⟩
  subst hacc
  iapply (wp_load (defs := defs₀ (F := F)) 𝒱₀ (thr d L) none Set.univ (S := Finset.univ) (q := fullShare) (f := cells b 64 0) (m := cvM) (hl := hl1)
    (r := (Rect.unit (s := S4096) offA S16.size inbA).toLoadRect) (Finset.subset_univ _)) $$ Hc
  iintro Hc
  iapply (wp_load (defs := defs₀ (F := F)) 𝒱₀ (thr d L) none Set.univ (S := Finset.univ) (q := fullShare) (f := cells b 64 0) (m := cvM) (hl := hl2)
    (r := (Rect.unit (s := S4096) offB S16.size inbB).toLoadRect) (Finset.subset_univ _)) $$ Hc
  iintro Hc
  have e1 := cells_read (F := F) b t o 0 ho (by omega) ht hA (by omega) inbA
  have e2 := cells_read (F := F) b t o 1 ho (by omega) ht hB (by omega) inbB
  generalize cvM.view.readAt (Elt F) (Rect.unit (s := S4096) offA S16.size inbA).toLoadRect (cells b 64 0) = wA at e1
  generalize cvM.view.readAt (Elt F) (Rect.unit (s := S4096) offB S16.size inbB).toLoadRect (cells b 64 0) = wB at e2
  have nA : ∀ l : Fin 16, ((fptosi 32 (wA : FVec F S16 .f32) : IVec S16 32) (lane l)).toNat = cnt b (2 * t + 0) (o + l.val) 64 := by
    intro l
    have := cnt_le b (2 * t + 0) (o + l.val) 64
    show (FloatOps.fptosi 32 (wA (lane l))).toNat = _
    rw [e1, hcw _ this, BitVec.toNat_ofNat]; omega
  have nB : ∀ l : Fin 16, ((fptosi 32 (wB : FVec F S16 .f32) : IVec S16 32) (lane l)).toNat = cnt b (2 * t + 1) (o + l.val) 64 := by
    intro l
    have := cnt_le b (2 * t + 1) (o + l.val) 64
    show (FloatOps.fptosi 32 (wB (lane l))).toNat = _
    rw [e2, hcw _ this, BitVec.toNat_ofNat]; omega
  have cA : chkA (fptosi 32 (wA : FVec F S16 .f32)) := hcA _ fun x => by
    obtain ⟨l, rfl⟩ := exists_lane x
    rw [nA]; have := cnt_le b (2 * t + 0) (o + l.val) 64; omega
  have cB : chkB (fptosi 32 (wB : FVec F S16 .f32)) := hcB _ fun x => by
    obtain ⟨l, rfl⟩ := exists_lane x
    rw [nB]; have := cnt_le b (2 * t + 1) (o + l.val) 64; omega
  iapply (Entails.of_eq (wp_assume_of (defs := defs₀ (F := F)) 𝒱₀ (thr d L) none Set.univ (d := decA (fptosi 32 (wA : FVec F S16 .f32))) cA).symm)
  ihave Ht := (Entails.of_eq (show tvP d L tf
    = ((tvM.access (.whole S80)).loc (thr d L) ↦{fullShare} tf : sProp 𝕄) from rfl)) $$ Ht
  iapply (SparseCore.wp_vectorLoadIdx (defs := defs₀ (F := F)) 𝒱₀ (thr d L) none Set.univ (base := tvM) (f := tf) (q := fullShare) (S := Finset.univ)
    (idxs := ![fptosi 32 (wA : FVec F S16 .f32)]) (h := inA _ cA) (hl := hl3) (Finset.subset_univ _)) $$ Ht
  iintro Ht
  iapply (Entails.of_eq (wp_assume_of (defs := defs₀ (F := F)) 𝒱₀ (thr d L) none Set.univ (d := decB (fptosi 32 (wB : FVec F S16 .f32))) cB).symm)
  iapply (SparseCore.wp_vectorLoadIdx (defs := defs₀ (F := F)) 𝒱₀ (thr d L) none Set.univ (base := tvM) (f := tf) (q := fullShare) (S := Finset.univ)
    (idxs := ![fptosi 32 (wB : FVec F S16 .f32)]) (h := inB _ cB) (hl := hl4) (Finset.subset_univ _)) $$ Ht
  iintro Ht
  iapply (Entails.of_eq (wp_pure _ _ _ _ _).symm)
  imodintro
  isplitr
  · ipureintro
    refine Prod.ext (funext fun x => ?_) (funext fun x => ?_)
    · obtain ⟨l, rfl⟩ := exists_lane x
      show FloatOps.addf (eacc b tf 0 (o + l.val) t) _ = FloatOps.addf (eacc b tf 0 (o + l.val) t) _
      congr 1
      rw [tv_read]
      show (_ : F .f32) = tabAt tf (cnt b (2 * t + 0) (o + l.val) 64)
      rw [← nA]
      refine congrArg tf (funext fun a => Fin.ext ?_)
      rw [Fin.eq_zero a]
      show _ = _ % 80
      rw [Nat.mod_eq_of_lt]; · rfl
      exact inA _ cA 0 (lane l)
    · obtain ⟨l, rfl⟩ := exists_lane x
      show FloatOps.addf (eacc b tf 1 (o + l.val) t) _ = FloatOps.addf (eacc b tf 1 (o + l.val) t) _
      congr 1
      rw [tv_read]
      show (_ : F .f32) = tabAt tf (cnt b (2 * t + 1) (o + l.val) 64)
      rw [← nB]
      refine congrArg tf (funext fun a => Fin.ext ?_)
      rw [Fin.eq_zero a]
      show _ = _ % 80
      rw [Nat.mod_eq_of_lt]; · rfl
      exact inB _ cB 0 (lane l)
  isplitl [Hc]; · iexact Hc
  iexact Ht

end Cert.Proof.Sc

end
-- ==== Proof.Sc.Parts.lean ====
/-
  The stretches of a tile's body, each with the values it leaves.
-/
module

public import proofs.«01_k».proof.Proof.Sc.Steps

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords)

theorem ent_loop (b : ℕ → ℕ → ℕ) (tf : S80.Idx → F .f32) (o : ℕ) {lb ub st : BitVec 32} (hok : Scf.OK lb ub st)
    (hn : Scf.trips lb ub st = 16) (z : FVec F S16 .f32) (hz : z = fun _ => zeroF)
    (body : Fin (Scf.trips lb ub st) → FVec F S16 .f32 × FVec F S16 .f32 → Prog (TpuEff nD τ sig (Elt F) Λ₀ (thr d L).2) (FVec F S16 .f32 × FVec F S16 .f32))
    (hbody : ∀ k acc, entI d L b tf o k.val acc ⊢ wp frame (wpE (defs₀ (F := F)) 𝒱₀ (thr d L) none) Set.univ (body k acc) (entI d L b tf o (k.val + 1)))
    {α : Type} (kk : FVec F S16 .f32 × FVec F S16 .f32 → Prog (TpuEff nD τ sig (Elt F) Λ₀ (thr d L).2) α) {Q : α → sProp 𝕄} :
    iprop(cvP d L (cells b 64 0) ∗ tvP d L tf)
      ⊢ iprop((cvP d L (cells b 64 0) ∗ tvP d L tf -∗ wp frame (wpE (defs₀ (F := F)) 𝒱₀ (thr d L) none) Set.univ (kk (eaccV b tf 0 o 16, eaccV b tf 1 o 16)) Q)
        -∗ wp frame (wpE (defs₀ (F := F)) 𝒱₀ (thr d L) none) Set.univ (Scf.for lb ub st hok (z, z) body >>= kk) Q) := by
  iintro ⟨Hc, Ht⟩ Hk
  iapply (Scf.wp_for_bind frame (wpE (defs₀ (F := F)) 𝒱₀ (thr d L) none) Set.univ lb ub st hok (z, z) body (entI d L b tf o) hbody) $$ [Hc Ht]
  · unfold entI
    isplitr
    · ipureintro; rw [hz]; rfl
    isplitl [Hc] <;> iassumption
  iintro %acc Hi
  unfold entI
  icases Hi with ⟨%hacc, Hc, Ht⟩
  rw [hn] at hacc
  subst hacc
  iapply Hk
  isplitl [Hc] <;> iassumption

set_option maxHeartbeats 4000000 in
theorem part9 (b : ℕ → ℕ → ℕ) (tf : S80.Idx → F .f32) (hcw : ∀ n ≤ 64, FloatOps.fptosi 32 (cw n : F .f32) = BitVec.ofNat 32 n)
    (v17 v53 : FVec F S16 .f32) (h17 : v17 = fun _ => zeroF) (h53 : ∀ l : Fin 16, v53 (lane l) = outC b tf (32 + l.val)) :
    iprop(cvP d L (cells b 64 0) ∗ tvP d L tf ∗ evHeld d L (outC b tf) 32)
      ⊢ wp frame (wpE (defs₀ (F := F)) 𝒱₀ (thr d L) none) Set.univ (k1_part9 L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v17 v53)
        fun r => iprop(⌜r = ⟨k1_pay74, addf (eaccV b tf 0 96 16) (eaccV b tf 1 96 16)⟩⌝ ∗ cvP d L (cells b 64 0) ∗ tvP d L tf ∗ evHeld d L (outC b tf) 96) := by
  rw [k1_part9_eq_skeleton]; unfold k1_part9_skel
  iintro ⟨Hc, Ht, He⟩
  iapply (ev_step d L (outC b tf) 32 rfl _ v53 (h53) _) $$ He
  iintro He
  iapply (ent_loop d L b tf 48 (lb := k1_t6_loop.lb) (ub := k1_t6_loop.ub) (st := k1_t6_loop.st) k1_t6_ok (by decide) _ h17 _ (fun (t : Fin k1_t6_loop.trips) ⟨a0, a1⟩ => ent_trip d L b tf hcw 48 t.val (by decide) t.isLt (a0, a1) (k1_off18_eq t) rfl (k1_off19_eq t) rfl
    (k1_off18_inb t) (k1_off19_inb t) (k1_chk15) (k1_chk15.dec) (k1_idx15_inb)
    (k1_chk16) (k1_chk16.dec) (k1_idx16_inb)
    (fun v h a x => by rw [Fin.eq_zero a]; exact h x) (fun v h a x => by rw [Fin.eq_zero a]; exact h x)) _) $$ [Hc Ht]
  · isplitl [Hc] <;> iassumption
  iintro ⟨Hc, Ht⟩
  iapply (ev_step d L (outC b tf) 48 rfl _ _ (fun _ => rfl) _) $$ He
  iintro He
  iapply (ent_loop d L b tf 64 (lb := k1_t7_loop.lb) (ub := k1_t7_loop.ub) (st := k1_t7_loop.st) k1_t7_ok (by decide) _ h17 _ (fun (t : Fin k1_t7_loop.trips) ⟨a0, a1⟩ => ent_trip d L b tf hcw 64 t.val (by decide) t.isLt (a0, a1) (k1_off20_eq t) rfl (k1_off21_eq t) rfl
    (k1_off20_inb t) (k1_off21_inb t) (k1_chk17) (k1_chk17.dec) (k1_idx17_inb)
    (k1_chk18) (k1_chk18.dec) (k1_idx18_inb)
    (fun v h a x => by rw [Fin.eq_zero a]; exact h x) (fun v h a x => by rw [Fin.eq_zero a]; exact h x)) _) $$ [Hc Ht]
  · isplitl [Hc] <;> iassumption
  iintro ⟨Hc, Ht⟩
  iapply (ev_step d L (outC b tf) 64 rfl _ _ (fun _ => rfl) _) $$ He
  iintro He
  iapply (ent_loop d L b tf 80 (lb := k1_t8_loop.lb) (ub := k1_t8_loop.ub) (st := k1_t8_loop.st) k1_t8_ok (by decide) _ h17 _ (fun (t : Fin k1_t8_loop.trips) ⟨a0, a1⟩ => ent_trip d L b tf hcw 80 t.val (by decide) t.isLt (a0, a1) (k1_off22_eq t) rfl (k1_off23_eq t) rfl
    (k1_off22_inb t) (k1_off23_inb t) (k1_chk19) (k1_chk19.dec) (k1_idx19_inb)
    (k1_chk20) (k1_chk20.dec) (k1_idx20_inb)
    (fun v h a x => by rw [Fin.eq_zero a]; exact h x) (fun v h a x => by rw [Fin.eq_zero a]; exact h x)) _) $$ [Hc Ht]
  · isplitl [Hc] <;> iassumption
  iintro ⟨Hc, Ht⟩
  iapply (ev_step d L (outC b tf) 80 rfl _ _ (fun _ => rfl) _) $$ He
  iintro He
  iapply (ent_loop d L b tf 96 (lb := k1_t9_loop.lb) (ub := k1_t9_loop.ub) (st := k1_t9_loop.st) k1_t9_ok (by decide) _ h17 _ (fun (t : Fin k1_t9_loop.trips) ⟨a0, a1⟩ => ent_trip d L b tf hcw 96 t.val (by decide) t.isLt (a0, a1) (k1_off24_eq t) rfl (k1_off25_eq t) rfl
    (k1_off24_inb t) (k1_off25_inb t) (k1_chk21) (k1_chk21.dec) (k1_idx21_inb)
    (k1_chk22) (k1_chk22.dec) (k1_idx22_inb)
    (fun v h a x => by rw [Fin.eq_zero a]; exact h x) (fun v h a x => by rw [Fin.eq_zero a]; exact h x)) _) $$ [Hc Ht]
  · isplitl [Hc] <;> iassumption
  iintro ⟨Hc, Ht⟩
  iapply (Entails.of_eq (wp_pure _ _ _ _ _).symm)
  imodintro
  isplitr
  · ipureintro; rfl
  isplitl [Hc]; · iexact Hc
  isplitl [Ht]; · iexact Ht
  iexact He

theorem zero_loop1 (f : S4096.Idx → F .f32) (b : ℕ → ℕ → ℕ) (v14 v16 v17 v18 : FVec F S16 .f32) (v19 v20 : IVec S16 32) (h17 : v17 = fun _ => zeroF) (v25 : BitVec 32)
    {α : Type} (kk : BitVec 32 → Prog (TpuEff nD τ sig (Elt F) Λ₀ (thr d L).2) α) {Q : α → sProp 𝕄} :
    cvP d L f
      ⊢ iprop((∀ acc, cvP d L (cells b 0 0) -∗ wp frame (wpE (defs₀ (F := F)) 𝒱₀ (thr d L) none) Set.univ (kk acc) Q)
        -∗ wp frame (wpE (defs₀ (F := F)) 𝒱₀ (thr d L) none) Set.univ (Scf.Loop.for k1_t1_loop k1_t1_ok 0#32 (k1_t1_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v14 v16 v17 v18 v19 v20 v25) >>= kk) Q) := by
  iintro H Hk
  iapply (Scf.wp_for_bind frame (wpE (defs₀ (F := F)) 𝒱₀ (thr d L) none) Set.univ k1_t1_loop.lb k1_t1_loop.ub k1_t1_loop.st k1_t1_ok 0#32
    (k1_t1_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v14 v16 v17 v18 v19 v20 v25)
    (fun t _ => zeros d L t) (fun (t : Fin k1_t1_loop.trips) acc => by
      unfold k1_t1_body
      iintro H
      iapply (zero_step d L t.val (k1_off3_eq t) (k1_off3_inb t) v17 h17 _) $$ H
      iintro H
      iapply (Entails.of_eq (wp_pure _ _ _ _ _).symm)
      imodintro
      iexact H)) $$ [H]
  · unfold zeros
    iexists f
    isplitr
    · ipureintro; intro i hi; omega
    iexact H
  iintro %acc Hz
  unfold zeros
  icases Hz with ⟨%f', %hf', H⟩
  have h0 : f' = cells b 0 0 := by
    rw [cells_zero]; funext i
    exact hf' i (i 0).isLt
  subst h0
  iapply Hk $$ %acc H

theorem zero_loop2 (f : S4096.Idx → F .f32) (b : ℕ → ℕ → ℕ) (v14 v16 v17 v18 : FVec F S16 .f32) (v19 v20 : IVec S16 32) (h17 : v17 = fun _ => zeroF) (h2 : k1_cond2 L = 1#1) (v1 : BitVec 32)
    {α : Type} (kk : BitVec 32 → Prog (TpuEff nD τ sig (Elt F) Λ₀ (thr d L).2) α) {Q : α → sProp 𝕄} :
    cvP d L f
      ⊢ iprop((∀ acc, cvP d L (cells b 0 0) -∗ wp frame (wpE (defs₀ (F := F)) 𝒱₀ (thr d L) none) Set.univ (kk acc) Q)
        -∗ wp frame (wpE (defs₀ (F := F)) 𝒱₀ (thr d L) none) Set.univ (Scf.Loop.for k1_t11_loop (k1_t11_ok L h2) 0#32 (k1_t11_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v1 v14 v16 v17 v18 v19 v20 h2) >>= kk) Q) := by
  iintro H Hk
  iapply (Scf.wp_for_bind frame (wpE (defs₀ (F := F)) 𝒱₀ (thr d L) none) Set.univ k1_t11_loop.lb k1_t11_loop.ub k1_t11_loop.st (k1_t11_ok L h2) 0#32
    (k1_t11_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v1 v14 v16 v17 v18 v19 v20 h2)
    (fun t _ => zeros d L t) (fun (t : Fin k1_t11_loop.trips) acc => by
      unfold k1_t11_body
      iintro H
      iapply (zero_step d L t.val (k1_off30_eq t) (k1_off30_inb L t h2) v17 h17 _) $$ H
      iintro H
      iapply (Entails.of_eq (wp_pure _ _ _ _ _).symm)
      imodintro
      iexact H)) $$ [H]
  · unfold zeros
    iexists f
    isplitr
    · ipureintro; intro i hi; omega
    iexact H
  iintro %acc Hz
  unfold zeros
  icases Hz with ⟨%f', %hf', H⟩
  have h0 : f' = cells b 0 0 := by
    rw [cells_zero]; funext i
    exact hf' i (i 0).isLt
  subst h0
  iapply Hk $$ %acc H

set_option maxHeartbeats 4000000 in
theorem hist_trip1 (f : Buf (Elt F) (x0M.view.loc (thr d L))) (xf : S64x128.Idx → F .f32) (hf : x0M.view.read (Elt F) f = xf)
    (v14 v16 v17 v18 : FVec F S16 .f32) (v19 v20 : IVec S16 32)
    (h18 : v18 = fun _ => oneF) (h19 : ∀ l : Fin 16, v19 (lane l) = BitVec.ofNat 32 l.val) (h20 : ∀ x, v20 x = 31#32)
    (hb : ∀ r < 64, ∀ c < 128, bin xf v16 v14 r c < 32) (v25 : BitVec 32)
    (t : Fin k1_t2_loop.trips) (acc : BitVec 32) :
    iprop((x0M.view.loc (thr d L) ↦{fullShare} f) ∗ cvP d L (cells (bin xf v16 v14) t.val 0))
      ⊢ wp frame (wpE (defs₀ (F := F)) 𝒱₀ (thr d L) none) Set.univ (k1_t2_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v14 v16 v17 v18 v19 v20 v25 t acc)
        fun _ => iprop((x0M.view.loc (thr d L) ↦{fullShare} f) ∗ cvP d L (cells (bin xf v16 v14) (t.val + 1) 0)) := by
  have ht : t.val < 64 := t.isLt
  unfold k1_t2_body
  simp only [k1_part1_eq_skeleton, k1_part2_eq_skeleton]
  unfold k1_part1_skel k1_part2_skel
  simp only [bind_assoc, pure_bind]
  iintro ⟨Hm, Hc⟩
  iapply (hist_step d L x0M f xf hf v14 v16 v18 v19 v20 h18 h19 h20 t.val 0 (k1_off4_eq t) (k1_off4_inb t) 0#32 rfl ht (by decide) (by decide)
    (hb t.val ht) _ rfl (k1_chk1) (k1_chk1.dec) (k1_idx1_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 16 (k1_off5_eq t) (k1_off5_inb t) 16#32 rfl ht (by decide) (by decide)
    (hb t.val ht) _ rfl (k1_chk2) (k1_chk2.dec) (k1_idx2_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 32 (k1_off6_eq t) (k1_off6_inb t) 32#32 rfl ht (by decide) (by decide)
    (hb t.val ht) _ rfl (k1_chk3) (k1_chk3.dec) (k1_idx3_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 48 (k1_off7_eq t) (k1_off7_inb t) 48#32 rfl ht (by decide) (by decide)
    (hb t.val ht) _ rfl (k1_chk4) (k1_chk4.dec) (k1_idx4_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 64 (k1_off8_eq t) (k1_off8_inb t) 64#32 rfl ht (by decide) (by decide)
    (hb t.val ht) _ rfl (k1_chk5) (k1_chk5.dec) (k1_idx5_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 80 (k1_off9_eq t) (k1_off9_inb t) 80#32 rfl ht (by decide) (by decide)
    (hb t.val ht) _ rfl (k1_chk6) (k1_chk6.dec) (k1_idx6_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 96 (k1_off10_eq t) (k1_off10_inb t) 96#32 rfl ht (by decide) (by decide)
    (hb t.val ht) _ rfl (k1_chk7) (k1_chk7.dec) (k1_idx7_inb)
    (fun v h a x => by rw [Fin.eq_zero a]; exact h x) _) $$ [Hm Hc]
  · isplitl [Hm] <;> iassumption
  iintro ⟨Hm, Hc⟩
  iapply (hist_step d L x0M f xf hf v14 v16 v18 v19 v20 h18 h19 h20 t.val 112 (k1_off11_eq t) (k1_off11_inb t) 112#32 rfl ht (by decide) (by decide)
    (hb t.val ht) _ rfl (k1_chk8) (k1_chk8.dec) (k1_idx8_inb)
    (fun v h a x => by rw [Fin.eq_zero a]; exact h x) _) $$ [Hm Hc]
  · isplitl [Hm] <;> iassumption
  iintro ⟨Hm, Hc⟩
  rw [cells_row]
  iapply (Entails.of_eq (wp_pure _ _ _ _ _).symm)
  imodintro
  isplitl [Hm] <;> iassumption

theorem hist_loop1 (f : Buf (Elt F) (x0M.view.loc (thr d L))) (xf : S64x128.Idx → F .f32) (hf : x0M.view.read (Elt F) f = xf)
    (v14 v16 v17 v18 : FVec F S16 .f32) (v19 v20 : IVec S16 32)
    (h18 : v18 = fun _ => oneF) (h19 : ∀ l : Fin 16, v19 (lane l) = BitVec.ofNat 32 l.val) (h20 : ∀ x, v20 x = 31#32)
    (hb : ∀ r < 64, ∀ c < 128, bin xf v16 v14 r c < 32) (v25 : BitVec 32)
    {α : Type} (kk : BitVec 32 → Prog (TpuEff nD τ sig (Elt F) Λ₀ (thr d L).2) α) {Q : α → sProp 𝕄} :
    iprop((x0M.view.loc (thr d L) ↦{fullShare} f) ∗ cvP d L (cells (bin xf v16 v14) 0 0))
      ⊢ iprop((∀ acc, (x0M.view.loc (thr d L) ↦{fullShare} f) ∗ cvP d L (cells (bin xf v16 v14) 64 0) -∗ wp frame (wpE (defs₀ (F := F)) 𝒱₀ (thr d L) none) Set.univ (kk acc) Q)
        -∗ wp frame (wpE (defs₀ (F := F)) 𝒱₀ (thr d L) none) Set.univ (Scf.Loop.for k1_t2_loop k1_t2_ok 0#32 (k1_t2_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v14 v16 v17 v18 v19 v20 v25) >>= kk) Q) := by
  iintro H Hk
  iapply (Scf.wp_for_bind frame (wpE (defs₀ (F := F)) 𝒱₀ (thr d L) none) Set.univ k1_t2_loop.lb k1_t2_loop.ub k1_t2_loop.st k1_t2_ok 0#32
    (k1_t2_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v14 v16 v17 v18 v19 v20 v25)
    (fun t _ => iprop((x0M.view.loc (thr d L) ↦{fullShare} f) ∗ cvP d L (cells (bin xf v16 v14) t 0)))
    (fun t acc => hist_trip1 d L f xf hf v14 v16 v17 v18 v19 v20 h18 h19 h20 hb v25 t acc)) $$ H
  rw [show Scf.trips k1_t2_loop.lb k1_t2_loop.ub k1_t2_loop.st = 64 from by decide]
  iintro %acc Hi
  iapply Hk $$ %acc Hi

set_option maxHeartbeats 4000000 in
theorem hist_trip2 (f : Buf (Elt F) (x1M.view.loc (thr d L))) (xf : S64x128.Idx → F .f32) (hf : x1M.view.read (Elt F) f = xf)
    (v14 v16 v17 v18 : FVec F S16 .f32) (v19 v20 : IVec S16 32)
    (h18 : v18 = fun _ => oneF) (h19 : ∀ l : Fin 16, v19 (lane l) = BitVec.ofNat 32 l.val) (h20 : ∀ x, v20 x = 31#32)
    (hb : ∀ r < 64, ∀ c < 128, bin xf v16 v14 r c < 32) (h2 : k1_cond2 L = 1#1) (v1 : BitVec 32)
    (t : Fin k1_t12_loop.trips) (acc : BitVec 32) :
    iprop((x1M.view.loc (thr d L) ↦{fullShare} f) ∗ cvP d L (cells (bin xf v16 v14) t.val 0))
      ⊢ wp frame (wpE (defs₀ (F := F)) 𝒱₀ (thr d L) none) Set.univ (k1_t12_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v1 v14 v16 v17 v18 v19 v20 h2 t acc)
        fun _ => iprop((x1M.view.loc (thr d L) ↦{fullShare} f) ∗ cvP d L (cells (bin xf v16 v14) (t.val + 1) 0)) := by
  have ht : t.val < 64 := t.isLt
  unfold k1_t12_body
  simp only [k1_part3_eq_skeleton, k1_part4_eq_skeleton]
  unfold k1_part3_skel k1_part4_skel
  simp only [bind_assoc, pure_bind]
  iintro ⟨Hm, Hc⟩
  iapply (hist_step d L x1M f xf hf v14 v16 v18 v19 v20 h18 h19 h20 t.val 0 (k1_off31_eq t) (k1_off31_inb L t h2) 0#32 rfl ht (by decide) (by decide)
    (hb t.val ht) _ rfl (k1_chk25 L) (k1_chk25.dec L) (fun v hv => k1_idx25_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 16 (k1_off32_eq t) (k1_off32_inb L t h2) 16#32 rfl ht (by decide) (by decide)
    (hb t.val ht) _ rfl (k1_chk26 L) (k1_chk26.dec L) (fun v hv => k1_idx26_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 32 (k1_off33_eq t) (k1_off33_inb L t h2) 32#32 rfl ht (by decide) (by decide)
    (hb t.val ht) _ rfl (k1_chk27 L) (k1_chk27.dec L) (fun v hv => k1_idx27_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 48 (k1_off34_eq t) (k1_off34_inb L t h2) 48#32 rfl ht (by decide) (by decide)
    (hb t.val ht) _ rfl (k1_chk28 L) (k1_chk28.dec L) (fun v hv => k1_idx28_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 64 (k1_off35_eq t) (k1_off35_inb L t h2) 64#32 rfl ht (by decide) (by decide)
    (hb t.val ht) _ rfl (k1_chk29 L) (k1_chk29.dec L) (fun v hv => k1_idx29_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 80 (k1_off36_eq t) (k1_off36_inb L t h2) 80#32 rfl ht (by decide) (by decide)
    (hb t.val ht) _ rfl (k1_chk30 L) (k1_chk30.dec L) (fun v hv => k1_idx30_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 96 (k1_off37_eq t) (k1_off37_inb L t h2) 96#32 rfl ht (by decide) (by decide)
    (hb t.val ht) _ rfl (k1_chk31 L) (k1_chk31.dec L) (fun v hv => k1_idx31_inb L v hv h2)
    (fun v h _ a x => by rw [Fin.eq_zero a]; exact h x) _) $$ [Hm Hc]
  · isplitl [Hm] <;> iassumption
  iintro ⟨Hm, Hc⟩
  iapply (hist_step d L x1M f xf hf v14 v16 v18 v19 v20 h18 h19 h20 t.val 112 (k1_off38_eq t) (k1_off38_inb L t h2) 112#32 rfl ht (by decide) (by decide)
    (hb t.val ht) _ rfl (k1_chk32 L) (k1_chk32.dec L) (fun v hv => k1_idx32_inb L v hv h2)
    (fun v h _ a x => by rw [Fin.eq_zero a]; exact h x) _) $$ [Hm Hc]
  · isplitl [Hm] <;> iassumption
  iintro ⟨Hm, Hc⟩
  rw [cells_row]
  iapply (Entails.of_eq (wp_pure _ _ _ _ _).symm)
  imodintro
  isplitl [Hm] <;> iassumption

theorem hist_loop2 (f : Buf (Elt F) (x1M.view.loc (thr d L))) (xf : S64x128.Idx → F .f32) (hf : x1M.view.read (Elt F) f = xf)
    (v14 v16 v17 v18 : FVec F S16 .f32) (v19 v20 : IVec S16 32)
    (h18 : v18 = fun _ => oneF) (h19 : ∀ l : Fin 16, v19 (lane l) = BitVec.ofNat 32 l.val) (h20 : ∀ x, v20 x = 31#32)
    (hb : ∀ r < 64, ∀ c < 128, bin xf v16 v14 r c < 32) (h2 : k1_cond2 L = 1#1) (v1 : BitVec 32)
    {α : Type} (kk : BitVec 32 → Prog (TpuEff nD τ sig (Elt F) Λ₀ (thr d L).2) α) {Q : α → sProp 𝕄} :
    iprop((x1M.view.loc (thr d L) ↦{fullShare} f) ∗ cvP d L (cells (bin xf v16 v14) 0 0))
      ⊢ iprop((∀ acc, (x1M.view.loc (thr d L) ↦{fullShare} f) ∗ cvP d L (cells (bin xf v16 v14) 64 0) -∗ wp frame (wpE (defs₀ (F := F)) 𝒱₀ (thr d L) none) Set.univ (kk acc) Q)
        -∗ wp frame (wpE (defs₀ (F := F)) 𝒱₀ (thr d L) none) Set.univ (Scf.Loop.for k1_t12_loop (k1_t12_ok L h2) 0#32 (k1_t12_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v1 v14 v16 v17 v18 v19 v20 h2) >>= kk) Q) := by
  iintro H Hk
  iapply (Scf.wp_for_bind frame (wpE (defs₀ (F := F)) 𝒱₀ (thr d L) none) Set.univ k1_t12_loop.lb k1_t12_loop.ub k1_t12_loop.st (k1_t12_ok L h2) 0#32
    (k1_t12_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v1 v14 v16 v17 v18 v19 v20 h2)
    (fun t _ => iprop((x1M.view.loc (thr d L) ↦{fullShare} f) ∗ cvP d L (cells (bin xf v16 v14) t 0)))
    (fun t acc => hist_trip2 d L f xf hf v14 v16 v17 v18 v19 v20 h18 h19 h20 hb h2 v1 t acc)) $$ H
  rw [show Scf.trips k1_t12_loop.lb k1_t12_loop.ub k1_t12_loop.st = 64 from by decide]
  iintro %acc Hi
  iapply Hk $$ %acc Hi

set_option maxHeartbeats 4000000 in
theorem part8 (f : Buf (Elt F) (x0M.view.loc (thr d L))) (xf : S64x128.Idx → F .f32) (hf : x0M.view.read (Elt F) f = xf)
    (v14 v16 v17 v18 : FVec F S16 .f32) (v19 v20 : IVec S16 32)
    (h18 : v18 = fun _ => oneF) (h19 : ∀ l : Fin 16, v19 (lane l) = BitVec.ofNat 32 l.val) (h20 : ∀ x, v20 x = 31#32)
    (hb : ∀ r < 64, ∀ c < 128, bin xf v16 v14 r c < 32) (v25 : BitVec 32) (h17 : v17 = fun _ => zeroF)
    (f8 : S4096.Idx → F .f32) (f9 : S128.Idx → F .f32)
    (tf : S80.Idx → F .f32) (hcw : ∀ n ≤ 64, FloatOps.fptosi 32 (cw n : F .f32) = BitVec.ofNat 32 n) :
    iprop((x0M.view.loc (thr d L) ↦{fullShare} f) ∗ cvP d L f8 ∗ tvP d L tf ∗ (evM.view.loc (thr d L) ↦{fullShare} f9))
      ⊢ wp frame (wpE (defs₀ (F := F)) 𝒱₀ (thr d L) none) Set.univ (k1_part8 L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v14 v16 v17 v18 v19 v20 v25)
        fun r => iprop(⌜∀ l : Fin 16, r (lane l) = outC (bin xf v16 v14) tf (32 + l.val)⌝ ∗ (x0M.view.loc (thr d L) ↦{fullShare} f)
          ∗ cvP d L (cells (bin xf v16 v14) 64 0) ∗ tvP d L tf ∗ evHeld d L (outC (bin xf v16 v14) tf) 32) := by
  rw [k1_part8_eq_skeleton]; unfold k1_part8_skel
  iintro ⟨Hx, Hc, Ht, He⟩
  ihave He : evHeld d L (outC (bin xf v16 v14) tf) 0 $$ [He]
  · unfold evHeld
    iexists f9
    isplitr
    · ipureintro; intro i hi; omega
    iexact He
  iapply (zero_loop1 d L f8 (bin xf v16 v14) v14 v16 v17 v18 v19 v20 h17 v25 _) $$ Hc
  iintro %_a Hc
  iapply (hist_loop1 d L f xf hf v14 v16 v17 v18 v19 v20 h18 h19 h20 hb v25 _) $$ [Hx Hc]
  · isplitl [Hx] <;> iassumption
  iintro %_a ⟨Hx, Hc⟩
  iapply (ent_loop d L (bin xf v16 v14) tf 0 (lb := k1_t3_loop.lb) (ub := k1_t3_loop.ub) (st := k1_t3_loop.st) k1_t3_ok (by decide) _ h17 _ (fun (t : Fin k1_t3_loop.trips) ⟨a0, a1⟩ => ent_trip d L (bin xf v16 v14) tf hcw 0 t.val (by decide) t.isLt (a0, a1) (k1_off12_eq t) rfl (k1_off13_eq t) rfl
    (k1_off12_inb t) (k1_off13_inb t) (k1_chk9) (k1_chk9.dec) (k1_idx9_inb)
    (k1_chk10) (k1_chk10.dec) (k1_idx10_inb)
    (fun v h a x => by rw [Fin.eq_zero a]; exact h x) (fun v h a x => by rw [Fin.eq_zero a]; exact h x)) _) $$ [Hc Ht]
  · isplitl [Hc] <;> iassumption
  iintro ⟨Hc, Ht⟩
  iapply (ev_step d L (outC (bin xf v16 v14) tf) 0 rfl _ _ (fun _ => rfl) _) $$ He
  iintro He
  iapply (ent_loop d L (bin xf v16 v14) tf 16 (lb := k1_t4_loop.lb) (ub := k1_t4_loop.ub) (st := k1_t4_loop.st) k1_t4_ok (by decide) _ h17 _ (fun (t : Fin k1_t4_loop.trips) ⟨a0, a1⟩ => ent_trip d L (bin xf v16 v14) tf hcw 16 t.val (by decide) t.isLt (a0, a1) (k1_off14_eq t) rfl (k1_off15_eq t) rfl
    (k1_off14_inb t) (k1_off15_inb t) (k1_chk11) (k1_chk11.dec) (k1_idx11_inb)
    (k1_chk12) (k1_chk12.dec) (k1_idx12_inb)
    (fun v h a x => by rw [Fin.eq_zero a]; exact h x) (fun v h a x => by rw [Fin.eq_zero a]; exact h x)) _) $$ [Hc Ht]
  · isplitl [Hc] <;> iassumption
  iintro ⟨Hc, Ht⟩
  iapply (ev_step d L (outC (bin xf v16 v14) tf) 16 rfl _ _ (fun _ => rfl) _) $$ He
  iintro He
  iapply (ent_loop d L (bin xf v16 v14) tf 32 (lb := k1_t5_loop.lb) (ub := k1_t5_loop.ub) (st := k1_t5_loop.st) k1_t5_ok (by decide) _ h17 _ (fun (t : Fin k1_t5_loop.trips) ⟨a0, a1⟩ => ent_trip d L (bin xf v16 v14) tf hcw 32 t.val (by decide) t.isLt (a0, a1) (k1_off16_eq t) rfl (k1_off17_eq t) rfl
    (k1_off16_inb t) (k1_off17_inb t) (k1_chk13) (k1_chk13.dec) (k1_idx13_inb)
    (k1_chk14) (k1_chk14.dec) (k1_idx14_inb)
    (fun v h a x => by rw [Fin.eq_zero a]; exact h x) (fun v h a x => by rw [Fin.eq_zero a]; exact h x)) _) $$ [Hc Ht]
  · isplitl [Hc] <;> iassumption
  iintro ⟨Hc, Ht⟩
  iapply (Entails.of_eq (wp_pure _ _ _ _ _).symm)
  imodintro
  isplitr
  · ipureintro; exact fun _ => rfl
  isplitl [Hx]; · iexact Hx
  isplitl [Hc]; · iexact Hc
  isplitl [Ht]; · iexact Ht
  iexact He

set_option maxHeartbeats 4000000 in
theorem part6 (b : ℕ → ℕ → ℕ) (tf : S80.Idx → F .f32) (hcw : ∀ n ≤ 64, FloatOps.fptosi 32 (cw n : F .f32) = BitVec.ofNat 32 n)
    (v17 : FVec F S16 .f32) (h2 : k1_cond2 L = 1#1) (v123 : FVec F S16 .f32) (h17 : v17 = fun _ => zeroF) (h123 : ∀ l : Fin 16, v123 (lane l) = outC b tf (16 + l.val)) :
    iprop(cvP d L (cells b 64 0) ∗ tvP d L tf ∗ evHeld d L (outC b tf) 16)
      ⊢ wp frame (wpE (defs₀ (F := F)) 𝒱₀ (thr d L) none) Set.univ (k1_part6 L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3 v17 h2 v123)
        fun r => iprop(⌜r = ⟨k1_pay46, k1_pay47 (eaccV b tf 0 80 16) (eaccV b tf 1 80 16), Scalar.ofBits .f32 0x3C800000#32⟩⌝ ∗ cvP d L (cells b 64 0) ∗ tvP d L tf ∗ evHeld d L (outC b tf) 80) := by
  rw [k1_part6_eq_skeleton]; unfold k1_part6_skel
  iintro ⟨Hc, Ht, He⟩
  iapply (ev_step d L (outC b tf) 16 rfl _ v123 (h123) _) $$ He
  iintro He
  iapply (ent_loop d L b tf 32 (lb := k1_t15_loop.lb) (ub := k1_t15_loop.ub) (st := k1_t15_loop.st) (k1_t15_ok L h2) (by decide) _ h17 _ (fun (t : Fin k1_t15_loop.trips) ⟨a0, a1⟩ => ent_trip d L b tf hcw 32 t.val (by decide) t.isLt (a0, a1) (k1_off43_eq t) rfl (k1_off44_eq t) rfl
    (k1_off43_inb L t h2) (k1_off44_inb L t h2) (k1_chk37 L) (k1_chk37.dec L) (fun v hv => k1_idx37_inb L v hv h2)
    (k1_chk38 L) (k1_chk38.dec L) (fun v hv => k1_idx38_inb L v hv h2)
    (fun v h _ a x => by rw [Fin.eq_zero a]; exact h x) (fun v h _ a x => by rw [Fin.eq_zero a]; exact h x)) _) $$ [Hc Ht]
  · isplitl [Hc] <;> iassumption
  iintro ⟨Hc, Ht⟩
  iapply (ev_step d L (outC b tf) 32 rfl _ _ (fun _ => rfl) _) $$ He
  iintro He
  iapply (ent_loop d L b tf 48 (lb := k1_t16_loop.lb) (ub := k1_t16_loop.ub) (st := k1_t16_loop.st) (k1_t16_ok L h2) (by decide) _ h17 _ (fun (t : Fin k1_t16_loop.trips) ⟨a0, a1⟩ => ent_trip d L b tf hcw 48 t.val (by decide) t.isLt (a0, a1) (k1_off45_eq t) rfl (k1_off46_eq t) rfl
    (k1_off45_inb L t h2) (k1_off46_inb L t h2) (k1_chk39 L) (k1_chk39.dec L) (fun v hv => k1_idx39_inb L v hv h2)
    (k1_chk40 L) (k1_chk40.dec L) (fun v hv => k1_idx40_inb L v hv h2)
    (fun v h _ a x => by rw [Fin.eq_zero a]; exact h x) (fun v h _ a x => by rw [Fin.eq_zero a]; exact h x)) _) $$ [Hc Ht]
  · isplitl [Hc] <;> iassumption
  iintro ⟨Hc, Ht⟩
  iapply (ev_step d L (outC b tf) 48 rfl _ _ (fun _ => rfl) _) $$ He
  iintro He
  iapply (ent_loop d L b tf 64 (lb := k1_t17_loop.lb) (ub := k1_t17_loop.ub) (st := k1_t17_loop.st) (k1_t17_ok L h2) (by decide) _ h17 _ (fun (t : Fin k1_t17_loop.trips) ⟨a0, a1⟩ => ent_trip d L b tf hcw 64 t.val (by decide) t.isLt (a0, a1) (k1_off47_eq t) rfl (k1_off48_eq t) rfl
    (k1_off47_inb L t h2) (k1_off48_inb L t h2) (k1_chk41 L) (k1_chk41.dec L) (fun v hv => k1_idx41_inb L v hv h2)
    (k1_chk42 L) (k1_chk42.dec L) (fun v hv => k1_idx42_inb L v hv h2)
    (fun v h _ a x => by rw [Fin.eq_zero a]; exact h x) (fun v h _ a x => by rw [Fin.eq_zero a]; exact h x)) _) $$ [Hc Ht]
  · isplitl [Hc] <;> iassumption
  iintro ⟨Hc, Ht⟩
  iapply (ev_step d L (outC b tf) 64 rfl _ _ (fun _ => rfl) _) $$ He
  iintro He
  iapply (ent_loop d L b tf 80 (lb := k1_t18_loop.lb) (ub := k1_t18_loop.ub) (st := k1_t18_loop.st) (k1_t18_ok L h2) (by decide) _ h17 _ (fun (t : Fin k1_t18_loop.trips) ⟨a0, a1⟩ => ent_trip d L b tf hcw 80 t.val (by decide) t.isLt (a0, a1) (k1_off49_eq t) rfl (k1_off50_eq t) rfl
    (k1_off49_inb L t h2) (k1_off50_inb L t h2) (k1_chk43 L) (k1_chk43.dec L) (fun v hv => k1_idx43_inb L v hv h2)
    (k1_chk44 L) (k1_chk44.dec L) (fun v hv => k1_idx44_inb L v hv h2)
    (fun v h _ a x => by rw [Fin.eq_zero a]; exact h x) (fun v h _ a x => by rw [Fin.eq_zero a]; exact h x)) _) $$ [Hc Ht]
  · isplitl [Hc] <;> iassumption
  iintro ⟨Hc, Ht⟩
  iapply (Entails.of_eq (wp_pure _ _ _ _ _).symm)
  imodintro
  isplitr
  · ipureintro; rfl
  isplitl [Hc]; · iexact Hc
  isplitl [Ht]; · iexact Ht
  iexact He

end Cert.Proof.Sc

end
-- ==== Proof.Sc.Tile.lean ====
/-
  One tile's run of the SparseCore kernel: the histogram of its block, or of its two blocks.
-/
module

public import proofs.«01_k».proof.Proof.Sc.Parts

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords)

abbrev cell (s : SemLoc sig) : GSem nD τ sig := (thr d L, s)

theorem ownSems0_V :
    ∃ RS : sProp 𝕄, (ownSems0 (thr d L) : sProp 𝕄)
      = iprop(semVal (cell d L (.dma cc1_scratch6.sem)) 0 ∗ semVal (cell d L (.dma cc1_scratch7.sem)) 0 ∗ semVal (cell d L (.dma cc1_scoped0.sem)) 0 ∗ semVal (cell d L (.dma cc1_scoped1.sem)) 0 ∗ semVal (cell d L (.dma cc1_scoped2.sem)) 0 ∗ semVal (cell d L (.dma cc1_scoped3.sem)) 0
          ∗ RS) := by
  have hm : ∀ s : SemLoc sig, s.isScoped .scVector = true → cell d L s ∈ ownCells (thr d L) := fun s hs => (mem_ownCells (g := cell d L s)).mpr ⟨rfl, hs⟩
  have hn : ∀ s s' : SemLoc sig, s ≠ s' → cell d L s ≠ cell d L s' := fun s s' h e => h (congrArg Prod.snd e)
  refine ⟨bigSep (((((((ownCells (thr d L)).erase (cell d L (.dma cc1_scratch6.sem))).erase (cell d L (.dma cc1_scratch7.sem))).erase (cell d L (.dma cc1_scoped0.sem))).erase (cell d L (.dma cc1_scoped1.sem))).erase (cell d L (.dma cc1_scoped2.sem))).erase (cell d L (.dma cc1_scoped3.sem))) fun g => semVal g 0, ?_⟩
  unfold SparseCore.Cfg.ownSems0
  rw [SparseCore.bigSep_erase' (hm (.dma cc1_scratch6.sem) (by decide))]
  rw [SparseCore.bigSep_erase' (Finset.mem_erase.mpr ⟨hn (.dma cc1_scratch7.sem) (.dma cc1_scratch6.sem) (by decide), hm (.dma cc1_scratch7.sem) (by decide)⟩)]
  rw [SparseCore.bigSep_erase' (Finset.mem_erase.mpr ⟨hn (.dma cc1_scoped0.sem) (.dma cc1_scratch7.sem) (by decide), Finset.mem_erase.mpr ⟨hn (.dma cc1_scoped0.sem) (.dma cc1_scratch6.sem) (by decide), hm (.dma cc1_scoped0.sem) (by decide)⟩⟩)]
  rw [SparseCore.bigSep_erase' (Finset.mem_erase.mpr ⟨hn (.dma cc1_scoped1.sem) (.dma cc1_scoped0.sem) (by decide), Finset.mem_erase.mpr ⟨hn (.dma cc1_scoped1.sem) (.dma cc1_scratch7.sem) (by decide), Finset.mem_erase.mpr ⟨hn (.dma cc1_scoped1.sem) (.dma cc1_scratch6.sem) (by decide), hm (.dma cc1_scoped1.sem) (by decide)⟩⟩⟩)]
  rw [SparseCore.bigSep_erase' (Finset.mem_erase.mpr ⟨hn (.dma cc1_scoped2.sem) (.dma cc1_scoped1.sem) (by decide), Finset.mem_erase.mpr ⟨hn (.dma cc1_scoped2.sem) (.dma cc1_scoped0.sem) (by decide), Finset.mem_erase.mpr ⟨hn (.dma cc1_scoped2.sem) (.dma cc1_scratch7.sem) (by decide), Finset.mem_erase.mpr ⟨hn (.dma cc1_scoped2.sem) (.dma cc1_scratch6.sem) (by decide), hm (.dma cc1_scoped2.sem) (by decide)⟩⟩⟩⟩)]
  rw [SparseCore.bigSep_erase' (Finset.mem_erase.mpr ⟨hn (.dma cc1_scoped3.sem) (.dma cc1_scoped2.sem) (by decide), Finset.mem_erase.mpr ⟨hn (.dma cc1_scoped3.sem) (.dma cc1_scoped1.sem) (by decide), Finset.mem_erase.mpr ⟨hn (.dma cc1_scoped3.sem) (.dma cc1_scoped0.sem) (by decide), Finset.mem_erase.mpr ⟨hn (.dma cc1_scoped3.sem) (.dma cc1_scratch7.sem) (by decide), Finset.mem_erase.mpr ⟨hn (.dma cc1_scoped3.sem) (.dma cc1_scratch6.sem) (by decide), hm (.dma cc1_scoped3.sem) (by decide)⟩⟩⟩⟩⟩)]

theorem ownBufs_V :
    ∃ RB : sProp 𝕄, (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f)
          ∗ RB) := by
  have hm : ∀ s : Ref sig .scVector, ((Proc.scVector (cV L) (jV L)).devRef s).owner = .proc (.scVector (cV L) (jV L)) → (Proc.scVector (cV L) (jV L)).devRef s ∈ ownRefs (τ := τ) (.scVector (cV L) (jV L)) :=
    fun s hs => SparseCore.Cfg.mem_ownRefs_of_owner (p := Proc.scVector (cV L) (jV L)) (b := (Proc.scVector (cV L) (jV L)).devRef s) hs
  have hn : ∀ s s' : Ref sig .scVector, s ≠ s' → (Proc.scVector (cV L) (jV L)).devRef s ≠ (Proc.scVector (cV L) (jV L)).devRef s' :=
    fun s s' h e => h (Proc.devRef_injective _ e)
  refine ⟨bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)) fun b => iprop(∃ f, ((d, b) : Loc nD τ sig) ↦{fullShare} f), ?_⟩
  unfold SparseCore.Cfg.ownBufs
  refine (SparseCore.bigSep_erase' (hm cc1_scratch0 rfl)).trans ?_
  rw [SparseCore.bigSep_erase' (Finset.mem_erase.mpr ⟨hn cc1_scratch1 cc1_scratch0 (by decide), hm cc1_scratch1 rfl⟩)]
  rw [SparseCore.bigSep_erase' (Finset.mem_erase.mpr ⟨hn cc1_scratch2 cc1_scratch1 (by decide), Finset.mem_erase.mpr ⟨hn cc1_scratch2 cc1_scratch0 (by decide), hm cc1_scratch2 rfl⟩⟩)]
  rw [SparseCore.bigSep_erase' (Finset.mem_erase.mpr ⟨hn cc1_scratch3 cc1_scratch2 (by decide), Finset.mem_erase.mpr ⟨hn cc1_scratch3 cc1_scratch1 (by decide), Finset.mem_erase.mpr ⟨hn cc1_scratch3 cc1_scratch0 (by decide), hm cc1_scratch3 rfl⟩⟩⟩)]
  rw [SparseCore.bigSep_erase' (Finset.mem_erase.mpr ⟨hn cc1_scratch4 cc1_scratch3 (by decide), Finset.mem_erase.mpr ⟨hn cc1_scratch4 cc1_scratch2 (by decide), Finset.mem_erase.mpr ⟨hn cc1_scratch4 cc1_scratch1 (by decide), Finset.mem_erase.mpr ⟨hn cc1_scratch4 cc1_scratch0 (by decide), hm cc1_scratch4 rfl⟩⟩⟩⟩)]
  rw [SparseCore.bigSep_erase' (Finset.mem_erase.mpr ⟨hn cc1_scratch5 cc1_scratch4 (by decide), Finset.mem_erase.mpr ⟨hn cc1_scratch5 cc1_scratch3 (by decide), Finset.mem_erase.mpr ⟨hn cc1_scratch5 cc1_scratch2 (by decide), Finset.mem_erase.mpr ⟨hn cc1_scratch5 cc1_scratch1 (by decide), Finset.mem_erase.mpr ⟨hn cc1_scratch5 cc1_scratch0 (by decide), hm cc1_scratch5 rfl⟩⟩⟩⟩⟩)]

/-! ## The values -/

/-- Block `j` of the means. -/
def xblk (X : S48x64x128.Idx → F .f32) (j : ℕ) : S64x128.Idx → F .f32 :=
  fun i => X fun | 0 => (⟨j % 48, Nat.mod_lt _ (by decide)⟩ : Fin 48) | 1 => i 0 | 2 => i 1

/-- The bins' width reciprocal, and the smallest mean times it, as the kernel reads them from its parameters. -/
def scl (p : S2x16.Idx → F .f32) : FVec F S16 .f32 := fun x => p fun | 0 => (1 : Fin 2) | 1 => x 0
def nrm (p : S2x16.Idx → F .f32) : FVec F S16 .f32 := fun x => FloatOps.mulf (p fun | 0 => (0 : Fin 2) | 1 => x 0) (scl p x)

/-- The bin of row `r`, column `c` of block `j`. -/
def binAt (X : S48x64x128.Idx → F .f32) (p : S2x16.Idx → F .f32) (j r c : ℕ) : ℕ := bin (xblk X j) (scl p) (nrm p) r c

/-- What the call leaves in its result. -/
def OUT (X : S48x64x128.Idx → F .f32) (p : S2x16.Idx → F .f32) (tf : S80.Idx → F .f32) : S6144.Idx → F .f32 :=
  fun i => outC (binAt X p ((i 0).val / 128)) tf ((i 0).val % 128)

/-- The number of the tile, and the part of the result it writes. -/
def wOf (L : grid1.Coords) : ℕ := 2 * (L 1).val + (L 0).val
def oTile (w : ℕ) : Finset S6144.Idx := Finset.univ.filter fun i => (i 0).val / 128 % 32 = w

theorem wOf_lt : wOf L < 32 := by
  have h1 : (L 1).val < 16 := (L 1).isLt
  have h0 : (L 0).val < 2 := (L 0).isLt
  unfold wOf; omega

theorem cond1_iff : ∀ L : grid1.Coords, k1_cond1 L = 1#1 ↔ wOf L < 16 := by decide +kernel
theorem cond2_iff : ∀ L : grid1.Coords, k1_cond2 L = 1#1 ↔ wOf L < 16 := by decide +kernel

/-- Sixty-four rows of the means at `off`, and a hundred and twenty-eight words of the result, as the tile addresses them. -/
abbrev xSrc (off : Fin 3 → ℕ) (inb : ∀ a, off a + S1x64x128.size a ≤ S48x64x128.size a) : Memref sig .scVector .hbm S64x128 .f32 :=
  (xM.slice (Rect.unit (s := S48x64x128) off S1x64x128.size inb) (fun _ => rfl)).squeeze S64x128 squeezes_S1x64x128_S64x128
abbrev oDst (off : Fin 1 → ℕ) (inb : ∀ a, off a + S128.size a ≤ S6144.size a) : Memref sig .scVector .hbm S128 .f32 :=
  oM.slice (Rect.unit (s := S6144) off S128.size inb) (fun _ => rfl)

theorem xSrc_read (X : S48x64x128.Idx → F .f32) {off : Fin 3 → ℕ} (inb) (j : ℕ) (hoff : off = ![j, 0, 0]) :
    (xSrc off inb).view.read (Elt F) X = xblk X j := by
  subst hoff
  have hj : j < 48 := by have := inb 0; simp at this; omega
  funext i
  rw [View.read_apply]
  refine (cast_eq _ _).trans ?_
  unfold xblk
  refine congrArg X ?_
  have e : Shape.reshapeEquiv (s := S1x64x128) (s' := S64x128) squeezes_S1x64x128_S64x128.numel_eq i = (fun | 0 => (0 : Fin 1) | 1 => i 0 | 2 => i 1) := by
    refine Shape.reshapeEquiv_eq_of_rowMajor _ ?_
    rw [Shape.rowMajor_val_three, Shape.rowMajor_val_two]
    show ((0 * 64 + (i 0).val) * 128 + (i 1).val) = (i 0).val * 128 + (i 1).val
    omega
  funext a
  refine Fin.ext ?_
  show (![j, 0, 0] : Fin 3 → ℕ) a + 1 * ((Shape.reshapeEquiv (s := S1x64x128) (s' := S64x128) squeezes_S1x64x128_S64x128.numel_eq i) a).val = _
  rw [e]
  match a with
  | 0 => show j + 1 * 0 = j % 48; omega
  | 1 => show 0 + 1 * (i 0).val = (i 0).val; omega
  | 2 => show 0 + 1 * (i 1).val = (i 1).val; omega

theorem mem_oDst {off : Fin 1 → ℕ} (inb) (j : ℕ) (hoff : off = ![128 * j]) (i : S6144.Idx) :
    i ∈ (oDst off inb).view.set ↔ (i 0).val / 128 = j := by
  subst hoff
  constructor
  · intro h
    obtain ⟨x, -, rfl⟩ := Finset.mem_map.mp h
    have hx : (x 0).val < 128 := (x 0).isLt
    show (128 * j + 1 * (x 0).val) / 128 = j
    omega
  · intro h
    have e : (oDst _ inb).view.emb (fun | 0 => (⟨(i 0).val % 128, Nat.mod_lt _ (by decide)⟩ : Fin 128)) = i := by
      funext a
      rw [Fin.eq_zero a]
      refine Fin.ext ?_
      show 128 * j + 1 * ((i 0).val % 128) = (i 0).val
      omega
    rw [← e]
    exact View.emb_mem_set _ _

theorem oDst_writes (f : S6144.Idx → F .f32) (w : S128.Idx → F .f32) {off : Fin 1 → ℕ} (inb) (j : ℕ) (hoff : off = ![128 * j]) (i : S6144.Idx)
    (hi : (i 0).val / 128 = j) :
    (oDst off inb).view.writes (Elt F) f [⟨Rect.whole S128, w⟩] i = w fun | 0 => (⟨(i 0).val % 128, Nat.mod_lt _ (by decide)⟩ : Fin 128) := by
  subst hoff
  have e : ((oDst _ inb).view.slice (Rect.whole S128)).emb (fun | 0 => (⟨(i 0).val % 128, Nat.mod_lt _ (by decide)⟩ : Fin 128)) = i := by
    funext a
    rw [Fin.eq_zero a]
    refine Fin.ext ?_
    show 128 * j + 1 * (0 + 1 * ((i 0).val % 128)) = (i 0).val
    omega
  have h := View.write_emb_of_mem (Val := Elt F) (v := (oDst _ inb).view.slice (Rect.whole S128)) f w (M := Finset.univ)
    (x := fun | 0 => (⟨(i 0).val % 128, Nat.mod_lt _ (by decide)⟩ : Fin 128)) (Finset.mem_univ _)
  rw [e] at h
  exact h

theorem wp_seq {α β : Type} {e : Prog (TpuEff nD τ sig (Elt F) Λ₀ (thr d L).2) α} {k : α → Prog (TpuEff nD τ sig (Elt F) Λ₀ (thr d L).2) β}
    {R : α → sProp 𝕄} {P : sProp 𝕄} {Q : β → sProp 𝕄} (H : P ⊢ wp frame (wpE (defs₀ (F := F)) 𝒱₀ (thr d L) none) Set.univ e R) :
    P ⊢ iprop((∀ r, R r -∗ wp frame (wpE (defs₀ (F := F)) 𝒱₀ (thr d L) none) Set.univ (k r) Q) -∗ wp frame (wpE (defs₀ (F := F)) 𝒱₀ (thr d L) none) Set.univ (e >>= k) Q) := by
  rw [wp_bind]
  exact H.trans (wp_wand _ _ _)

/-- A row of the parameters, loaded from where the copy landed them. -/
theorem ld_row (f2 w : S2x16.Idx → F .f32) {off : Fin 2 → ℕ} (inb : ∀ a, off a + S1x16.size a ≤ S2x16.size a) (i : Fin 2) (hoff : off = ![i.val, 0]) (l : Fin 16) :
    View.readAt (Elt F) pvM.view (Rect.unit (s := S2x16) off S1x16.size inb).toLoadRect (View.write (Elt F) pvM.view f2 w Finset.univ) (row1 l)
      = w (fun | 0 => i | 1 => l) := by
  subst hoff
  have hw : View.write (Elt F) pvM.view f2 w Finset.univ = w := View.write_whole_univ _ _ _
  rw [hw]
  refine congrArg w (funext fun a => Fin.ext ?_)
  match a with
  | 0 => show i.val + 1 * 0 = i.val; omega
  | 1 => show 0 + 1 * l.val = l.val; omega

theorem pay49_eq (f2 w : S2x16.Idx → F .f32) (inb : ∀ a, (![1, 0] : Fin 2 → ℕ) a + S1x16.size a ≤ S2x16.size a) :
    k1_pay49 (View.readAt (Elt F) pvM.view (Rect.unit (s := S2x16) ![1, 0] S1x16.size inb).toLoadRect (View.write (Elt F) pvM.view f2 w Finset.univ))
      = scl w := by
  funext x
  obtain ⟨l, rfl⟩ := exists_lane x
  exact (cast_lane _ l).trans (ld_row f2 w inb 1 rfl l)

theorem pay48_eq (f2 w : S2x16.Idx → F .f32) (inb0 : ∀ a, (![0, 0] : Fin 2 → ℕ) a + S1x16.size a ≤ S2x16.size a)
    (inb : ∀ a, (![1, 0] : Fin 2 → ℕ) a + S1x16.size a ≤ S2x16.size a) :
    k1_pay48 (View.readAt (Elt F) pvM.view (Rect.unit (s := S2x16) ![0, 0] S1x16.size inb0).toLoadRect (View.write (Elt F) pvM.view f2 w Finset.univ))
      (View.readAt (Elt F) pvM.view (Rect.unit (s := S2x16) ![1, 0] S1x16.size inb).toLoadRect (View.write (Elt F) pvM.view f2 w Finset.univ))
      = nrm w := by
  funext x
  obtain ⟨l, rfl⟩ := exists_lane x
  exact congrArg₂ FloatOps.mulf ((cast_lane _ l).trans (ld_row f2 w inb0 0 rfl l)) ((cast_lane _ l).trans (ld_row f2 w inb 1 rfl l))

theorem iota_lane (l : Fin 16) : iota .scVector S16 32 [0] iota_S16_d0_w32_scVector (lane l) = BitVec.ofNat 32 l.val := by
  revert l; decide

theorem off28 : k1_off28 L = ![128 * wOf L] := by
  rw [k1_off28_eq]; unfold wOf
  congr 1; omega
theorem off55 : k1_off55 L = ![128 * (wOf L + 32)] := by
  rw [k1_off55_eq]; unfold wOf
  congr 1; omega

variable (X : S48x64x128.Idx → F .f32) (p : S2x16.Idx → F .f32) (tf : S80.Idx → F .f32)

set_option maxHeartbeats 4000000 in
theorem tile_body (hF : (K (F := F)).Facts) (hb : ∀ j < 48, ∀ r < 64, ∀ c < 128, binAt X p j r c < 32)
    (hcw : ∀ n ≤ 64, FloatOps.fptosi 32 (cw n : F .f32) = BitVec.ofNat 32 n) (o0 : S6144.Idx → F .f32) (q : PosShare TreeShare)
    (O : CellTallies nD τ sig (HIx 1)) (W : Waits sig (HIx 1)) (hO : ∀ g, O g none = 0) :
    iprop(levAts (K (F := F)).L (K (F := F)).lev ∗ (emp : sProp 𝕄)
        ∗ ((xLoc d ↦{q} X) ∗ (pLoc d ↦{q} p) ∗ (tLoc d ↦{q} tf) ∗ (oLoc d ↦[oTile (wOf L)]{fullShare} o0))
        ∗ scopedBufs (thr d L) ∗ scopedSems0 (thr d L) ∗ owes (thr d L) O W)
      ⊢ wp frame (wpE (defs₀ (F := F)) 𝒱₀ (thr d L) none) Set.univ (cc1__sc_hist_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3)
          fun _ => iprop(((xLoc d ↦{q} X) ∗ (pLoc d ↦{q} p) ∗ (tLoc d ↦{q} tf) ∗ (oLoc d ↦[oTile (wOf L)]{fullShare} OUT X p tf))
            ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  simp only [cc1__sc_hist_body_eq_skeleton]; unfold cc1__sc_hist_body_skel
  refine (?_ : ∀ k, k = _ → ∀ P, P = _ → _ ⊢ wp _ _ _ (k1_part7 _ _ _ _ _ _ _ _ _ _ _ _ _ _ _ _ _ _ _ _ _ _ _ _ _ _ _ >>= k) P) _ rfl _ rfl
  intro k hk P hP
  simp only [k1_part7_eq_skeleton]; unfold k1_part7_skel
  by_cases h1 : k1_cond1 L = 1#1
  · have h2 : k1_cond2 L = 1#1 := (cond2_iff L).2 ((cond1_iff L).1 h1)
    simp only [dif_pos h1]
    rw [(K (F := F)).scopedBufs_V hF d (cV L) (jV L), SparseCore.Cfg.scopedSems0_V (Val := Elt F) d (cV L) (jV L), hRS, hRB]
    iintro ⟨#Hlv, -, ⟨Hx, Hp, Ht, Ho⟩, ⟨⟨%f0, H0⟩, ⟨%f1, H1⟩, ⟨%f2, H2⟩, ⟨%f3, H3⟩, ⟨%f4, H4⟩, ⟨%f5, H5⟩, HRB⟩, ⟨S6, S7, R0, R1, R2, R3, HRS⟩, HO⟩
    ihave Hmw := (show levAts (K (F := F)).L (K (F := F)).lev ⊢ Transfers.MayWaits (thr d L) (default : HIx 1) O from
      (K (F := F)).mayWaits_none (thr := thr d L) hO) $$ Hlv
    ihave Hx' := (Entails.of_eq (show (xLoc d ↦{q} X : sProp 𝕄) = xM.view.loc (thr d L) ↦{q} X from rfl)) $$ Hx
    ihave Hp' := (Entails.of_eq (show (pLoc d ↦{q} p : sProp 𝕄) = pM.view.loc (thr d L) ↦{q} p from rfl)) $$ Hp
    ihave Ht' := (Entails.of_eq (show (tLoc d ↦{q} tf : sProp 𝕄) = tM.view.loc (thr d L) ↦{q} tf from rfl)) $$ Ht
    ihave Ha := (Entails.of_eq (show ((thr d L).loc cc1_scratch0 ↦{fullShare} f0 : sProp 𝕄) = x0M.view.loc (thr d L) ↦{fullShare} f0 from rfl)) $$ H0
    ihave Hb := (Entails.of_eq (show ((thr d L).loc cc1_scratch1 ↦{fullShare} f1 : sProp 𝕄) = x1M.view.loc (thr d L) ↦{fullShare} f1 from rfl)) $$ H1
    ihave Hc := (Entails.of_eq (show ((thr d L).loc cc1_scratch2 ↦{fullShare} f2 : sProp 𝕄) = pvM.view.loc (thr d L) ↦{fullShare} f2 from rfl)) $$ H2
    ihave Hd := (Entails.of_eq (show ((thr d L).loc cc1_scratch3 ↦{fullShare} f3 : sProp 𝕄) = tvM.view.loc (thr d L) ↦{fullShare} f3 from rfl)) $$ H3
    sl_exec
    generalize e14 : k1_pay48 (F := F) _ _ = v14
    replace e14 : v14 = nrm p := e14.symm.trans (pay48_eq f2 p _ _)
    generalize e16 : k1_pay49 (F := F) _ = v16
    replace e16 : v16 = scl p := e16.symm.trans (pay49_eq f2 p _)
    generalize e17 : (k1_pay50 : FVec F S16 .f32) = v17
    replace e17 : v17 = fun _ => zeroF := e17.symm
    generalize e18 : (k1_pay51 : FVec F S16 .f32) = v18
    replace e18 : v18 = fun _ => oneF := e18.symm
    generalize e19 : iota .scVector S16 32 [0] iota_S16_d0_w32_scVector = v19
    replace e19 : ∀ l : Fin 16, v19 (lane l) = BitVec.ofNat 32 l.val := fun l => e19 ▸ iota_lane l
    generalize e20 : k1_pay52 = v20
    replace e20 : ∀ x, v20 x = 31#32 := fun x => e20 ▸ rfl
    subst hk
    subst e14 e16
    ihave H4 := (Entails.of_eq (show ((thr d L).loc cc1_scratch4 ↦{fullShare} f4 : sProp 𝕄) = cvP d L f4 from rfl)) $$ H4
    ihave H5 := (Entails.of_eq (show ((thr d L).loc cc1_scratch5 ↦{fullShare} f5 : sProp 𝕄) = evM.view.loc (thr d L) ↦{fullShare} f5 from rfl)) $$ H5
    ihave Ht := (Entails.of_eq (show (tvM.view.loc (thr d L) ↦{fullShare} View.write (Elt F) tvM.view f3 (tile_body.sl.dma0_3 tf) Finset.univ : sProp 𝕄) = tvP d L tf from
      congrArg (fun g : S80.Idx → F .f32 => (tvM.view.loc (thr d L) ↦{fullShare} g : sProp 𝕄)) ((View.write_whole_univ _ _ _).trans (show tile_body.sl.dma0_3 tf = tf from rfl)))) $$ Hd
    have hblk : x0M.view.read (Elt F) (View.write (Elt F) x0M.view f0 (tile_body.sl.dma0 L X) Finset.univ) = xblk X (wOf L) :=
      (View.read_write_univ _ _).trans (xSrc_read X (k1_off1_inb L) (wOf L) (k1_off1_eq L))
    iapply (wp_seq d L (part8 d L _ (xblk X (wOf L)) hblk (nrm p) (scl p) v17 v18 v19 v20 e18 e19 e20 (hb (wOf L) (by have := wOf_lt L; omega)) _ e17 f4 f5 tf hcw)) $$ [Ha H4 Ht H5]
    · isplitl [Ha]; · iexact Ha
      isplitl [H4]; · iexact H4
      isplitl [Ht]; · iexact Ht
      iexact H5
    iintro %v53 ⟨%h53, Ha, Hcv, Ht, He⟩
    iapply (wp_seq d L (part9 d L (binAt X p (wOf L)) tf hcw v17 v53 e17 h53)) $$ [Hcv Ht He]
    · isplitl [Hcv]; · iexact Hcv
      isplitl [Ht]; · iexact Ht
      iexact He
    iintro %r9 ⟨%h9, Hcv, Ht, He⟩
    subst h9
    iapply (ev_step d L (outC (binAt X p (wOf L)) tf) 96 rfl _ _ (fun _ => rfl) _) $$ He
    iintro He
    iapply (ent_loop d L (binAt X p (wOf L)) tf 112 (lb := k1_t10_loop.lb) (ub := k1_t10_loop.ub) (st := k1_t10_loop.st) k1_t10_ok (by decide) _ e17 _ (fun (t : Fin k1_t10_loop.trips) ⟨a0, a1⟩ => ent_trip d L (binAt X p (wOf L)) tf hcw 112 t.val (by decide) t.isLt (a0, a1) (k1_off26_eq t) rfl (k1_off27_eq t) rfl
      (k1_off26_inb t) (k1_off27_inb t) (k1_chk23) (k1_chk23.dec) (k1_idx23_inb)
      (k1_chk24) (k1_chk24.dec) (k1_idx24_inb)
      (fun v h a x => by rw [Fin.eq_zero a]; exact h x) (fun v h a x => by rw [Fin.eq_zero a]; exact h x)) _) $$ [Hcv Ht]
    · isplitl [Hcv] <;> iassumption
    iintro ⟨Hcv, Ht⟩
    iapply (ev_step d L (outC (binAt X p (wOf L)) tf) 112 rfl _ _ (fun _ => rfl) _) $$ He
    iintro He
    unfold evHeld
    icases He with ⟨%fe1, %hfe1, He⟩
    have hfe1' : fe1 = fun i => outC (binAt X p (wOf L)) tf (i 0).val := funext fun i => hfe1 i (i 0).isLt
    subst hfe1'
    have hs1 : (oDst (k1_off28 L) (k1_off28_inb L)).view.set ⊆ oTile (wOf L) := fun i hi => by
      have h := (mem_oDst (k1_off28_inb L) (wOf L) (off28 L) i).1 hi
      have := wOf_lt L
      exact Finset.mem_filter.2 ⟨Finset.mem_univ _, by omega⟩
    ihave Ho := (pointsTo_split_subset (ℓ := oLoc d) (q := fullShare) (f := o0) hs1).1 $$ Ho
    icases Ho with ⟨Ho, Hor⟩
    ihave Ho := (Entails.of_eq (show (oLoc d ↦[(oDst (k1_off28 L) (k1_off28_inb L)).view.set]{fullShare} o0 : sProp 𝕄)
      = (oDst (k1_off28 L) (k1_off28_inb L)).view.loc (thr d L) ↦[(oDst (k1_off28 L) (k1_off28_inb L)).view.set]{fullShare} o0 from rfl)) $$ Ho
    sl_exec
    ihave Ho := (Entails.of_eq (show ((oDst (k1_off28 L) (k1_off28_inb L)).view.loc (thr d L) ↦[(oDst (k1_off28 L) (k1_off28_inb L)).view.set]{fullShare}
        (oDst (k1_off28 L) (k1_off28_inb L)).view.writes (Elt F) (oDst (k1_off28 L) (k1_off28_inb L)).view.junk [⟨Rect.whole S128, tile_body.sl.dma0_4 L X p tf⟩] : sProp 𝕄)
      = oLoc d ↦[(oDst (k1_off28 L) (k1_off28_inb L)).view.set]{fullShare} OUT X p tf from pointsTo_congr fun i hi => by
        have hj := (mem_oDst (k1_off28_inb L) (wOf L) (off28 L) i).1 hi
        refine (oDst_writes _ _ (k1_off28_inb L) (wOf L) (off28 L) i hj).trans ?_
        show outC (binAt X p (wOf L)) tf ((i 0).val % 128) = _
        rw [← hj]; rfl)) $$ Ho
    have hw16 : wOf L < 16 := (cond2_iff L).1 h2
    have hblk1 : x1M.view.read (Elt F) (View.write (Elt F) x1M.view f1 (tile_body.sl.dma0_1 L X h1) Finset.univ) = xblk X (wOf L + 32) :=
      (View.read_write_univ _ _).trans (xSrc_read X (k1_off2_inb L h1) (wOf L + 32) (k1_off2_eq L))
    iapply (zero_loop2 d L _ (binAt X p (wOf L + 32)) (nrm p) (scl p) v17 v18 v19 v20 e17 h2 _ _) $$ Hcv
    iintro %_a Hcv
    iapply (hist_loop2 d L _ (xblk X (wOf L + 32)) hblk1 (nrm p) (scl p) v17 v18 v19 v20 e18 e19 e20 (hb (wOf L + 32) (by omega)) h2 _ _) $$ [Hb Hcv]
    · isplitl [Hb]; · iexact Hb
      iexact Hcv
    iintro %_a ⟨Hb, Hcv⟩
    ihave He : evHeld d L (outC (binAt X p (wOf L + 32)) tf) 0 $$ [He]
    · unfold evHeld
      iexists _
      isplitr
      swap; · iexact He
      ipureintro; intro i hi; omega
    iapply (ent_loop d L (binAt X p (wOf L + 32)) tf 0 (lb := k1_t13_loop.lb) (ub := k1_t13_loop.ub) (st := k1_t13_loop.st) (k1_t13_ok L h2) (by decide) _ e17 _ (fun (t : Fin k1_t13_loop.trips) ⟨a0, a1⟩ => ent_trip d L (binAt X p (wOf L + 32)) tf hcw 0 t.val (by decide) t.isLt (a0, a1) (k1_off39_eq t) rfl (k1_off40_eq t) rfl
      (k1_off39_inb L t h2) (k1_off40_inb L t h2) (k1_chk33 L) (k1_chk33.dec L) (fun v hv => k1_idx33_inb L v hv h2)
      (k1_chk34 L) (k1_chk34.dec L) (fun v hv => k1_idx34_inb L v hv h2)
      (fun v h _ a x => by rw [Fin.eq_zero a]; exact h x) (fun v h _ a x => by rw [Fin.eq_zero a]; exact h x)) _) $$ [Hcv Ht]
    · isplitl [Hcv]; · iexact Hcv
      iexact Ht
    iintro ⟨Hcv, Ht⟩
    iapply (ev_step d L (outC (binAt X p (wOf L + 32)) tf) 0 rfl _ _ (fun _ => rfl) _) $$ He
    iintro He
    iapply (ent_loop d L (binAt X p (wOf L + 32)) tf 16 (lb := k1_t14_loop.lb) (ub := k1_t14_loop.ub) (st := k1_t14_loop.st) (k1_t14_ok L h2) (by decide) _ e17 _ (fun (t : Fin k1_t14_loop.trips) ⟨a0, a1⟩ => ent_trip d L (binAt X p (wOf L + 32)) tf hcw 16 t.val (by decide) t.isLt (a0, a1) (k1_off41_eq t) rfl (k1_off42_eq t) rfl
      (k1_off41_inb L t h2) (k1_off42_inb L t h2) (k1_chk35 L) (k1_chk35.dec L) (fun v hv => k1_idx35_inb L v hv h2)
      (k1_chk36 L) (k1_chk36.dec L) (fun v hv => k1_idx36_inb L v hv h2)
      (fun v h _ a x => by rw [Fin.eq_zero a]; exact h x) (fun v h _ a x => by rw [Fin.eq_zero a]; exact h x)) _) $$ [Hcv Ht]
    · isplitl [Hcv]; · iexact Hcv
      iexact Ht
    iintro ⟨Hcv, Ht⟩
    iapply (Entails.of_eq (wp_pure _ _ _ _ _).symm)
    imodintro
    iapply (wp_seq d L (part6 d L (binAt X p (wOf L + 32)) tf hcw v17 h2 _ e17 (fun _ => rfl))) $$ [Hcv Ht He]
    · isplitl [Hcv]; · iexact Hcv
      isplitl [Ht]; · iexact Ht
      iexact He
    iintro %r6 ⟨%h6, Hcv, Ht, He⟩
    subst h6
    iapply (ev_step d L (outC (binAt X p (wOf L + 32)) tf) 80 rfl _ _ (fun _ => rfl) _) $$ He
    iintro He
    iapply (ent_loop d L (binAt X p (wOf L + 32)) tf 96 (lb := k1_t19_loop.lb) (ub := k1_t19_loop.ub) (st := k1_t19_loop.st) (k1_t19_ok L h2) (by decide) _ e17 _ (fun (t : Fin k1_t19_loop.trips) ⟨a0, a1⟩ => ent_trip d L (binAt X p (wOf L + 32)) tf hcw 96 t.val (by decide) t.isLt (a0, a1) (k1_off51_eq t) rfl (k1_off52_eq t) rfl
      (k1_off51_inb L t h2) (k1_off52_inb L t h2) (k1_chk45 L) (k1_chk45.dec L) (fun v hv => k1_idx45_inb L v hv h2)
      (k1_chk46 L) (k1_chk46.dec L) (fun v hv => k1_idx46_inb L v hv h2)
      (fun v h _ a x => by rw [Fin.eq_zero a]; exact h x) (fun v h _ a x => by rw [Fin.eq_zero a]; exact h x)) _) $$ [Hcv Ht]
    · isplitl [Hcv]; · iexact Hcv
      iexact Ht
    iintro ⟨Hcv, Ht⟩
    iapply (ev_step d L (outC (binAt X p (wOf L + 32)) tf) 96 rfl _ _ (fun _ => rfl) _) $$ He
    iintro He
    iapply (ent_loop d L (binAt X p (wOf L + 32)) tf 112 (lb := k1_t20_loop.lb) (ub := k1_t20_loop.ub) (st := k1_t20_loop.st) (k1_t20_ok L h2) (by decide) _ e17 _ (fun (t : Fin k1_t20_loop.trips) ⟨a0, a1⟩ => ent_trip d L (binAt X p (wOf L + 32)) tf hcw 112 t.val (by decide) t.isLt (a0, a1) (k1_off53_eq t) rfl (k1_off54_eq t) rfl
      (k1_off53_inb L t h2) (k1_off54_inb L t h2) (k1_chk47 L) (k1_chk47.dec L) (fun v hv => k1_idx47_inb L v hv h2)
      (k1_chk48 L) (k1_chk48.dec L) (fun v hv => k1_idx48_inb L v hv h2)
      (fun v h _ a x => by rw [Fin.eq_zero a]; exact h x) (fun v h _ a x => by rw [Fin.eq_zero a]; exact h x)) _) $$ [Hcv Ht]
    · isplitl [Hcv]; · iexact Hcv
      iexact Ht
    iintro ⟨Hcv, Ht⟩
    iapply (ev_step d L (outC (binAt X p (wOf L + 32)) tf) 112 rfl _ _ (fun _ => rfl) _) $$ He
    iintro He
    unfold evHeld
    icases He with ⟨%fe2, %hfe2, He⟩
    have hfe2' : fe2 = fun i => outC (binAt X p (wOf L + 32)) tf (i 0).val := funext fun i => hfe2 i (i 0).isLt
    subst hfe2'
    have hs2 : (oDst (k1_off55 L) (k1_off55_inb L h2)).view.set ⊆ oTile (wOf L) \ (oDst (k1_off28 L) (k1_off28_inb L)).view.set := fun i hi => by
      have h := (mem_oDst (k1_off55_inb L h2) (wOf L + 32) (off55 L) i).1 hi
      refine Finset.mem_sdiff.2 ⟨Finset.mem_filter.2 ⟨Finset.mem_univ _, by omega⟩, fun h' => ?_⟩
      have h'' := (mem_oDst (k1_off28_inb L) (wOf L) (off28 L) i).1 h'
      omega
    irename Ho => Ho1
    ihave Hor := (pointsTo_split_subset (ℓ := oLoc d) (q := fullShare) (f := o0) hs2).1 $$ Hor
    icases Hor with ⟨Ho, Hor⟩
    ihave Ho := (Entails.of_eq (show (oLoc d ↦[(oDst (k1_off55 L) (k1_off55_inb L h2)).view.set]{fullShare} o0 : sProp 𝕄)
      = (oDst (k1_off55 L) (k1_off55_inb L h2)).view.loc (thr d L) ↦[(oDst (k1_off55 L) (k1_off55_inb L h2)).view.set]{fullShare} o0 from rfl)) $$ Ho
    sl_exec
    ihave Ho := (Entails.of_eq (show ((oDst (k1_off55 L) (k1_off55_inb L h2)).view.loc (thr d L) ↦[(oDst (k1_off55 L) (k1_off55_inb L h2)).view.set]{fullShare}
        (oDst (k1_off55 L) (k1_off55_inb L h2)).view.writes (Elt F) o0 [⟨Rect.whole S128, tile_body.sl.dma0_5 L X p tf⟩] : sProp 𝕄)
      = oLoc d ↦[(oDst (k1_off55 L) (k1_off55_inb L h2)).view.set]{fullShare} OUT X p tf from pointsTo_congr fun i hi => by
        have hj := (mem_oDst (k1_off55_inb L h2) (wOf L + 32) (off55 L) i).1 hi
        refine (oDst_writes _ _ (k1_off55_inb L h2) (wOf L + 32) (off55 L) i hj).trans ?_
        show outC (binAt X p (wOf L + 32)) tf ((i 0).val % 128) = _
        rw [← hj]; rfl)) $$ Ho
    ihave Hor := (Entails.of_eq (pointsTo_congr (g := OUT X p tf) fun i hi => by
      have hi := Finset.mem_sdiff.1 hi
      have hi' := Finset.mem_sdiff.1 hi.1
      have h1 := (Finset.mem_filter.1 hi'.1).2
      have h3 : (i 0).val < 6144 := (i 0).isLt
      have h4 : ¬ (i 0).val / 128 = wOf L := fun h => hi'.2 ((mem_oDst (k1_off28_inb L) (wOf L) (off28 L) i).2 h)
      have h5 : ¬ (i 0).val / 128 = wOf L + 32 := fun h => hi.2 ((mem_oDst (k1_off55_inb L h2) (wOf L + 32) (off55 L) i).2 h)
      exfalso; omega)) $$ Hor
    ihave Hor := (pointsTo_split_subset (ℓ := oLoc d) (q := fullShare) (f := OUT X p tf) hs2).2 $$ [Ho Hor]
    · isplitl [Ho] <;> iassumption
    ihave Ho := (pointsTo_split_subset (ℓ := oLoc d) (q := fullShare) (f := OUT X p tf) hs1).2 $$ [Ho1 Hor]
    · isplitl [Ho1] <;> iassumption
    sl_step
    subst hP
    beta_reduce
    rw [(K (F := F)).scopedBufs_V hF d (cV L) (jV L), SparseCore.Cfg.scopedSems0_V (Val := Elt F) d (cV L) (jV L), hRS, hRB]
    isplitl [Hx' Hp' Ht' Ho]
    · isplitl [Hx']; · iexact Hx'
      isplitl [Hp']; · iexact Hp'
      isplitl [Ht']; · iexact Ht'
      iexact Ho
    isplitl [Ha Hb Hc Ht Hcv He HRB]
    · isplitl [Ha]; · iexists _; iexact Ha
      isplitl [Hb]; · iexists _; iexact Hb
      isplitl [Hc]; · iexists _; iexact Hc
      isplitl [Ht]; · iexists tf; iexact Ht
      isplitl [Hcv]; · iexists _; iexact Hcv
      isplitl [He]; · iexists _; iexact He
      iexact HRB
    isplitl [S6 S7 R0 R1 R2 R3 HRS]
    · isplitl [S6]; · iexact S6
      isplitl [S7]; · iexact S7
      isplitl [R0]; · iexact R0
      isplitl [R1]; · iexact R1
      isplitl [R2]; · iexact R2
      isplitl [R3]; · iexact R3
      iexact HRS
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · have h2 : ¬ k1_cond2 L = 1#1 := fun h => h1 ((cond1_iff L).2 ((cond2_iff L).1 h))
    simp only [dif_neg h1]
    rw [(K (F := F)).scopedBufs_V hF d (cV L) (jV L), SparseCore.Cfg.scopedSems0_V (Val := Elt F) d (cV L) (jV L), hRS, hRB]
    iintro ⟨#Hlv, -, ⟨Hx, Hp, Ht, Ho⟩, ⟨⟨%f0, H0⟩, ⟨%f1, H1⟩, ⟨%f2, H2⟩, ⟨%f3, H3⟩, ⟨%f4, H4⟩, ⟨%f5, H5⟩, HRB⟩, ⟨S6, S7, R0, R1, R2, R3, HRS⟩, HO⟩
    ihave Hmw := (show levAts (K (F := F)).L (K (F := F)).lev ⊢ Transfers.MayWaits (thr d L) (default : HIx 1) O from
      (K (F := F)).mayWaits_none (thr := thr d L) hO) $$ Hlv
    ihave Hx' := (Entails.of_eq (show (xLoc d ↦{q} X : sProp 𝕄) = xM.view.loc (thr d L) ↦{q} X from rfl)) $$ Hx
    ihave Hp' := (Entails.of_eq (show (pLoc d ↦{q} p : sProp 𝕄) = pM.view.loc (thr d L) ↦{q} p from rfl)) $$ Hp
    ihave Ht' := (Entails.of_eq (show (tLoc d ↦{q} tf : sProp 𝕄) = tM.view.loc (thr d L) ↦{q} tf from rfl)) $$ Ht
    ihave Ha := (Entails.of_eq (show ((thr d L).loc cc1_scratch0 ↦{fullShare} f0 : sProp 𝕄) = x0M.view.loc (thr d L) ↦{fullShare} f0 from rfl)) $$ H0
    ihave Hb := (Entails.of_eq (show ((thr d L).loc cc1_scratch1 ↦{fullShare} f1 : sProp 𝕄) = x1M.view.loc (thr d L) ↦{fullShare} f1 from rfl)) $$ H1
    ihave Hc := (Entails.of_eq (show ((thr d L).loc cc1_scratch2 ↦{fullShare} f2 : sProp 𝕄) = pvM.view.loc (thr d L) ↦{fullShare} f2 from rfl)) $$ H2
    ihave Hd := (Entails.of_eq (show ((thr d L).loc cc1_scratch3 ↦{fullShare} f3 : sProp 𝕄) = tvM.view.loc (thr d L) ↦{fullShare} f3 from rfl)) $$ H3
    sl_exec
    generalize e14 : k1_pay48 (F := F) _ _ = v14
    replace e14 : v14 = nrm p := e14.symm.trans (pay48_eq f2 p _ _)
    generalize e16 : k1_pay49 (F := F) _ = v16
    replace e16 : v16 = scl p := e16.symm.trans (pay49_eq f2 p _)
    generalize e17 : (k1_pay50 : FVec F S16 .f32) = v17
    replace e17 : v17 = fun _ => zeroF := e17.symm
    generalize e18 : (k1_pay51 : FVec F S16 .f32) = v18
    replace e18 : v18 = fun _ => oneF := e18.symm
    generalize e19 : iota .scVector S16 32 [0] iota_S16_d0_w32_scVector = v19
    replace e19 : ∀ l : Fin 16, v19 (lane l) = BitVec.ofNat 32 l.val := fun l => e19 ▸ iota_lane l
    generalize e20 : k1_pay52 = v20
    replace e20 : ∀ x, v20 x = 31#32 := fun x => e20 ▸ rfl
    subst hk
    subst e14 e16
    ihave H4 := (Entails.of_eq (show ((thr d L).loc cc1_scratch4 ↦{fullShare} f4 : sProp 𝕄) = cvP d L f4 from rfl)) $$ H4
    ihave H5 := (Entails.of_eq (show ((thr d L).loc cc1_scratch5 ↦{fullShare} f5 : sProp 𝕄) = evM.view.loc (thr d L) ↦{fullShare} f5 from rfl)) $$ H5
    ihave Ht := (Entails.of_eq (show (tvM.view.loc (thr d L) ↦{fullShare} View.write (Elt F) tvM.view f3 (tile_body.sl.dma0_8 tf) Finset.univ : sProp 𝕄) = tvP d L tf from
      congrArg (fun g : S80.Idx → F .f32 => (tvM.view.loc (thr d L) ↦{fullShare} g : sProp 𝕄)) ((View.write_whole_univ _ _ _).trans (show tile_body.sl.dma0_8 tf = tf from rfl)))) $$ Hd
    have hblk : x0M.view.read (Elt F) (View.write (Elt F) x0M.view f0 (tile_body.sl.dma0_6 L X) Finset.univ) = xblk X (wOf L) :=
      (View.read_write_univ _ _).trans (xSrc_read X (k1_off1_inb L) (wOf L) (k1_off1_eq L))
    iapply (wp_seq d L (part8 d L _ (xblk X (wOf L)) hblk (nrm p) (scl p) v17 v18 v19 v20 e18 e19 e20 (hb (wOf L) (by have := wOf_lt L; omega)) _ e17 f4 f5 tf hcw)) $$ [Ha H4 Ht H5]
    · isplitl [Ha]; · iexact Ha
      isplitl [H4]; · iexact H4
      isplitl [Ht]; · iexact Ht
      iexact H5
    iintro %v53 ⟨%h53, Ha, Hcv, Ht, He⟩
    iapply (wp_seq d L (part9 d L (binAt X p (wOf L)) tf hcw v17 v53 e17 h53)) $$ [Hcv Ht He]
    · isplitl [Hcv]; · iexact Hcv
      isplitl [Ht]; · iexact Ht
      iexact He
    iintro %r9 ⟨%h9, Hcv, Ht, He⟩
    subst h9
    iapply (ev_step d L (outC (binAt X p (wOf L)) tf) 96 rfl _ _ (fun _ => rfl) _) $$ He
    iintro He
    iapply (ent_loop d L (binAt X p (wOf L)) tf 112 (lb := k1_t10_loop.lb) (ub := k1_t10_loop.ub) (st := k1_t10_loop.st) k1_t10_ok (by decide) _ e17 _ (fun (t : Fin k1_t10_loop.trips) ⟨a0, a1⟩ => ent_trip d L (binAt X p (wOf L)) tf hcw 112 t.val (by decide) t.isLt (a0, a1) (k1_off26_eq t) rfl (k1_off27_eq t) rfl
      (k1_off26_inb t) (k1_off27_inb t) (k1_chk23) (k1_chk23.dec) (k1_idx23_inb)
      (k1_chk24) (k1_chk24.dec) (k1_idx24_inb)
      (fun v h a x => by rw [Fin.eq_zero a]; exact h x) (fun v h a x => by rw [Fin.eq_zero a]; exact h x)) _) $$ [Hcv Ht]
    · isplitl [Hcv] <;> iassumption
    iintro ⟨Hcv, Ht⟩
    iapply (ev_step d L (outC (binAt X p (wOf L)) tf) 112 rfl _ _ (fun _ => rfl) _) $$ He
    iintro He
    unfold evHeld
    icases He with ⟨%fe1, %hfe1, He⟩
    have hfe1' : fe1 = fun i => outC (binAt X p (wOf L)) tf (i 0).val := funext fun i => hfe1 i (i 0).isLt
    subst hfe1'
    have hs1 : (oDst (k1_off28 L) (k1_off28_inb L)).view.set ⊆ oTile (wOf L) := fun i hi => by
      have h := (mem_oDst (k1_off28_inb L) (wOf L) (off28 L) i).1 hi
      have := wOf_lt L
      exact Finset.mem_filter.2 ⟨Finset.mem_univ _, by omega⟩
    ihave Ho := (pointsTo_split_subset (ℓ := oLoc d) (q := fullShare) (f := o0) hs1).1 $$ Ho
    icases Ho with ⟨Ho, Hor⟩
    ihave Ho := (Entails.of_eq (show (oLoc d ↦[(oDst (k1_off28 L) (k1_off28_inb L)).view.set]{fullShare} o0 : sProp 𝕄)
      = (oDst (k1_off28 L) (k1_off28_inb L)).view.loc (thr d L) ↦[(oDst (k1_off28 L) (k1_off28_inb L)).view.set]{fullShare} o0 from rfl)) $$ Ho
    sl_exec
    ihave Ho := (Entails.of_eq (show ((oDst (k1_off28 L) (k1_off28_inb L)).view.loc (thr d L) ↦[(oDst (k1_off28 L) (k1_off28_inb L)).view.set]{fullShare}
        (oDst (k1_off28 L) (k1_off28_inb L)).view.writes (Elt F) o0 [⟨Rect.whole S128, tile_body.sl.dma0_9 L X p tf⟩] : sProp 𝕄)
      = oLoc d ↦[(oDst (k1_off28 L) (k1_off28_inb L)).view.set]{fullShare} OUT X p tf from pointsTo_congr fun i hi => by
        have hj := (mem_oDst (k1_off28_inb L) (wOf L) (off28 L) i).1 hi
        refine (oDst_writes _ _ (k1_off28_inb L) (wOf L) (off28 L) i hj).trans ?_
        show outC (binAt X p (wOf L)) tf ((i 0).val % 128) = _
        rw [← hj]; rfl)) $$ Ho
    ihave Hor := (Entails.of_eq (pointsTo_congr (g := OUT X p tf) fun i hi => by
      have hi := Finset.mem_sdiff.1 hi
      have h1 := (Finset.mem_filter.1 hi.1).2
      have h3 : (i 0).val < 6144 := (i 0).isLt
      have h4 : ¬ (i 0).val / 128 = wOf L := fun h => hi.2 ((mem_oDst (k1_off28_inb L) (wOf L) (off28 L) i).2 h)
      have h5 : ¬ wOf L < 16 := fun h => h2 ((cond2_iff L).2 h)
      exfalso; omega)) $$ Hor
    ihave Ho := (pointsTo_split_subset (ℓ := oLoc d) (q := fullShare) (f := OUT X p tf) hs1).2 $$ [Ho Hor]
    · isplitl [Ho] <;> iassumption
    sl_step
    subst hP
    beta_reduce
    rw [(K (F := F)).scopedBufs_V hF d (cV L) (jV L), SparseCore.Cfg.scopedSems0_V (Val := Elt F) d (cV L) (jV L), hRS, hRB]
    isplitl [Hx' Hp' Ht' Ho]
    · isplitl [Hx']; · iexact Hx'
      isplitl [Hp']; · iexact Hp'
      isplitl [Ht']; · iexact Ht'
      iexact Ho
    isplitl [Ha Hb Hc Ht Hcv He HRB]
    · isplitl [Ha]; · iexists _; iexact Ha
      isplitl [Hb]; · iexists _; iexact Hb
      isplitl [Hc]; · iexists _; iexact Hc
      isplitl [Ht]; · iexists tf; iexact Ht
      isplitl [Hcv]; · iexists _; iexact Hcv
      isplitl [He]; · iexists _; iexact He
      iexact HRB
    isplitl [S6 S7 R0 R1 R2 R3 HRS]
    · isplitl [S6]; · iexact S6
      isplitl [S7]; · iexact S7
      isplitl [R0]; · iexact R0
      isplitl [R1]; · iexact R1
      isplitl [R2]; · iexact R2
      isplitl [R3]; · iexact R3
      iexact HRS
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

end Cert.Proof.Sc

end
-- ==== Proof.Sc.Launch.lean ====
/-
  The SparseCore call as the launch theorem sees it: what the handshakes carry, the tasks' obligation, and the split of
  the operands.
-/
module

public import proofs.«01_k».proof.Proof.Sc.Tile
public import Idealize.ShloMosaic.Lib.ShareLeaves

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F] [Named F]

local notation "𝕄" => MT nD τ sig (HIx 1) (Elt F) ℕ UU ℕ

/-! ## The parts of the result, and the shares of the operands -/

/-- The part of the result that core `c` writes. -/
def oCore (c : Fin 2) : Finset S6144.Idx := Finset.univ.filter fun i => (i 0).val / 128 % 2 = c.val

theorem oCore_disj : ∀ c ∈ (Finset.univ : Finset (Fin 2)), ∀ c' ∈ (Finset.univ : Finset (Fin 2)), c ≠ c' → Disjoint (oCore c) (oCore c') := by
  intro c _ c' _ h
  refine Finset.disjoint_left.mpr fun i hi hi' => h (Fin.ext ?_)
  have h1 := (Finset.mem_filter.mp hi).2
  have h2 := (Finset.mem_filter.mp hi').2
  exact h1.symm.trans h2

theorem oCore_cover : (Finset.univ : Finset (Fin 2)).biUnion oCore = Finset.univ := by
  refine Finset.eq_univ_of_forall fun i => Finset.mem_biUnion.mpr ⟨⟨(i 0).val / 128 % 2, Nat.mod_lt _ (by decide)⟩, Finset.mem_univ _, ?_⟩
  exact Finset.mem_filter.mpr ⟨Finset.mem_univ _, rfl⟩

theorem oTile_disj (c : Fin 2) : ∀ s ∈ (Finset.univ : Finset (Fin 16)), ∀ s' ∈ (Finset.univ : Finset (Fin 16)), s ≠ s' →
    Disjoint (oTile (2 * s.val + c.val)) (oTile (2 * s'.val + c.val)) := by
  intro s _ s' _ h
  refine Finset.disjoint_left.mpr fun i hi hi' => h (Fin.ext ?_)
  have h1 : (i 0).val / 128 % 32 = 2 * s.val + c.val := (Finset.mem_filter.mp hi).2
  have h2 : (i 0).val / 128 % 32 = 2 * s'.val + c.val := (Finset.mem_filter.mp hi').2
  omega

theorem oTile_cover (c : Fin 2) : (Finset.univ : Finset (Fin 16)).biUnion (fun s => oTile (2 * s.val + c.val)) = oCore c := by
  ext i
  constructor
  · intro h
    obtain ⟨s, -, hs⟩ := Finset.mem_biUnion.mp h
    have h1 : (i 0).val / 128 % 32 = 2 * s.val + c.val := (Finset.mem_filter.mp hs).2
    refine Finset.mem_filter.mpr ⟨Finset.mem_univ _, ?_⟩
    have := c.isLt
    omega
  · intro h
    have h1 : (i 0).val / 128 % 2 = c.val := (Finset.mem_filter.mp h).2
    have := c.isLt
    refine Finset.mem_biUnion.mpr ⟨⟨(i 0).val / 128 % 32 / 2, by omega⟩, Finset.mem_univ _, Finset.mem_filter.mpr ⟨Finset.mem_univ _, ?_⟩⟩
    show (i 0).val / 128 % 32 = 2 * ((i 0).val / 128 % 32 / 2) + c.val
    omega

/-- Core `c`'s share of an operand, and that of its subcore `s`. -/
abbrev qC (c : Fin 2) : PosShare TreeShare := leaf 1 fullShare c
abbrev qT (c : Fin 2) (s : Fin 16) : PosShare TreeShare := leaf 4 (qC c) s

theorem o_cores (d : Dev nD) (f : S6144.Idx → F .f32) :
    (oLoc d ↦{fullShare} f : sProp 𝕄) = bigSep Finset.univ fun c : Fin 2 => oLoc d ↦[oCore c]{fullShare} f := by
  rw [← pointsTo_biUnion Finset.univ (ℓ := oLoc d) oCore oCore_disj, oCore_cover]
theorem o_tiles (d : Dev nD) (c : Fin 2) (f : S6144.Idx → F .f32) :
    (oLoc d ↦[oCore c]{fullShare} f : sProp 𝕄) = bigSep Finset.univ fun s : Fin 16 => oLoc d ↦[oTile (2 * s.val + c.val)]{fullShare} f := by
  rw [← pointsTo_biUnion Finset.univ (ℓ := oLoc d) (fun s : Fin 16 => oTile (2 * s.val + c.val)) (oTile_disj c), oTile_cover]

variable (X : Dev nD → S48x64x128.Idx → F .f32) (p : Dev nD → S2x16.Idx → F .f32) (tf : Dev nD → S80.Idx → F .f32) (o0 : Dev nD → S6144.Idx → F .f32)

/-- The three operands, at a share. -/
abbrev ops3 (d : Dev nD) (q : PosShare TreeShare) : sProp 𝕄 := iprop((xLoc d ↦{q} X d) ∗ (pLoc d ↦{q} p d) ∗ (tLoc d ↦{q} tf d))

theorem ops3_leaves (d : Dev nD) (n : ℕ) (q : PosShare TreeShare) :
    (ops3 X p tf d q : sProp 𝕄) = bigSep Finset.univ fun i : Fin (2 ^ n) => ops3 X p tf d (leaf n q i) := by
  unfold ops3
  rw [bigSep_sep', bigSep_sep', ← pointsTo_leaves, ← pointsTo_leaves, ← pointsTo_leaves]

/-! ## What the handshakes carry -/

/-- The values the call leaves. -/
abbrev outAt (d : Dev nD) : S6144.Idx → F .f32 := OUT (X d) (p d) (tf d)

/-- Each core takes its share of the operands and its part of the result, each task its own; they bring them back, the
    result at the entropies. -/
def P : (K (F := F)).Pay (nD := nD) (Val := Elt F) (Name := ℕ) (U := UU) where
  st := fun q d c => match q with
    | 0 => iprop(ops3 X p tf d (qC (Fin.cast nCore_zero c)) ∗ oLoc d ↦[oCore (Fin.cast nCore_zero c)]{fullShare} o0 d)
  dn := fun q d c => match q with
    | 0 => iprop(ops3 X p tf d (qC (Fin.cast nCore_zero c)) ∗ oLoc d ↦[oCore (Fin.cast nCore_zero c)]{fullShare} outAt X p tf d)
  go := fun q d c i => match q with
    | 0 => iprop(ops3 X p tf d (qT (Fin.cast nCore_zero c) (Fin.cast nSub_zero i))
        ∗ oLoc d ↦[oTile (2 * (Fin.cast nSub_zero i).val + (Fin.cast nCore_zero c).val)]{fullShare} o0 d)
  td := fun q d c i => match q with
    | 0 => iprop(ops3 X p tf d (qT (Fin.cast nCore_zero c) (Fin.cast nSub_zero i))
        ∗ oLoc d ↦[oTile (2 * (Fin.cast nSub_zero i).val + (Fin.cast nCore_zero c).val)]{fullShare} outAt X p tf d)
  x := fun _ _ => iprop(emp)

instance P_storable : (P X p tf o0).IsStorable where
  st q d c := match q with
    | 0 => (inferInstance : BI.Storable (upEmb : UEmb _ 𝕄)
        iprop(ops3 X p tf d (qC (Fin.cast nCore_zero c)) ∗ oLoc d ↦[oCore (Fin.cast nCore_zero c)]{fullShare} o0 d))
  dn q d c := match q with
    | 0 => (inferInstance : BI.Storable (upEmb : UEmb _ 𝕄)
        iprop(ops3 X p tf d (qC (Fin.cast nCore_zero c)) ∗ oLoc d ↦[oCore (Fin.cast nCore_zero c)]{fullShare} outAt X p tf d))
  go q d c i := match q with
    | 0 => (inferInstance : BI.Storable (upEmb : UEmb _ 𝕄)
        iprop(ops3 X p tf d (qT (Fin.cast nCore_zero c) (Fin.cast nSub_zero i))
        ∗ oLoc d ↦[oTile (2 * (Fin.cast nSub_zero i).val + (Fin.cast nCore_zero c).val)]{fullShare} o0 d))
  td q d c i := match q with
    | 0 => (inferInstance : BI.Storable (upEmb : UEmb _ 𝕄)
        iprop(ops3 X p tf d (qT (Fin.cast nCore_zero c) (Fin.cast nSub_zero i))
        ∗ oLoc d ↦[oTile (2 * (Fin.cast nSub_zero i).val + (Fin.cast nCore_zero c).val)]{fullShare} outAt X p tf d))

/-! ## The tasks -/

/-- The tile of core `c`, subcore `s`. -/
def tileOf (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_hist_body (tileOf c s) xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3) ⟨⟩ c s := rfl

theorem task_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- `tile_body` with its operands grouped as the handshakes carry them. -/
theorem tile_body' (d : Dev nD) (L : grid1.Coords) (hF : (K (F := F)).Facts) (hb : ∀ d, ∀ j < 48, ∀ r < 64, ∀ c < 128, binAt (X d) (p d) j r c < 32)
    (hcw : ∀ n ≤ 64, FloatOps.fptosi 32 (cw n : F .f32) = BitVec.ofNat 32 n) (q : PosShare TreeShare)
    (O : CellTallies nD τ sig (HIx 1)) (W : Waits sig (HIx 1)) (hO : ∀ g, O g none = 0) :
    iprop(levAts (K (F := F)).L (K (F := F)).lev ∗ (emp : sProp 𝕄) ∗ (ops3 X p tf d q ∗ (oLoc d ↦[oTile (wOf L)]{fullShare} o0 d))
        ∗ scopedBufs (thr d L) ∗ scopedSems0 (thr d L) ∗ owes (thr d L) O W)
      ⊢ wp frame (wpE (defs₀ (F := F)) 𝒱₀ (thr d L) none) Set.univ (cc1__sc_hist_body L xM (Memref.isWhole_whole _) pM (Memref.isWhole_whole _) tM (Memref.isWhole_whole _) oM (Memref.isWhole_whole _) x0M (Memref.isWhole_whole _) x1M (Memref.isWhole_whole _)
          pvM (Memref.isWhole_whole _) tvM (Memref.isWhole_whole _) cvM (Memref.isWhole_whole _) evM (Memref.isWhole_whole _) cc1_scratch6 cc1_scratch7 cc1_scoped0 cc1_scoped1 cc1_scoped2 cc1_scoped3)
          fun _ => iprop((ops3 X p tf d q ∗ (oLoc d ↦[oTile (wOf L)]{fullShare} outAt X p tf d))
            ∗ scopedBufs (thr d L) ∗ scopedSems0 (thr d L)
            ∗ ∃ W', ⌜∀ p ∈ W', p ∈ W ∨ p.2 = none⌝ ∗ owes (thr d L) O W') := by
  refine BIBase.Entails.trans ?_ ((tile_body d L (X d) (p d) (tf d) hF (hb d) hcw (o0 d) q O W hO).trans (wp_mono frame _ _ fun _ => ?_))
  · iintro ⟨Hl, He, ⟨⟨Hx, Hp, Ht⟩, Ho⟩, H⟩
    isplitl [Hl]; · iexact Hl
    isplitl [He]; · iexact He
    isplitl [Hx Hp Ht Ho]
    · isplitl [Hx]; · iexact Hx
      isplitl [Hp]; · iexact Hp
      isplitl [Ht]; · iexact Ht
      iexact Ho
    iexact H
  · iintro ⟨⟨Hx, Hp, Ht, Ho⟩, H⟩
    isplitr [H]
    · isplitr [Ho]
      · isplitl [Hx]; · iexact Hx
        isplitl [Hp]; · iexact Hp
        iexact Ht
      iexact Ho
    iexact H

set_option maxRecDepth 16384 in
theorem tileObl (hF : (K (F := F)).Facts) (hb : ∀ d, ∀ j < 48, ∀ r < 64, ∀ c < 128, binAt (X d) (p d) j r c < 32)
    (hcw : ∀ n ≤ 64, FloatOps.fptosi 32 (cw n : F .f32) = BitVec.ofNat 32 n) : (K (F := F)).TileObl (D (F := F)) 𝒱 (P X p tf o0) v₀ 0 := by
  intro d c i O W hO _ _
  simp only [show (P X p tf o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body' X p tf o0 d (tileOf ⟨_, hci.1⟩ ⟨_, hci.2⟩) hF hb hcw (qT (Fin.cast nCore_zero c) (Fin.cast nSub_zero i)) O W hO).trans (wp_mono frame _ _ fun _ => task_post)

/-! ## The split -/

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem core_split (d : Dev nD) (c : Fin 2) (f : S6144.Idx → F .f32) :
    (iprop(ops3 X p tf d (qC c) ∗ oLoc d ↦[oCore c]{fullShare} f) : sProp 𝕄)
      = bigSep Finset.univ fun s : Fin 16 => iprop(ops3 X p tf d (qT c s) ∗ oLoc d ↦[oTile (2 * s.val + c.val)]{fullShare} f) := by
  rw [bigSep_sep', ← o_tiles]
  congr 1
  exact ops3_leaves X p tf d 4 (qC c)

theorem call_split (d : Dev nD) (f : S6144.Idx → F .f32) :
    (iprop(ops3 X p tf d fullShare ∗ oLoc d ↦{fullShare} f) : sProp 𝕄)
      = bigSep Finset.univ fun c : Fin 2 => iprop(ops3 X p tf d (qC c) ∗ oLoc d ↦[oCore c]{fullShare} f) := by
  rw [bigSep_sep', ← o_cores]
  congr 1
  exact ops3_leaves X p tf d 1 fullShare

theorem vecSplit : (K (F := F)).VecSplit' (P X p tf o0) 0 := by
  intro d c
  let c' : Fin 2 := Fin.cast nCore_zero c
  show iprop(ops3 X p tf d (qC c') ∗ oLoc d ↦[oCore c']{fullShare} o0 d) ⊢ |={Set.univ}=> iprop(
      (bigSep Finset.univ fun i : Fin ((K (F := F)).nSub 0) =>
        (fun s : Fin 16 => iprop(ops3 X p tf d (qT c' s) ∗ oLoc d ↦[oTile (2 * s.val + c'.val)]{fullShare} o0 d)) (Fin.cast nSub_zero i))
      ∗ ((bigSep Finset.univ fun i : Fin ((K (F := F)).nSub 0) =>
          (fun s : Fin 16 => iprop(ops3 X p tf d (qT c' s) ∗ oLoc d ↦[oTile (2 * s.val + c'.val)]{fullShare} outAt X p tf d)) (Fin.cast nSub_zero i))
          -∗ iprop(ops3 X p tf d (qC c') ∗ oLoc d ↦[oCore c']{fullShare} outAt X p tf d)))
  rw [bigSep_subs (fun s : Fin 16 => iprop(ops3 X p tf d (qT c' s) ∗ oLoc d ↦[oTile (2 * s.val + c'.val)]{fullShare} o0 d)),
    bigSep_subs (fun s : Fin 16 => iprop(ops3 X p tf d (qT c' s) ∗ oLoc d ↦[oTile (2 * s.val + c'.val)]{fullShare} outAt X p tf d)), ← core_split, ← core_split]
  iintro H; imodintro
  isplitl [H]; · iexact H
  iintro H; iexact H

theorem st0_eq (d : Dev nD) : (bigSep Finset.univ fun c : Fin ((K (F := F)).nCore 0) => (P X p tf o0).st 0 d c)
    = iprop(ops3 X p tf d fullShare ∗ oLoc d ↦{fullShare} o0 d) :=
  (bigSep_cores fun c : Fin 2 => iprop(ops3 X p tf d (qC c) ∗ oLoc d ↦[oCore c]{fullShare} o0 d)).trans (call_split X p tf d (o0 d)).symm
theorem dn0_eq (d : Dev nD) : (bigSep Finset.univ fun c : Fin ((K (F := F)).nCore 0) => (P X p tf o0).dn 0 d c)
    = iprop(ops3 X p tf d fullShare ∗ oLoc d ↦{fullShare} outAt X p tf d) :=
  (bigSep_cores fun c : Fin 2 => iprop(ops3 X p tf d (qC c) ∗ oLoc d ↦[oCore c]{fullShare} outAt X p tf d)).trans (call_split X p tf d (outAt X p tf d)).symm

end Cert.Proof.Sc

end
-- ==== Proof.Tc.Main.lean ====
/-
  The main function: the TensorCore call, the host's table, the SparseCore call; the program's run and the values it
  leaves.
-/
module

public import proofs.«01_k».proof.Proof.Tc.Region
public import proofs.«01_k».proof.Proof.Sc.Launch

@[expose] public section

noncomputable section

namespace Cert.Proof.Tc

open Cert.KernelIdeal Cert.KernelIdeal.Gen
open Cert.Proof.Sc
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.StableHlo (held seq after wp_seq)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host's table -/

/-- The numbers `0 … 79`. -/
abbrev iota80 : S80.Idx → F .f32 := sitofp .f32 (iotaInDim S80 32 0)
/-- The table the host computes: `n * log n` up to the batch, zero beyond. -/
def TAB : S80.Idx → F .f32 :=
  select (cmpf .ole (iota80 (F := F)) (broadcastInDim S80 ![] bcast_S_S80 (constant S_ .f32 0x42800000#32)))
    (mulf (iota80 (F := F)) (Host.log (maximumf (iota80 (F := F)) (broadcastInDim S80 ![] bcast_S_S80 (constant S_ .f32 0x3F800000#32)))))
    (broadcastInDim S80 ![] bcast_S_S80 (constant S_ .f32 0x00000000#32))

/-- The host operations between the two calls. -/
def hostOps : List (HloOp τ sig (Elt F)) :=
  [StableHlo.nullary main_v1 (sitofp .f32 (iotaInDim S80 32 0)),
   StableHlo.nullary main_cst (constant S_ .f32 0x42800000#32),
   StableHlo.unary main_cst main_v2 (broadcastInDim S80 ![] bcast_S_S80 : (⟨S_, .f32⟩ : BufTy).Contents (Elt F) → (⟨S80, .f32⟩ : BufTy).Contents (Elt F)),
   StableHlo.binary main_v1 main_v2 main_v3 (cmpf .ole : (⟨S80, .f32⟩ : BufTy).Contents (Elt F) → (⟨S80, .f32⟩ : BufTy).Contents (Elt F) → (⟨S80, .i1⟩ : BufTy).Contents (Elt F)),
   StableHlo.nullary main_cst_0 (constant S_ .f32 0x3F800000#32),
   StableHlo.unary main_cst_0 main_v4 (broadcastInDim S80 ![] bcast_S_S80 : (⟨S_, .f32⟩ : BufTy).Contents (Elt F) → (⟨S80, .f32⟩ : BufTy).Contents (Elt F)),
   StableHlo.binary main_v1 main_v4 main_v5 (maximumf : (⟨S80, .f32⟩ : BufTy).Contents (Elt F) → (⟨S80, .f32⟩ : BufTy).Contents (Elt F) → (⟨S80, .f32⟩ : BufTy).Contents (Elt F)),
   StableHlo.unary main_v5 main_v6 (Host.log : (⟨S80, .f32⟩ : BufTy).Contents (Elt F) → (⟨S80, .f32⟩ : BufTy).Contents (Elt F)),
   StableHlo.binary main_v1 main_v6 main_v7 (mulf : (⟨S80, .f32⟩ : BufTy).Contents (Elt F) → (⟨S80, .f32⟩ : BufTy).Contents (Elt F) → (⟨S80, .f32⟩ : BufTy).Contents (Elt F)),
   StableHlo.nullary main_cst_1 (constant S_ .f32 0x00000000#32),
   StableHlo.unary main_cst_1 main_call0_v0 id,
   StableHlo.unary main_call0_v0 main_call0_v1 (broadcastInDim S80 ![] bcast_S_S80 : (⟨S_, .f32⟩ : BufTy).Contents (Elt F) → (⟨S80, .f32⟩ : BufTy).Contents (Elt F)),
   StableHlo.ternary main_v3 main_v7 main_call0_v1 main_v8 (select : (⟨S80, .i1⟩ : BufTy).Contents (Elt F) → (⟨S80, .f32⟩ : BufTy).Contents (Elt F) → (⟨S80, .f32⟩ : BufTy).Contents (Elt F) → (⟨S80, .f32⟩ : BufTy).Contents (Elt F))]

/-- The host's buffers, the table last. -/
def hostRefs : List (Ref sig .tc) :=
  [main_v1, main_cst, main_v2, main_v3, main_cst_0, main_v4, main_v5, main_v6, main_v7, main_cst_1, main_call0_v0, main_call0_v1, main_v8]
def hostSet : Finset (DevRef τ sig) := (hostRefs.map (Proc.devRef (τ := τ) .tc)).toFinset

theorem main_eq (d : Dev nD) : main (F := F) d
    = (SparseCore.liftProg (Prog.lift (.customCall (Pipeline.entry 0) ()) : Prog (TpuEff nD τ sig (Elt F) (ΛP (F := F)) .tc) PUnit) >>= fun _ =>
      seq (hostOps (F := F)) >>= fun _ => (K (F := F)).run d 0) := by
  rfl

theorem hostOps_sub : ∀ op ∈ hostOps (F := F), op.bufs ⊆ hostSet := by
  intro op h
  simp only [hostOps, List.mem_cons, List.not_mem_nil, or_false] at h
  rcases h with h | h | h | h | h | h | h | h | h | h | h | h | h <;> subst h <;> intro b hb <;>
    simp only [StableHlo.nullary, StableHlo.unary, StableHlo.binary, StableHlo.ternary, Finset.mem_insert, Finset.mem_singleton] at hb <;>
    simp only [hostSet, hostRefs, List.map_cons, List.toFinset_cons, Finset.mem_insert] <;> tauto

theorem hostOps_fresh : ∀ op ∈ hostOps (F := F), op.fresh = ∅ := by
  exact List.forall_iff_forall_mem.mp (StableHlo.forall_fresh_of_map rfl)

theorem after_v8 (V : Valuation τ sig (Elt F)) : after (hostOps (F := F)) V (Proc.devRef .tc main_v8) = TAB (F := F) := by
  simp only [hostOps, StableHlo.after_cons, StableHlo.after_nil]
  rfl

/-! ## The launch -/

/-- The payload of the SparseCore call: the means, the parameters and the table. -/
abbrev PP : (K (F := F)).Pay (nD := nD) (Val := Elt F) (Name := ℕ) (U := UU) :=
  Sc.P (F := F) (fun d => MEANS (arg0 m d) (arg1 m d)) (fun d => PARAMS (arg0 m d) (arg1 m d)) (fun _ => TAB (F := F)) (fun d => m (oLoc d))

/-- What the program leaves in its result. -/
abbrev RES (d : Dev nD) : S6144.Idx → F .f32 := OUT (MEANS (arg0 m d) (arg1 m d)) (PARAMS (arg0 m d) (arg1 m d)) (TAB (F := F))

theorem pinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- What the launch deals device `d` for the TensorCore call's cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem own_pair_left (a : UP) : (BI.own ((embR : Emb (UP × Counters) 𝕄) (a, 1)) : sProp 𝕄) ⊢ BI.own ((EP : Emb UP 𝕄) a) := .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells (Pipeline.pin (pcfgs (F := F)) adm) pinj) (Pipeline.launchToks (Pipeline.pin (pcfgs (F := F)) adm) pinj), 1) : UP × Counters)) $$ Hu
  icases H with ⟨HH, HP⟩
  ihave HP := (own_pair_left (F := F) _) $$ HP
  imod (Pipeline.fund_ghost (Pipeline.pin (pcfgs (F := F)) adm) (EP : Emb UP 𝕄) pinj) $$ HP with ⟨Hc, Ht⟩
  imodintro
  isplitl [HH]; · iexact HH
  isplitl [Hc Ht]
  · rw [bigSep_sep']
    isplitl [Hc]
    · iapply (BIBase.Entails.of_eq (bigSep_congr (s := (Finset.univ : Finset (Dev nD))) fun c _ => bigSep_univ_of_subsingleton (0 : Fin 1)
        (Φ := fun p => Pipeline.cellsGhost (Pipeline.pin (pcfgs (F := F)) adm) (EP : Emb UP 𝕄) p c))) $$ Hc
    · iapply (BIBase.Entails.of_eq (bigSep_congr (s := (Finset.univ : Finset (Dev nD))) fun c _ => bigSep_univ_of_subsingleton (0 : Fin 1)
        (Φ := fun p => Pipeline.toksInit (Pipeline.pin (pcfgs (F := F)) adm) (EP : Emb UP 𝕄) p c))) $$ Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The main function on the TensorCore -/

theorem held_host (d : Dev nD) (V : Valuation τ sig (Elt F)) :
    (held (d.tc : Thread nD τ) hostSet V : sProp 𝕄) = iprop(held (d.tc : Thread nD τ) {Proc.devRef .tc main_v8} V
      ∗ held (d.tc : Thread nD τ) (hostSet \ {Proc.devRef .tc main_v8}) V) :=
  StableHlo.held_sub_split _ (by decide) V

theorem held_v8 (d : Dev nD) (V : Valuation τ sig (Elt F)) :
    (held (d.tc : Thread nD τ) {Proc.devRef .tc main_v8} V : sProp 𝕄) = iprop(tLoc d ↦{fullShare} V (Proc.devRef .tc main_v8)) := by
  unfold held; rw [bigSep_singleton]

/-- The launch contents of device `d`'s buffers. -/
abbrev V0 (d : Dev nD) : Valuation τ sig (Elt F) := fun b => m (d, b)

theorem unscopedBufs_eq (d : Dev nD) :
    (unscopedBufs d (fun b => m ((SparseCore.T d).loc b)) : sProp 𝕄)
      = iprop((a0Loc d ↦{fullShare} m (a0Loc d)) ∗ (a1Loc d ↦{fullShare} m (a1Loc d)) ∗ (xLoc d ↦{fullShare} m (xLoc d))
        ∗ (pLoc d ↦{fullShare} m (pLoc d)) ∗ (oLoc d ↦{fullShare} m (oLoc d)) ∗ held (d.tc : Thread nD τ) hostSet (V0 m d)) := by
  unfold unscopedBufs
  rw [show (Finset.univ.filter fun b : Ref sig .tc => ¬ b.isScoped)
      = insert main_arg0 (insert main_arg1 (insert main_v0_0 (insert main_v0_1 (insert main_v9 hostRefs.toFinset)))) by decide,
    SparseCore.bigSep_insert' (by decide), SparseCore.bigSep_insert' (by decide), SparseCore.bigSep_insert' (by decide),
    SparseCore.bigSep_insert' (by decide), SparseCore.bigSep_insert' (by decide)]
  congr 5

/-- What the main function ends holding of its arguments and its result. -/
abbrev FIN (d : Dev nD) : sProp 𝕄 :=
  iprop((a0Loc d ↦{fullShare} m (a0Loc d)) ∗ (a1Loc d ↦{fullShare} m (a1Loc d)) ∗ (oLoc d ↦{fullShare} (RES m d : Buf (Elt F) (oLoc d))))

/-- What the TensorCore call is entered with, and what it leaves. -/
abbrev tcPre (c : Dev nD) : sProp 𝕄 :=
  iprop((a0Loc c ↦{fullShare} m (a0Loc c)) ∗ (a1Loc c ↦{fullShare} m (a1Loc c)) ∗ (xLoc c ↦{fullShare} m (xLoc c))
    ∗ (pLoc c ↦{fullShare} m (pLoc c)) ∗ owing (F := F) c)
abbrev tcPost (c : Dev nD) : sProp 𝕄 :=
  iprop((a0Loc c ↦{fullShare} m (a0Loc c)) ∗ (a1Loc c ↦{fullShare} m (a1Loc c))
    ∗ (xLoc c ↦{fullShare} (MEANS (arg0 m c) (arg1 m c) : Buf (Elt F) (xLoc c)))
    ∗ (pLoc c ↦{fullShare} (PARAMS (arg0 m c) (arg1 m c) : Buf (Elt F) (pLoc c))) ∗ owing (F := F) c)

set_option backward.isDefEq.respectTransparency.types false in
theorem tc_call [∀ e, Nonempty (Elt F e)] (d : Dev nD) (Q : PUnit → sProp 𝕄) :
    iprop((iprop(boundary (d.tc : Thread nD τ) ∗ tcPost m d) -∗ |={Set.univ}=> Q ⟨⟩)
        ∗ boundary (d.tc : Thread nD τ) ∗ tcPre m d ∗ levAts (K (F := F)).L (K (F := F)).lev ∗ G (F := F) d)
      ⊢ wp frame (wpE ((K (F := F)).defs (D (F := F))) 𝒱 (d.tc : Thread nD τ) none) Set.univ
          (SparseCore.liftProg (Prog.lift (.customCall (Pipeline.entry 0) ()) : Prog (TpuEff nD τ sig (Elt F) (ΛP (F := F)) .tc) PUnit)) Q := by
  refine BIBase.Entails.trans ?_ ((K (F := F)).wp_liftProg (D (F := F)) 𝒱 (d.tc : Thread nD τ) Set.univ none _ Q)
  refine BIBase.Entails.trans ?_ (Pipeline.RDat.RegionSeg.wp (pcfgs (F := F)) adm (rdats m) none pinj EP defs₀ 𝒱₀ (K (F := F)).L (K (F := F)).lev (reg m) d none
    (fun u hu => nomatch hu) _ Q)
  simp only [wp_ret]
  exact .rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, main_eq, wp_bind]
  iintro ⟨#Hctx, Hst, ⟨Hb, ⟨Ha0, Ha1, Hx, Hp, Ho, Hh⟩, Hts, -⟩, HG⟩
  ihave Hlev := (SparseCore.Cfg.ctx_levAts κ) $$ Hctx
  ihave Hst := (BIBase.Entails.of_eq (show (K (F := F)).tcSt (EH : Emb UH 𝕄) d 0 = iprop(owing (F := F) d ∗ _) from rfl)) $$ Hst
  icases Hst with ⟨Hw, Hst⟩
  iapply (tc_call m d _)
  isplitr [Hb Ha0 Ha1 Hx Hp Hw Hlev HG]; swap
  · isplitl [Hb]; · iexact Hb
    isplitl [Ha0 Ha1 Hx Hp Hw]
    · isplitl [Ha0]; · iexact Ha0
      isplitl [Ha1]; · iexact Ha1
      isplitl [Hx]; · iexact Hx
      isplitl [Hp]; · iexact Hp
      iexact Hw
    isplitl [Hlev]; · iexact Hlev
    iexact HG
  iintro ⟨Hb, Ha0, Ha1, Hx, Hp, Hw⟩
  imodintro
  iapply (wp_seq (𝒱 := 𝒱) (bd := none) (E := Set.univ) d hostSet (fun _ => (K (F := F)).run d 0) (hostOps (F := F)) hostOps_sub hostOps_fresh (V0 m d)) $$ [Hb Hh]
  · isplitl [Hb]; · iexact Hb
    iexact Hh
  iintro ⟨Hb, Hh⟩
  ihave Hh := (BIBase.Entails.of_eq ((held_host (F := F) d _).trans (by rw [held_v8, after_v8]))) $$ Hh
  icases Hh with ⟨Ht, -⟩
  iapply ((K (F := F)).wp_run (D (F := F)) 𝒱 (EH := EH) (P := PP m) κ d 0) $$ [Hst Hw Ha0 Ha1 Hx Hp Ht Ho Hb Hts]
  isplitr; · iexact Hctx
  isplitl [Hst Hw]
  · iapply (BIBase.Entails.of_eq (show iprop(owing (F := F) d ∗ _) = (K (F := F)).tcSt (EH : Emb UH 𝕄) d 0 from rfl)) $$ [Hst Hw]
    isplitl [Hw]; · iexact Hw
    iexact Hst
  isplitl [Hx Hp Ht Ho]
  · rw [st0_eq]
    isplitl [Hx Hp Ht]
    · isplitl [Hx]; · iexact Hx
      isplitl [Hp]; · iexact Hp
      iexact Ht
    iexact Ho
  iintro ⟨Hst, Hdn⟩
  ihave Hdn := (BIBase.Entails.of_eq (dn0_eq _ _ _ _ d)) $$ Hdn
  icases Hdn with ⟨-, Ho⟩
  isplitl [Hst]; · iexact Hst
  isplitr [Hb Hts]
  · isplitl [Ha0]; · iexact Ha0
    isplitl [Ha1]; · iexact Ha1
    iexact Ho
  isplitl [Hb]; · iexact Hb
  iexact Hts

def fq (d : Dev nD) (s' : Phys nD τ sig (Elt F)) : Prop :=
  s'.mem.mem (a0Loc d) = m (a0Loc d) ∧ s'.mem.mem (a1Loc d) = m (a1Loc d) ∧ s'.mem.mem (oLoc d) = (RES m d : Buf (Elt F) (oLoc d))

set_option maxRecDepth 16384 in
theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := oLoc d) (I := Finset.univ) (q := fullShare) (f := (RES m d : Buf (Elt F) (oLoc d)))) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r =>
  (∀ d : Dev nD, r.2.mem (a0Loc d) = m (a0Loc d) ∧ r.2.mem (a1Loc d) = m (a1Loc d) ∧ r.2.mem (oLoc d) = (RES m d : Buf (Elt F) (oLoc d)))
    ∧ r.2.sem = fun _ => 0

/-- The program runs, its arguments kept and its result at the entropies of the means, where every value's bin is one
    of the thirty-two and the counts convert back exactly. -/
theorem run_main [∀ e, Nonempty (Elt F e)]
    (hb : ∀ d, ∀ j < 48, ∀ r < 64, ∀ c < 128, binAt (MEANS (arg0 m d) (arg1 m d)) (PARAMS (arg0 m d) (arg1 m d)) j r c < 32)
    (hcw : ∀ n ≤ 64, FloatOps.fptosi 32 (cw n : F .f32) = BitVec.ofNat 32 n) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts hb hcw)
    (fun q _ => match q with | 0 => SparseCore.Cfg.VecSplit.of_plain (vecSplit _ _ _ _))
    m ρ main (G (F := F)) (FIN m) (u₀ (F := F)) (sep_elim_left.trans (hu₀ m)) (hmain m ρ) (fq m) (hfin m) (QC m) (fun _ h hz => ⟨h, hz⟩)

end Cert.Proof.Tc

end
-- ==== Proof.Val.Kernel.lean ====
/-
  The kernel's result at a column, over the extended reals: its bins, its counts, its table and its entropy.
-/
module

public import proofs.«01_k».proof.Proof.Val.MinMax
public import proofs.«01_k».proof.Proof.Tc.Main

@[expose] public section

noncomputable section

namespace Cert.Proof.Val

open Idealize.ShloMosaic
open Cert.KernelIdeal Cert.KernelIdeal.Gen Cert.Proof.Tc
open Cert.Proof.Sc (bin xblk scl nrm binAt cw cnt tabAt eacc outC OUT)

theorem one_f32 : Ideal.ofBits .f32 0x3F800000#32 = ((1 : ℝ) : EReal) := by
  rw [Ideal.ofBits_one_f32]; rfl

/-- Adding one `n` times gives `n`. -/
theorem cw_eq (n : ℕ) : (cw n : Ideal .f32) = ((n : ℝ) : EReal) := by
  induction n with
  | zero => show Ideal.ofBits .f32 0x00000000#32 = _; rw [Ideal.ofBits_zero_f32]; simp
  | succ n ih =>
    show (cw n : Ideal .f32) + Ideal.ofBits .f32 0x3F800000#32 = _
    rw [ih, one_f32, ← EReal.coe_add, Nat.cast_succ]

theorem cw_word (n : ℕ) (hn : n ≤ 64) : FloatOps.fptosi 32 (cw n : Ideal .f32) = BitVec.ofNat 32 n := by
  rw [cw_eq]
  refine (fptosi_nonneg (n : ℝ) (Nat.cast_nonneg n)).trans ?_
  rw [Nat.floor_natCast]
  congr 1
  omega

variable (a : A0.Idx → EReal) (b : A1.Idx → EReal)

/-- The bin that the kernel finds at row `r` of block `j`, column `c`. -/
theorem binAt_eq (j r c : ℕ) (hj : j < 48) (hr : r < 64) (hc : c < 128) :
    binAt (F := Ideal) (MEANS (F := Ideal) a b) (PARAMS (F := Ideal) a b) j r c
      = kb (lo a b) (hi a b) (X a b ⟨r, hr⟩ ⟨128 * j + c, by omega⟩) := by
  have hx : xblk (F := Ideal) (MEANS (F := Ideal) a b) j (Cert.Proof.Sc.ix2 r c) = X a b ⟨r, hr⟩ ⟨128 * j + c, by omega⟩ := by
    refine (MEANS_apply a b _).trans ?_
    congr 1
    · apply Fin.ext
      show r % 64 = r
      omega
    · apply Fin.ext
      show 128 * (j % 48) + c % 128 = 128 * j + c
      rw [Nat.mod_eq_of_lt hj, Nat.mod_eq_of_lt hc]
  have hs : ∀ x, scl (F := Ideal) (PARAMS (F := Ideal) a b) x = Ideal.div ((32 : ℝ) : EReal) (hi a b - lo a b) := by
    intro x
    refine Eq.trans (congrArg (PARAMS (F := Ideal) a b) ?_) (PARAMS_scale a b (x 0))
    funext y; match y with | ⟨0, _⟩ => rfl | ⟨1, _⟩ => rfl
  have hn : ∀ x, nrm (F := Ideal) (PARAMS (F := Ideal) a b) x = lo a b * Ideal.div ((32 : ℝ) : EReal) (hi a b - lo a b) := by
    intro x
    refine congrArg₂ (fun x y : EReal => x * y) ?_ (hs x)
    refine Eq.trans (congrArg (PARAMS (F := Ideal) a b) ?_) (PARAMS_lo a b (x 0))
    funext y; match y with | ⟨0, _⟩ => rfl | ⟨1, _⟩ => rfl
  unfold binAt bin
  rw [hx, hs, hn]
  rfl

/-- Every bin is one of the 32. -/
theorem binAt_lt (j r c : ℕ) (hj : j < 48) (hr : r < 64) (hc : c < 128) :
    binAt (F := Ideal) (MEANS (F := Ideal) a b) (PARAMS (F := Ideal) a b) j r c < 32 := by
  rw [binAt_eq a b j r c hj hr hc]
  exact kb_lt _ _ _ (lo_le a b _ _) (le_hi a b _ _)

/-! ## The table and the entropy -/

theorem TAB_eq (k : ℕ) (hk : k ≤ 64) : tabAt (TAB (F := Ideal)) k = (((k : ℝ) * Real.log k : ℝ) : EReal) := by
  have hi : ∀ i : S80.Idx, iota80 (F := Ideal) i = (((i 0).val : ℝ) : EReal) := by
    intro i
    have h80 : (i 0).val < 80 := (i 0).isLt
    show (((BitVec.ofNat 32 (i 0).val).toInt : ℝ) : EReal) = _
    have : (BitVec.ofNat 32 (i 0).val).toInt = ((i 0).val : ℤ) := by
      have h1 : (BitVec.ofNat 32 (i 0).val).toNat = (i 0).val := by
        rw [BitVec.toNat_ofNat]
        exact Nat.mod_eq_of_lt (by omega)
      rw [BitVec.toInt_eq_toNat_cond, h1]
      rw [if_pos (by omega)]
    rw [this]; norm_cast
  have hk80 : k % 80 = k := Nat.mod_eq_of_lt (by omega)
  obtain ⟨I, hI0, hI⟩ : ∃ I : S80.Idx, (I 0).val = k ∧ tabAt (TAB (F := Ideal)) k = TAB (F := Ideal) I := ⟨_, hk80, rfl⟩
  rw [hI]
  have hI' := hi I
  rw [hI0] at hI'
  have hcmp : cmpf (F := Ideal) .ole (iota80 (F := Ideal)) (broadcastInDim S80 ![] bcast_S_S80 (constant S_ .f32 0x42800000#32)) I = 1#1 := by
    show BitVec.ofBool (decide (iota80 (F := Ideal) I ≤ Ideal.ofBits .f32 0x42800000#32)) = 1#1
    rw [hI', ofBits_64, decide_eq_true]
    · rfl
    · exact EReal.coe_le_coe_iff.mpr (by exact_mod_cast hk)
  have : TAB (F := Ideal) I = iota80 (F := Ideal) I * Ideal.log (max (iota80 (F := Ideal) I) (Ideal.ofBits .f32 0x3F800000#32)) := by
    unfold TAB
    refine (if_pos hcmp).trans ?_
    rfl
  rw [this, hI', one_f32, ← EReal.coe_strictMono.monotone.map_max]
  have hpos : (0 : ℝ) < max (k : ℝ) 1 := lt_max_of_lt_right one_pos
  rw [Ideal.log_coe, if_neg (not_le.mpr hpos), ← EReal.coe_mul]
  refine EReal.coe_eq_coe_iff.mpr ?_
  rcases Nat.eq_zero_or_pos k with rfl | h
  · simp
  · rw [max_eq_left (by exact_mod_cast h)]

theorem cnt_le (f : ℕ → ℕ → ℕ) (b c n : ℕ) : cnt f b c n ≤ n := by
  unfold cnt
  exact (Finset.card_filter_le _ _).trans (by simp)

theorem eacc_eq (f : ℕ → ℕ → ℕ) (p c m : ℕ) : eacc f (TAB (F := Ideal)) p c m
    = ((∑ j ∈ Finset.range m, ((cnt f (2 * j + p) c 64 : ℕ) : ℝ) * Real.log (cnt f (2 * j + p) c 64) : ℝ) : EReal) := by
  induction m with
  | zero => show Ideal.ofBits .f32 0x00000000#32 = _; rw [Ideal.ofBits_zero_f32]; simp
  | succ m ih =>
    show eacc f (TAB (F := Ideal)) p c m + tabAt (TAB (F := Ideal)) (cnt f (2 * m + p) c 64) = _
    rw [ih, TAB_eq _ (cnt_le _ _ _ _), ← EReal.coe_add, Finset.sum_range_succ]

theorem outC_eq (f : ℕ → ℕ → ℕ) (c : ℕ) : outC f (TAB (F := Ideal)) c
    = ((Real.log 64 - (∑ b : Fin 32, ((cnt f b.val c 64 : ℕ) : ℝ) * Real.log (cnt f b.val c 64)) * (1 / 64) : ℝ) : EReal) := by
  show (Named.named Cert.KernelIdeal.κ "log_batch" 0x40851592#32 : Ideal .f32)
    - (eacc f (TAB (F := Ideal)) 0 c 16 + eacc f (TAB (F := Ideal)) 1 c 16) * Ideal.ofBits .f32 0x3C800000#32 = _
  have hn : (Named.named Cert.KernelIdeal.κ "log_batch" 0x40851592#32 : Ideal .f32) = ((Real.log 64 : ℝ) : EReal) := by
    rfl
  rw [hn, eacc_eq, eacc_eq, ofBits_inv64, ← EReal.coe_add, ← EReal.coe_mul, ← EReal.coe_sub]
  refine EReal.coe_eq_coe_iff.mpr ?_
  rw [← even_odd fun b => ((cnt f b c 64 : ℕ) : ℝ) * Real.log (cnt f b c 64)]
  rfl

/-- The number of samples that column `T` has in the reference's bin `b`. -/
def hist (T : Fin 6144) (b' : Fin 32) : ℕ := (Finset.univ.filter fun s : Fin 64 => rb (lo a b) (hi a b) (X a b s T) = b'.val).card

theorem hist_sum (h : ∀ s T, rb (lo a b) (hi a b) (X a b s T) < 32) (T : Fin 6144) : ∑ b', hist a b T b' = 64 := by
  unfold hist
  have := Finset.card_eq_sum_card_fiberwise (s := (Finset.univ : Finset (Fin 64))) (t := (Finset.univ : Finset (Fin 32)))
    (f := fun s => (⟨rb (lo a b) (hi a b) (X a b s T), h s T⟩ : Fin 32)) (fun _ _ => Finset.mem_univ _)
  rw [Finset.card_univ, Fintype.card_fin] at this
  refine Eq.trans ?_ this.symm
  refine Finset.sum_congr rfl fun b' _ => congrArg Finset.card (Finset.filter_congr fun s _ => ?_)
  exact (Fin.ext_iff (a := (⟨rb (lo a b) (hi a b) (X a b s T), h s T⟩ : Fin 32)) (b := b')).symm

theorem cnt_eq_hist (heq : ∀ s T, kb (lo a b) (hi a b) (X a b s T) = rb (lo a b) (hi a b) (X a b s T)) (T : Fin 6144) (b' : Fin 32) :
    cnt (binAt (F := Ideal) (MEANS (F := Ideal) a b) (PARAMS (F := Ideal) a b) (T.val / 128)) b'.val (T.val % 128) 64 = hist a b T b' := by
  unfold cnt hist
  refine Finset.card_bij' (i := fun r h => (⟨r, Finset.mem_range.mp (Finset.mem_filter.mp h).1⟩ : Fin 64)) (j := fun s _ => s.val) ?_ ?_ ?_ ?_
  · intro r h
    have h64 : r < 64 := Finset.mem_range.mp (Finset.mem_filter.mp h).1
    have h2 := (Finset.mem_filter.mp h).2
    rw [binAt_eq a b _ r _ (by omega) h64 (by omega), heq] at h2
    refine Finset.mem_filter.mpr ⟨Finset.mem_univ _, ?_⟩
    refine Eq.trans ?_ h2
    congr 2
    exact Fin.ext (by show T.val = 128 * (T.val / 128) + T.val % 128; omega)
  · intro s h
    have h2 := (Finset.mem_filter.mp h).2
    refine Finset.mem_filter.mpr ⟨Finset.mem_range.mpr s.isLt, ?_⟩
    rw [binAt_eq a b _ s.val _ (by omega) s.isLt (by omega), heq, ← h2]
    congr 2
    exact Fin.ext (by show 128 * (T.val / 128) + T.val % 128 = T.val; omega)
  · intro r h; rfl
  · intro s h; rfl

/-- The kernel's result: the entropy of the reference's histogram. -/
theorem OUT_eq (h : ∀ s T, rb (lo a b) (hi a b) (X a b s T) < 32)
    (heq : ∀ s T, kb (lo a b) (hi a b) (X a b s T) = rb (lo a b) (hi a b) (X a b s T)) (T : Fin 6144) :
    OUT (F := Ideal) (MEANS (F := Ideal) a b) (PARAMS (F := Ideal) a b) (TAB (F := Ideal)) (ix1 T) = refEnt (hist a b T) := by
  rw [refEnt_eq _ (hist_sum a b h T)]
  show outC (binAt (F := Ideal) (MEANS (F := Ideal) a b) (PARAMS (F := Ideal) a b) (T.val / 128)) (TAB (F := Ideal)) (T.val % 128) = _
  rw [outC_eq]
  simp only [cnt_eq_hist a b heq T]

end Cert.Proof.Val

end
-- ==== Proof.Val.Ref.lean ====
/-
  The reference's result at a column: the entropy of the histogram that its comparisons with the bin edges count.
-/
module

public import proofs.«01_k».proof.Proof.Gen.ReferenceIdeal.Run
public import proofs.«01_k».proof.Proof.Val.Kernel
public import Idealize.ShloMosaic.Lib.IndicatorCount

@[expose] public section

noncomputable section

namespace Cert.Proof.Val

open Idealize.ShloMosaic Idealize.ShloMosaic.TcCoe
open Cert.ReferenceIdeal Cert.ReferenceIdeal.Gen

/-! ## The reference's steps -/

/-- The thirty-three edges. -/
def EDG (l h : FVec Ideal S_ .f32) : FVec Ideal S33 .f32 :=
  concatenate S33 0 [⟨S32, (addf (F := Ideal) (φ := .f32) (mulf (broadcastInDim S32 ![0] bcast_S1_S32_0 (shapeCast S1 l shapeCasts_S_S1)) (subf (broadcastInDim S32 ![] bcast_S_S32 (constant S_ .f32 0x3F800000#32)) (Host.divf (sitofp .f32 (iotaInDim S32 32 0)) (broadcastInDim S32 ![] bcast_S_S32 (constant S_ .f32 0x42000000#32))))) (mulf (broadcastInDim S32 ![0] bcast_S1_S32_0 (shapeCast S1 h shapeCasts_S_S1)) (Host.divf (sitofp .f32 (iotaInDim S32 32 0)) (broadcastInDim S32 ![] bcast_S_S32 (constant S_ .f32 0x42000000#32)))))⟩, ⟨S1, (broadcastInDim S1 ![] bcast_S_S1 h)⟩] concatenates_S32_S1_S33_d0

/-- The number of edges below each mean. -/
def BEL (M : FVec Ideal S64x6144 .f32) (E : FVec Ideal S33 .f32) : IVec S64x6144 32 :=
  Host.reduce IntOp.addi (extui 32 (cmpf .olt (broadcastInDim S64x6144x33 ![0, 1, 2] bcast_S1x1x33_S64x6144x33_0_1_2 (broadcastInDim S1x1x33 ![2] bcast_S33_S1x1x33_2 E)) (broadcastInDim S64x6144x33 ![0, 1, 2] bcast_S64x6144x1_S64x6144x33_0_1_2 (broadcastInDim S64x6144x1 ![0, 1] bcast_S64x6144_S64x6144x1_0_1 M))) natLt_1_32) (constantI S_ 32 0#32) reducesTo_S64x6144x33_S64x6144_d2 h_S_

/-- The bins. -/
def IDX (B : IVec S64x6144 32) : IVec S64x6144 32 :=
  minsi (broadcastInDim S64x6144 ![] bcast_S_S64x6144 (id (constantI S_ 32 31#32))) (maxsi (broadcastInDim S64x6144 ![] bcast_S_S64x6144 (id (constantI S_ 32 0#32))) (subi B (broadcastInDim S64x6144 ![] bcast_S_S64x6144 (constantI S_ 32 1#32))))

/-- The counts, as integers and as floats. -/
def CNTI (I : IVec S64x6144 32) : IVec S6144x32 32 :=
  Host.reduce IntOp.addi (extui 32 (cmpi .eq (broadcastInDim S64x6144x32 ![0, 1, 2] bcast_S64x6144x1_S64x6144x32_0_1_2 (broadcastInDim S64x6144x1 ![0, 1] bcast_S64x6144_S64x6144x1_0_1 I)) (broadcastInDim S64x6144x32 ![0, 1, 2] bcast_S1x1x32_S64x6144x32_0_1_2 (broadcastInDim S1x1x32 ![2] bcast_S32_S1x1x32_2 (iotaInDim S32 32 0)))) natLt_1_32) (constantI S_ 32 0#32) reducesTo_S64x6144x32_S6144x32_d0 h_S_
def CNTF (I : IVec S64x6144 32) : FVec Ideal S6144x32 .f32 := sitofp .f32 (CNTI I)

/-- The probabilities. -/
def PRB (C : FVec Ideal S6144x32 .f32) : FVec Ideal S6144x32 .f32 :=
  Host.divf C (broadcastInDim S6144x32 ![0, 1] bcast_S6144x1_S6144x32_0_1 (maximumf (broadcastInDim S6144x1 ![] bcast_S_S6144x1 (id (constant S_ .f32 0x2B8CBCCC#32))) (broadcastInDim S6144x1 ![0] bcast_S6144_S6144x1_0 (Host.reduceAdd C (constant S_ .f32 0x00000000#32) reducesTo_S6144x32_S6144_d1 h_S_))))

/-- The entropies. -/
def ENT (P : FVec Ideal S6144x32 .f32) : FVec Ideal S6144 .f32 :=
  Host.negf (Host.reduceAdd (mulf P (Host.log (maximumf (broadcastInDim S6144x32 ![] bcast_S_S6144x32 (id (constant S_ .f32 0x2B8CBCCC#32))) P))) (constant S_ .f32 0x00000000#32) reducesTo_S6144x32_S6144_d1 h_S_)

set_option maxRecDepth 8192 in
theorem res_eq (m : (ℓ : Loc nD τ sig) → Buf (Elt Ideal) ℓ) (c : Dev nD) :
    Cert.ReferenceIdeal.Value.res_main_v38 (F := Ideal) m c
      = ENT (PRB (CNTF (IDX (BEL (HM (m ((c.tc : Thread nD τ).loc main_arg0)) (m ((c.tc : Thread nD τ).loc main_arg1)))
          (EDG (HMN (HM (m ((c.tc : Thread nD τ).loc main_arg0)) (m ((c.tc : Thread nD τ).loc main_arg1))))
            (HMX (HM (m ((c.tc : Thread nD τ).loc main_arg0)) (m ((c.tc : Thread nD τ).loc main_arg1))))))))) := rfl

/-! ## Each at an index -/

theorem iota_real (n : ℕ) (hn : n < 2 ^ 31) : (((BitVec.ofNat 32 n).toInt : ℝ) : EReal) = ((n : ℝ) : EReal) := by
  have h1 : (BitVec.ofNat 32 n).toNat = n := by
    rw [BitVec.toNat_ofNat]
    exact Nat.mod_eq_of_lt (by omega)
  have : (BitVec.ofNat 32 n).toInt = (n : ℤ) := by
    rw [BitVec.toInt_eq_toNat_cond, h1, if_pos (by omega)]
  rw [this]; norm_cast

theorem EDG_apply (l h : FVec Ideal S_ .f32) (k : Fin 33) : EDG l h (ix1 k) = edge (l ix0) (h ix0) k.val := by
  unfold EDG edge
  split
  · rename_i hk
    refine (concatenate_pair_apply_left (s₁ := S32) (s₂ := S1) (t := S33) 0 _ _ _ (ix1 k) rfl (ix1 (n0 := 32) ⟨k.val, hk⟩) (by intro b; match b with | ⟨0, _⟩ => rfl)).trans ?_
    have hl : ∀ v : FVec Ideal S_ .f32, broadcastInDim S32 ![0] bcast_S1_S32_0 (shapeCast S1 v shapeCasts_S_S1) (ix1 (n0 := 32) ⟨k.val, hk⟩) = v ix0 := fun v => congrArg v (funext fun x => x.elim0)
    have hd : Host.divf (F := Ideal) (φ := .f32) (sitofp .f32 (iotaInDim S32 32 0)) (broadcastInDim S32 ![] bcast_S_S32 (constant S_ .f32 0x42000000#32)) (ix1 (n0 := 32) ⟨k.val, hk⟩)
        = ((k.val : ℝ) : EReal) * ((1 / 32 : ℝ) : EReal) := by
      show Ideal.div (((BitVec.ofNat 32 k.val).toInt : ℝ) : EReal) (Ideal.ofBits .f32 0x42000000#32) = _
      rw [ofBits_32, iota_real _ (by omega), Ideal.div_coe (by norm_num)]
    refine congrArg₂ (fun x y : EReal => x + y) (congrArg₂ (fun x y : EReal => x * y) (hl l) (congrArg₂ (fun x y : EReal => x - y) ?_ hd)) (congrArg₂ (fun x y : EReal => x * y) (hl h) hd)
    exact Ideal.ofBits_one_f32
  · rename_i hk
    refine (concatenate_pair_apply_right (s₁ := S32) (s₂ := S1) (t := S33) 0 _ _ _ (ix1 k) rfl rfl (ix1 (n0 := 1) 0) (by intro b hb; match b with | ⟨0, _⟩ => exact absurd rfl hb) (by show 0 + 32 = k.val; omega)).trans ?_
    exact congrArg h (funext fun x => x.elim0)

theorem BEL_apply (M : FVec Ideal S64x6144 .f32) (E : FVec Ideal S33 .f32) (s : Fin 64) (T : Fin 6144) :
    BEL M E (ix2 s T) = BitVec.ofNat 32 (Finset.univ.filter fun k : Fin 33 => (E (ix1 k) : EReal) < M (ix2 s T)).card := by
  unfold BEL
  rw [Host.reduce_eq_fold, Shape.ReducesTo.fold_fiber_r3_a2]
  refine Eq.trans ?_ ((IndicatorCount.fold_addi_setWidth_eq_card (w := 32) (fun k : Fin 33 => BitVec.ofBool (decide ((E (ix1 k) : EReal) < M (ix2 s T)))) Finset.univ).trans ?_)
  · refine congrArg₂ (fun (a : BitVec 32) f => Finset.fold IntOp.addi a f Finset.univ) rfl (funext fun k => ?_)
    refine congrArg (fun b : Bool => (BitVec.ofBool b).setWidth 32) ?_
    have e1 : broadcastInDim S64x6144x33 ![0, 1, 2] bcast_S1x1x33_S64x6144x33_0_1_2 (broadcastInDim S1x1x33 ![2] bcast_S33_S1x1x33_2 E) (ix3 s T k) = E (ix1 k) :=
      congrArg E (funext fun x => match x with | ⟨0, _⟩ => rfl)
    have e2 : broadcastInDim S64x6144x33 ![0, 1, 2] bcast_S64x6144x1_S64x6144x33_0_1_2 (broadcastInDim S64x6144x1 ![0, 1] bcast_S64x6144_S64x6144x1_0_1 M) (ix3 s T k) = M (ix2 s T) :=
      congrArg M (funext fun x => match x with | ⟨0, _⟩ => rfl | ⟨1, _⟩ => rfl)
    exact congrArg₂ (fun x y : EReal => decide (x < y)) e1 e2
  · refine congrArg (fun n => BitVec.ofNat 32 n) (congrArg Finset.card (Finset.filter_congr fun k _ => ?_))
    by_cases h : (E (ix1 k) : EReal) < M (ix2 s T) <;> simp [h]

theorem CNTI_apply (I : IVec S64x6144 32) (T : Fin 6144) (b : Fin 32) :
    CNTI I (ix2 T b) = BitVec.ofNat 32 (Finset.univ.filter fun s : Fin 64 => I (ix2 s T) = BitVec.ofNat 32 b.val).card := by
  unfold CNTI
  rw [Host.reduce_eq_fold, Shape.ReducesTo.fold_fiber_r3_a0]
  refine Eq.trans ?_ ((IndicatorCount.fold_addi_setWidth_eq_card (w := 32) (fun s : Fin 64 => BitVec.ofBool (decide (I (ix2 s T) = BitVec.ofNat 32 b.val))) Finset.univ).trans ?_)
  · refine congrArg₂ (fun (a : BitVec 32) f => Finset.fold IntOp.addi a f Finset.univ) rfl (funext fun s => ?_)
    refine congrArg (fun b : Bool => (BitVec.ofBool b).setWidth 32) ?_
    have e1 : broadcastInDim S64x6144x32 ![0, 1, 2] bcast_S64x6144x1_S64x6144x32_0_1_2 (broadcastInDim S64x6144x1 ![0, 1] bcast_S64x6144_S64x6144x1_0_1 I) (ix3 s T b) = I (ix2 s T) :=
      congrArg I (funext fun x => match x with | ⟨0, _⟩ => rfl | ⟨1, _⟩ => rfl)
    have e2 : broadcastInDim S64x6144x32 ![0, 1, 2] bcast_S1x1x32_S64x6144x32_0_1_2 (broadcastInDim S1x1x32 ![2] bcast_S32_S1x1x32_2 (iotaInDim S32 32 0)) (ix3 s T b) = BitVec.ofNat 32 b.val := rfl
    exact (congrArg₂ (fun x y : BitVec 32 => x == y) e1 e2).trans (Bool.beq_eq_decide_eq _ _)
  · refine congrArg (fun n => BitVec.ofNat 32 n) (congrArg Finset.card (Finset.filter_congr fun s _ => ?_))
    by_cases h : I (ix2 s T) = BitVec.ofNat 32 b.val <;> simp [h]

theorem CNTF_apply (I : IVec S64x6144 32) (T : Fin 6144) (b : Fin 32) :
    CNTF I (ix2 T b) = (((Finset.univ.filter fun s : Fin 64 => I (ix2 s T) = BitVec.ofNat 32 b.val).card : ℝ) : EReal) := by
  show (((CNTI I (ix2 T b)).toInt : ℝ) : EReal) = _
  rw [CNTI_apply, iota_real]
  have : (Finset.univ.filter fun s : Fin 64 => I (ix2 s T) = BitVec.ofNat 32 b.val).card ≤ 64 := (Finset.card_filter_le _ _).trans (by simp)
  omega

theorem IDX_apply (B : IVec S64x6144 32) (i : S64x6144.Idx) :
    IDX B i = IntOp.minsi 31#32 (IntOp.maxsi 0#32 (IntOp.subi (B i) 1#32)) := rfl

theorem floor_apply (R : FVec Ideal S6144 .f32) (T : Fin 6144) (b : Fin 32) :
    broadcastInDim S6144x32 ![0, 1] bcast_S6144x1_S6144x32_0_1 (maximumf (F := Ideal) (φ := .f32) (broadcastInDim S6144x1 ![] bcast_S_S6144x1 (id (constant S_ .f32 0x2B8CBCCC#32))) (broadcastInDim S6144x1 ![0] bcast_S6144_S6144x1_0 R)) (ix2 T b)
      = max tiny (R (ix1 T)) :=
  congrArg (fun x : EReal => max tiny x) (congrArg R (funext fun x => match x with | ⟨0, _⟩ => rfl))

theorem PRB_apply (C : FVec Ideal S6144x32 .f32) (k : Fin 32 → ℕ) (T : Fin 6144) (hC : ∀ b, C (ix2 T b) = ((k b : ℝ) : EReal)) (b : Fin 32) :
    PRB C (ix2 T b) = prob k b := by
  have hs : Host.reduceAdd (F := Ideal) C (constant S_ .f32 0x00000000#32) reducesTo_S6144x32_S6144_d1 h_S_ (ix1 T) = 0 + ∑ b, ((k b : ℝ) : EReal) := by
    refine (Ideal.hostReduceAdd_r2_a1 _ _ _ _).trans ?_
    refine congrArg₂ (fun x y : EReal => x + y) Ideal.ofBits_zero_f32 (Finset.sum_congr rfl fun b _ => hC b)
  unfold PRB prob
  refine (ValueIdx.hostDivf_apply _ _ _).trans (congrArg₂ Ideal.div (hC b) ?_)
  exact (floor_apply _ T b).trans (congrArg (fun x : EReal => max tiny x) hs)

theorem ENT_apply (P : FVec Ideal S6144x32 .f32) (k : Fin 32 → ℕ) (T : Fin 6144) (hP : ∀ b, P (ix2 T b) = prob k b) :
    ENT P (ix1 T) = refEnt k := by
  refine congrArg (fun x : EReal => -x) ?_
  refine (Ideal.hostReduceAdd_r2_a1 _ _ _ _).trans ?_
  refine congrArg₂ (fun x y : EReal => x + y) Ideal.ofBits_zero_f32 (Finset.sum_congr rfl fun b _ => ?_)
  exact congrArg₂ (fun x y : EReal => x * y) (hP b) (congrArg (fun x : EReal => Ideal.log (max tiny x)) (hP b))

theorem rb_lt (l h x : EReal) : rb l h x < 32 := by
  rw [rb_eq]; omega

/-- The reference's result at column `T`. -/
theorem ref_apply (a : A0.Idx → EReal) (b : A1.Idx → EReal) (T : Fin 6144) :
    ENT (PRB (CNTF (IDX (BEL (HM a b) (EDG (HMN (HM a b)) (HMX (HM a b))))))) (ix1 T) = refEnt (hist a b T) := by
  refine ENT_apply _ _ T fun b' => PRB_apply _ _ T (fun b' => ?_) b'
  refine (CNTF_apply _ T b').trans ?_
  refine congrArg (fun n : ℕ => ((n : ℝ) : EReal)) (congrArg Finset.card (Finset.filter_congr fun s _ => ?_))
  have e : IDX (BEL (HM a b) (EDG (HMN (HM a b)) (HMX (HM a b)))) (ix2 s T) = BitVec.ofNat 32 (rb (lo a b) (hi a b) (X a b s T)) := by
    rw [← rb_word, IDX_apply]
    refine congrArg (fun x : BitVec 32 => IntOp.minsi 31#32 (IntOp.maxsi 0#32 (IntOp.subi x 1#32))) ?_
    refine (BEL_apply _ _ s T).trans ?_
    unfold below
    refine congrArg (fun n => BitVec.ofNat 32 n) (congrArg Finset.card (Finset.filter_congr fun k _ => ?_))
    rw [EDG_apply, HM_apply, HMN_eq, HMX_eq]
  rw [e]
  have h1 := rb_lt (lo a b) (hi a b) (X a b s T)
  have h2 := b'.isLt
  constructor
  · intro h
    have := congrArg BitVec.toNat h
    rw [BitVec.toNat_ofNat, BitVec.toNat_ofNat, Nat.mod_eq_of_lt (by omega), Nat.mod_eq_of_lt (by omega)] at this
    exact this
  · intro h; rw [h]

end Cert.Proof.Val

end
-- ==== Proof.Val.Pre.lean ====
/-
  What the precondition says of the means.
-/
module

public import proofs.«01_k».proof.Proof.Val.Ref
public import proofs.«01_k».proof.Proof.Gen.Pre_means_off_edges

@[expose] public section

noncomputable section

namespace Cert.Proof.Val

open Idealize.ShloMosaic

section Off
open Cert.Pre_means_off_edges Cert.Pre_means_off_edges.Facts

/-- The precondition of an array of means, of the smallest and the largest of them and of the edges. -/
def OFF (M : FVec Ideal S64x6144 .f32) (l h : FVec Ideal S_ .f32) (E : FVec Ideal S33 .f32) : IVec S64x6144x31 1 :=
  ori (broadcastInDim S64x6144x31 ![] bcast_S_S64x6144x31 (cmpf (F := Ideal) .oeq l h))
    (cmpf (F := Ideal) .une (broadcastInDim S64x6144x31 ![0, 1, 2] bcast_S64x6144x1_S64x6144x31_0_1_2 (broadcastInDim S64x6144x1 ![0, 1] bcast_S64x6144_S64x6144x1_0_1 M))
      (broadcastInDim S64x6144x31 ![0, 1, 2] bcast_S1x1x31_S64x6144x31_0_1_2 (broadcastInDim S1x1x31 ![2] bcast_S31_S1x1x31_2 (extractStridedSlice S31 ![1] E slices_S33_S31_1))))

theorem OFF_apply (M : FVec Ideal S64x6144 .f32) (l h : FVec Ideal S_ .f32) (E : FVec Ideal S33 .f32) (s : Fin 64) (T : Fin 6144) (k : Fin 31) :
    OFF M l h E (ix3 s T k) = IntOp.ori (BitVec.ofBool (decide ((l ix0 : EReal) = h ix0)))
      (BitVec.ofBool (decide ((M (ix2 s T) : EReal) ≠ E (ix1 ⟨1 + k.val, by omega⟩)))) := by
  have e0 : ∀ v : FVec Ideal S_ .f32, ∀ i : S_.Idx, v i = v ix0 := fun v i => congrArg v (funext fun x => x.elim0)
  refine congrArg₂ IntOp.ori ?_ ?_
  · exact congrArg₂ (fun x y : EReal => BitVec.ofBool (decide (x = y))) (e0 l _) (e0 h _)
  · refine congrArg₂ (fun x y : EReal => BitVec.ofBool (decide (x ≠ y))) ?_ ?_
    · exact congrArg M (funext fun x => match x with | ⟨0, _⟩ => rfl | ⟨1, _⟩ => rfl)
    · exact congrArg E (funext fun x => match x with | ⟨0, _⟩ => rfl)

theorem fn_eq (a : A0.Idx → EReal) (b : A1.Idx → EReal) :
    fn (F := Ideal) a b = OFF (HM a b) (HMN (HM a b)) (HMX (HM a b)) (EDG (HMN (HM a b)) (HMX (HM a b))) := rfl

end Off

theorem or_eq_one (p q : Bool) (h : IntOp.ori (BitVec.ofBool p) (BitVec.ofBool q) = 1#1) : p = true ∨ q = true := by
  cases p
  · cases q
    · exact absurd h (by decide)
    · exact .inr rfl
  · exact .inl rfl

/-- The means are all equal, or none lies on an inner edge. -/
theorem off_edges (a : A0.Idx → EReal) (b : A1.Idx → EReal) (h : Cert.Pre_means_off_edges.fn (F := Ideal) a b = fun _ => 1#1)
    (s : Fin 64) (T : Fin 6144) (k : ℕ) (hk : 1 ≤ k) (hk' : k ≤ 31) :
    lo a b = hi a b ∨ X a b s T ≠ edge (lo a b) (hi a b) k := by
  rw [fn_eq] at h
  have h0 := (OFF_apply _ _ _ _ s T ⟨k - 1, by omega⟩).symm.trans (congrFun h (ix3 s T ⟨k - 1, by omega⟩))
  refine (or_eq_one _ _ h0).imp (fun h1 => ?_) (fun h2 => ?_)
  · have h1 := of_decide_eq_true h1
    rwa [HMN_eq, HMX_eq] at h1
  · have h2 := of_decide_eq_true h2
    rw [HM_apply, EDG_apply, HMN_eq, HMX_eq] at h2
    have h3 : X a b s T ≠ edge (lo a b) (hi a b) (1 + (k - 1)) := h2
    rwa [show 1 + (k - 1) = k by omega] at h3

/-- Where the means are all equal or none lies on an inner edge, the kernel's bins are the reference's. No mean is
    infinite in the second case: an infinite one would be an inner edge. -/
theorem bins_eq (a : A0.Idx → EReal) (b : A1.Idx → EReal) (h : Cert.Pre_means_off_edges.fn (F := Ideal) a b = fun _ => 1#1)
    (s : Fin 64) (T : Fin 6144) : kb (lo a b) (hi a b) (X a b s T) = rb (lo a b) (hi a b) (X a b s T) := by
  have h0 := lo_le a b s T
  have h1 := le_hi a b s T
  rcases (h0.trans h1).lt_or_eq with hlt | heq
  swap
  · rw [← heq] at h1 ⊢
    rw [le_antisymm h1 h0, kb_self, rb_self]
  have hne : ∀ s T k, 1 ≤ k → k ≤ 31 → X a b s T ≠ edge (lo a b) (hi a b) k := fun s T k hk hk' =>
    (off_edges a b h s T k hk hk').resolve_left hlt.ne
  obtain ⟨sl, Tl, el⟩ := lo_mem a b
  obtain ⟨sh, Th, eh⟩ := hi_mem a b
  have hl := hne sl Tl 1 le_rfl (by decide)
  have hu := hne sh Th 1 le_rfl (by decide)
  rw [el] at hl
  rw [eh] at hu
  have hx := hne s T
  generalize lo a b = l at *
  generalize hi a b = u at *
  generalize X a b s T = x at *
  induction l with
  | bot => exact absurd (edge_bot u 1 (by decide)).symm hl
  | top => exact absurd hlt (by simp)
  | coe l =>
    induction u with
    | bot => exact absurd hlt (by simp)
    | top => exact absurd (edge_top l 1 le_rfl (by decide)).symm hu
    | coe u =>
      induction x with
      | bot => exact absurd h0 (by simp)
      | top => exact absurd h1 (by simp)
      | coe x => exact kb_eq_rb l u x (EReal.coe_lt_coe_iff.mp hlt) (EReal.coe_le_coe_iff.mp h0) (EReal.coe_le_coe_iff.mp h1) hx

end Cert.Proof.Val

end
-- ==== Proof.lean ====
/-
  The proof of `Cert.Claim`: the kernel's frame and the reference's, of all arguments; and, where the means are all equal
  or none lies on an inner bin edge, the kernel's result is the reference's over the extended reals.
-/
module

public import proofs.«01_k».proof.Defs
public import proofs.«01_k».proof.Proof.Val.Pre
public import Idealize.ShloMosaic.Lib.Quiescent

@[expose] public section

noncomputable section

namespace Cert.Proof

open Idealize.ShloMosaic Idealize.ShloMosaic.TcCoe Idealize.SL.Sem
open Cert.Proof.Val Cert.Proof.Tc

instance elt_nonempty (e : EltTy) : Nonempty (Elt Ideal e) := by
  cases e <;> first | exact ⟨0#_⟩ | exact ⟨(0 : EReal)⟩

section Kernel
open Cert.KernelIdeal Cert.KernelIdeal.Gen

/-- The kernel's run: its arguments are kept, every counter ends at zero, and the result is `RES`. -/
theorem kernel_run (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (QC m) :=
  run_main m g (fun d j hj r hr c hc => binAt_lt _ _ j r c hj hr hc) cw_word

theorem kernel_frame_all (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r hr => ⟨fun c => ⟨(hr.1 c).1, (hr.1 c).2.1⟩, hr.2⟩) (kernel_run m g)

end Kernel

theorem kernel_frame : Cert.quiescent_KernelIdeal := fun m g _ => kernel_frame_all m g
theorem kernel_frame_off : Cert.quiescent_KernelIdeal_pre_means_off_edges := fun m g _ => kernel_frame_all m g

theorem reference_frame_all (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r hr => ⟨fun c => (hr c).2, sem_eq_zero_of_no_sems (by decide) _⟩) (Cert.ReferenceIdeal.Value.run m g)

theorem reference_frame : Cert.quiescent_ReferenceIdeal := fun m g _ => reference_frame_all m g
theorem reference_frame_off : Cert.quiescent_ReferenceIdeal_pre_means_off_edges := fun m g _ => reference_frame_all m g

/-- The kernel's result on a device is the reference's, where the precondition holds of its arguments. -/
theorem value_eq (a : A0.Idx → EReal) (b : A1.Idx → EReal) (h : Cert.Pre_means_off_edges.fn (F := Ideal) a b = fun _ => 1#1) :
    Cert.Proof.Sc.OUT (F := Ideal) (MEANS (F := Ideal) a b) (PARAMS (F := Ideal) a b) (TAB (F := Ideal))
      = ENT (PRB (CNTF (IDX (BEL (HM a b) (EDG (HMN (HM a b)) (HMX (HM a b))))))) := by
  funext i
  obtain ⟨T, rfl⟩ : ∃ T : Fin 6144, i = Idealize.ShloMosaic.ix1 T := ⟨i 0, eq_ix1 i⟩
  exact (OUT_eq a b (fun s T => rb_lt _ _ _) (bins_eq a b h) T).trans (ref_apply a b T).symm

theorem value : Cert.algebraic_KernelIdeal_ReferenceIdeal_pre_means_off_edges := by
  intro m g m' g' h hm
  refine ⟨fun c => RES m c, ?_, ?_⟩
  · exact (θ_run _ _ _).mono (fun r hr c => ⟨(hr.1 c).2.2, (hr.1 c).1, (hr.1 c).2.1⟩)
      (kernel_run m g)
  · refine (θ_run _ _ _).mono (fun r hr c => ⟨(hr c).1.trans ?_, (hr c).2⟩) (Cert.ReferenceIdeal.Value.run m' g')
    rw [res_eq, (hm c).1, (hm c).2]
    exact (value_eq _ _ (h c)).symm

theorem claim : Cert.Claim :=
  ⟨Cert.KernelIdeal.Gen.facts, Cert.ReferenceIdeal.Gen.facts, Cert.Pre_means_off_edges.Gen.facts,
    kernel_frame, kernel_frame_off, reference_frame, reference_frame_off, value⟩

end Cert.Proof

end
